-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdRefIdeal (m : (ℓ : Loc Cert.GeluBwdRefIdeal.nD Cert.GeluBwdRefIdeal.τ Cert.GeluBwdRefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1)
      ∧ r.2.mem ((c.tc : Thread Cert.Ff2Dw.nD Cert.Ff2Dw.τ).loc Cert.Ff2Dw.main_arg2) = m ((c.tc : Thread Cert.Ff2Dw.nD Cert.Ff2Dw.τ).loc Cert.Ff2Dw.main_arg2))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
      ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1)
      ∧ r.2.mem ((c.tc : Thread Cert.Ff2DwRefIdeal.nD Cert.Ff2DwRefIdeal.τ).loc Cert.Ff2DwRefIdeal.main_arg2) = m ((c.tc : Thread Cert.Ff2DwRefIdeal.nD Cert.Ff2DwRefIdeal.τ).loc Cert.Ff2DwRefIdeal.main_arg2))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6)
      ∧ r.2.mem ((c.tc : Thread Cert.Norm2BwdRefIdeal.nD Cert.Norm2BwdRefIdeal.τ).loc Cert.Norm2BwdRefIdeal.main_arg7) = m ((c.tc : Thread Cert.Norm2BwdRefIdeal.nD Cert.Norm2BwdRefIdeal.τ).loc Cert.Norm2BwdRefIdeal.main_arg7))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1)
      ∧ r.2.mem ((c.tc : Thread Cert.GeluBwd.nD Cert.GeluBwd.τ).loc Cert.GeluBwd.main_arg2) = m ((c.tc : Thread Cert.GeluBwd.nD Cert.GeluBwd.τ).loc Cert.GeluBwd.main_arg2)
      ∧ r.2.mem ((c.tc : Thread Cert.GeluBwd.nD Cert.GeluBwd.τ).loc Cert.GeluBwd.main_arg3) = m ((c.tc : Thread Cert.GeluBwd.nD Cert.GeluBwd.τ).loc Cert.GeluBwd.main_arg3)
      ∧ r.2.mem ((c.tc : Thread Cert.GeluBwd.nD Cert.GeluBwd.τ).loc Cert.GeluBwd.main_arg4) = m ((c.tc : Thread Cert.GeluBwd.nD Cert.GeluBwd.τ).loc Cert.GeluBwd.main_arg4))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3)
      ∧ r.2.mem ((c.tc : Thread Cert.GeluBwdIdeal.nD Cert.GeluBwdIdeal.τ).loc Cert.GeluBwdIdeal.main_arg4) = m ((c.tc : Thread Cert.GeluBwdIdeal.nD Cert.GeluBwdIdeal.τ).loc Cert.GeluBwdIdeal.main_arg4))
      ∧ r.2.sem = fun _ => 0)

def quiescent_GeluBwdRefIdeal [hGeluBwdRefIdeal : Cert.GeluBwdRefIdeal.Facts] : Prop :=
  ∀ (m : (ℓ : Loc Cert.GeluBwdRefIdeal.nD Cert.GeluBwdRefIdeal.τ Cert.GeluBwdRefIdeal.sig) → Buf (Elt Ideal) ℓ) (g : Dev Cert.GeluBwdRefIdeal.nD → PrngReg), Pre_GeluBwdRefIdeal m →
    θ_run (Cert.GeluBwdRefIdeal.defs (F := Ideal)) (onTc (τ := Cert.GeluBwdRefIdeal.τ) (Cert.GeluBwdRefIdeal.main (F := Ideal))) ⟨m, fun _ => 0, g⟩ (fun r => (∀ c : Dev Cert.GeluBwdRefIdeal.nD,
      r.2.mem ((c.tc : Thread Cert.GeluBwdRefIdeal.nD Cert.GeluBwdRefIdeal.τ).loc Cert.GeluBwdRefIdeal.main_arg0) = m ((c.tc : Thread Cert.GeluBwdRefIdeal.nD Cert.GeluBwdRefIdeal.τ).loc Cert.GeluBwdRefIdeal.main_arg0)
      ∧ r.2.mem ((c.tc : Thread Cert.GeluBwdRefIdeal.nD Cert.GeluBwdRefIdeal.τ).loc Cert.GeluBwdRefIdeal.main_arg1) = m ((c.tc : Thread Cert.GeluBwdRefIdeal.nD Cert.GeluBwdRefIdeal.τ).loc Cert.GeluBwdRefIdeal.main_arg1)
      ∧ r.2.mem ((c.tc : Thread Cert.GeluBwdRefIdeal.nD Cert.GeluBwdRefIdeal.τ).loc Cert.GeluBwdRefIdeal.main_arg2) = m ((c.tc : Thread Cert.GeluBwdRefIdeal.nD Cert.GeluBwdRefIdeal.τ).loc Cert.GeluBwdRefIdeal.main_arg2)
      ∧ r.2.mem ((c.tc : Thread Cert.GeluBwdRefIdeal.nD Cert.GeluBwdRefIdeal.τ).loc Cert.GeluBwdRefIdeal.main_arg3) = m ((c.tc : Thread Cert.GeluBwdRefIdeal.nD Cert.GeluBwdRefIdeal.τ).loc Cert.GeluBwdRefIdeal.main_arg3)
      ∧ r.2.mem ((c.tc : Thread Cert.GeluBwdRefIdeal.nD Cert.GeluBwdRefIdeal.τ).loc Cert.GeluBwdRefIdeal.main_arg4) = m ((c.tc : Thread Cert.GeluBwdRefIdeal.nD Cert.GeluBwdRefIdeal.τ).loc Cert.GeluBwdRefIdeal.main_arg4))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)) (v2 : (c : Dev Cert.KernelIdeal.nD) → Buf (Elt Ideal) ((c.tc : Thread Cert.KernelIdeal.nD Cert.KernelIdeal.τ).loc Cert.KernelIdeal.main_v111_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_v111_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_1)) (v1 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_1) = v0 c
          ∧ r.2.mem ((c.tc : Thread Cert.ActIdeal.nD Cert.ActIdeal.τ).loc Cert.ActIdeal.main_v1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_v22) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v2) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)
      ∧ m' ((c.tc : Thread Cert.Ff2DwRefIdeal.nD Cert.Ff2DwRefIdeal.τ).loc Cert.Ff2DwRefIdeal.main_arg2) = m ((c.tc : Thread Cert.Ff2DwIdeal.nD Cert.Ff2DwIdeal.τ).loc Cert.Ff2DwIdeal.main_arg2)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
          ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v6) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1)
          ∧ r.2.mem ((c.tc : Thread Cert.Ff2DwRefIdeal.nD Cert.Ff2DwRefIdeal.τ).loc Cert.Ff2DwRefIdeal.main_arg2) = m' ((c.tc : Thread Cert.Ff2DwRefIdeal.nD Cert.Ff2DwRefIdeal.τ).loc Cert.Ff2DwRefIdeal.main_arg2))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v2)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v2) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v6) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v10) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v1)) (v2 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v1) = v1 c
          ∧ r.2.mem ((c.tc : Thread Cert.ProjIdeal.nD Cert.ProjIdeal.τ).loc Cert.ProjIdeal.main_v2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_v8) = v1 c
          ∧ r.2.mem ((c.tc : Thread Cert.ProjRefIdeal.nD Cert.ProjRefIdeal.τ).loc Cert.ProjRefIdeal.main_v9) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)) →
    ∃ (v0 : (c : Dev Cert.ProjDxIdeal.nD) → Buf (Elt Ideal) ((c.tc : Thread Cert.ProjDxIdeal.nD Cert.ProjDxIdeal.τ).loc Cert.ProjDxIdeal.main_v0)) (v1 : (c : Dev Cert.ProjDxIdeal.nD) → Buf (Elt Ideal) ((c.tc : Thread Cert.ProjDxIdeal.nD Cert.ProjDxIdeal.τ).loc Cert.ProjDxIdeal.main_v1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_v1) = v1 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v8) = v0 c
          ∧ r.2.mem ((c.tc : Thread Cert.ProjDxRefIdeal.nD Cert.ProjDxRefIdeal.τ).loc Cert.ProjDxRefIdeal.main_v9) = v1 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v10) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v48) = v0 c
          ∧ r.2.mem ((c.tc : Thread Cert.Norm1BwdRefIdeal.nD Cert.Norm1BwdRefIdeal.τ).loc Cert.Norm1BwdRefIdeal.main_v31) = v1 c
          ∧ r.2.mem ((c.tc : Thread Cert.Norm1BwdRefIdeal.nD Cert.Norm1BwdRefIdeal.τ).loc Cert.Norm1BwdRefIdeal.main_v26) = v2 c
          ∧ r.2.mem ((c.tc : Thread Cert.Norm1BwdRefIdeal.nD Cert.Norm1BwdRefIdeal.τ).loc Cert.Norm1BwdRefIdeal.main_v23) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)
      ∧ m' ((c.tc : Thread Cert.Norm2BwdRefIdeal.nD Cert.Norm2BwdRefIdeal.τ).loc Cert.Norm2BwdRefIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v48) = v0 c
          ∧ r.2.mem ((c.tc : Thread Cert.Norm2BwdRefIdeal.nD Cert.Norm2BwdRefIdeal.τ).loc Cert.Norm2BwdRefIdeal.main_v56) = v1 c
          ∧ r.2.mem ((c.tc : Thread Cert.Norm2BwdRefIdeal.nD Cert.Norm2BwdRefIdeal.τ).loc Cert.Norm2BwdRefIdeal.main_v31) = v2 c
          ∧ r.2.mem ((c.tc : Thread Cert.Norm2BwdRefIdeal.nD Cert.Norm2BwdRefIdeal.τ).loc Cert.Norm2BwdRefIdeal.main_v26) = v3 c
          ∧ r.2.mem ((c.tc : Thread Cert.Norm2BwdRefIdeal.nD Cert.Norm2BwdRefIdeal.τ).loc Cert.Norm2BwdRefIdeal.main_v23) = v4 c
          ∧ r.2.mem ((c.tc : Thread Cert.Norm2BwdRefIdeal.nD Cert.Norm2BwdRefIdeal.τ).loc Cert.Norm2BwdRefIdeal.main_v55) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6)
          ∧ r.2.mem ((c.tc : Thread Cert.Norm2BwdRefIdeal.nD Cert.Norm2BwdRefIdeal.τ).loc Cert.Norm2BwdRefIdeal.main_arg7) = m' ((c.tc : Thread Cert.Norm2BwdRefIdeal.nD Cert.Norm2BwdRefIdeal.τ).loc Cert.Norm2BwdRefIdeal.main_arg7))

def preserves_GeluBwd_GeluBwdIdeal : Prop :=
  True

def algebraic_GeluBwdIdeal_GeluBwdRefIdeal [hGeluBwdIdeal : Cert.GeluBwdIdeal.Facts] [hGeluBwdRefIdeal : Cert.GeluBwdRefIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.GeluBwdRefIdeal.nD Cert.GeluBwdRefIdeal.τ Cert.GeluBwdRefIdeal.sig) → Buf (Elt Ideal) ℓ) (g' : Dev Cert.GeluBwdRefIdeal.nD → PrngReg), Pre_GeluBwdIdeal m →
    (∀ c : Dev Cert.GeluBwdIdeal.nD,
      m' ((c.tc : Thread Cert.GeluBwdRefIdeal.nD Cert.GeluBwdRefIdeal.τ).loc Cert.GeluBwdRefIdeal.main_arg0) = m ((c.tc : Thread Cert.GeluBwdIdeal.nD Cert.GeluBwdIdeal.τ).loc Cert.GeluBwdIdeal.main_arg0)
      ∧ m' ((c.tc : Thread Cert.GeluBwdRefIdeal.nD Cert.GeluBwdRefIdeal.τ).loc Cert.GeluBwdRefIdeal.main_arg1) = m ((c.tc : Thread Cert.GeluBwdIdeal.nD Cert.GeluBwdIdeal.τ).loc Cert.GeluBwdIdeal.main_arg1)
      ∧ m' ((c.tc : Thread Cert.GeluBwdRefIdeal.nD Cert.GeluBwdRefIdeal.τ).loc Cert.GeluBwdRefIdeal.main_arg2) = m ((c.tc : Thread Cert.GeluBwdIdeal.nD Cert.GeluBwdIdeal.τ).loc Cert.GeluBwdIdeal.main_arg2)
      ∧ m' ((c.tc : Thread Cert.GeluBwdRefIdeal.nD Cert.GeluBwdRefIdeal.τ).loc Cert.GeluBwdRefIdeal.main_arg3) = m ((c.tc : Thread Cert.GeluBwdIdeal.nD Cert.GeluBwdIdeal.τ).loc Cert.GeluBwdIdeal.main_arg3)
      ∧ m' ((c.tc : Thread Cert.GeluBwdRefIdeal.nD Cert.GeluBwdRefIdeal.τ).loc Cert.GeluBwdRefIdeal.main_arg4) = m ((c.tc : Thread Cert.GeluBwdIdeal.nD Cert.GeluBwdIdeal.τ).loc Cert.GeluBwdIdeal.main_arg4)) →
    ∃ (v0 : (c : Dev Cert.GeluBwdIdeal.nD) → Buf (Elt Ideal) ((c.tc : Thread Cert.GeluBwdIdeal.nD Cert.GeluBwdIdeal.τ).loc Cert.GeluBwdIdeal.main_v0_0)) (v1 : (c : Dev Cert.GeluBwdIdeal.nD) → Buf (Elt Ideal) ((c.tc : Thread Cert.GeluBwdIdeal.nD Cert.GeluBwdIdeal.τ).loc Cert.GeluBwdIdeal.main_v0_1)) (v2 : (c : Dev Cert.GeluBwdIdeal.nD) → Buf (Elt Ideal) ((c.tc : Thread Cert.GeluBwdIdeal.nD Cert.GeluBwdIdeal.τ).loc Cert.GeluBwdIdeal.main_v0_2)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v0_0) = v0 c
          ∧ r.2.mem ((c.tc : Thread Cert.GeluBwdIdeal.nD Cert.GeluBwdIdeal.τ).loc Cert.GeluBwdIdeal.main_v0_1) = v1 c
          ∧ r.2.mem ((c.tc : Thread Cert.GeluBwdIdeal.nD Cert.GeluBwdIdeal.τ).loc Cert.GeluBwdIdeal.main_v0_2) = v2 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
          ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
          ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3)
          ∧ r.2.mem ((c.tc : Thread Cert.GeluBwdIdeal.nD Cert.GeluBwdIdeal.τ).loc Cert.GeluBwdIdeal.main_arg4) = m ((c.tc : Thread Cert.GeluBwdIdeal.nD Cert.GeluBwdIdeal.τ).loc Cert.GeluBwdIdeal.main_arg4))
      ∧ θ_run (Cert.GeluBwdRefIdeal.defs (F := Ideal)) (onTc (τ := Cert.GeluBwdRefIdeal.τ) (Cert.GeluBwdRefIdeal.main (F := Ideal))) ⟨m', fun _ => 0, g'⟩ (fun r => ∀ c : Dev Cert.GeluBwdRefIdeal.nD,
          r.2.mem ((c.tc : Thread Cert.GeluBwdRefIdeal.nD Cert.GeluBwdRefIdeal.τ).loc Cert.GeluBwdRefIdeal.main_v43) = v0 c
          ∧ r.2.mem ((c.tc : Thread Cert.GeluBwdRefIdeal.nD Cert.GeluBwdRefIdeal.τ).loc Cert.GeluBwdRefIdeal.main_v39) = v1 c
          ∧ r.2.mem ((c.tc : Thread Cert.GeluBwdRefIdeal.nD Cert.GeluBwdRefIdeal.τ).loc Cert.GeluBwdRefIdeal.main_v42) = v2 c
          ∧ r.2.mem ((c.tc : Thread Cert.GeluBwdRefIdeal.nD Cert.GeluBwdRefIdeal.τ).loc Cert.GeluBwdRefIdeal.main_arg0) = m' ((c.tc : Thread Cert.GeluBwdRefIdeal.nD Cert.GeluBwdRefIdeal.τ).loc Cert.GeluBwdRefIdeal.main_arg0)
          ∧ r.2.mem ((c.tc : Thread Cert.GeluBwdRefIdeal.nD Cert.GeluBwdRefIdeal.τ).loc Cert.GeluBwdRefIdeal.main_arg1) = m' ((c.tc : Thread Cert.GeluBwdRefIdeal.nD Cert.GeluBwdRefIdeal.τ).loc Cert.GeluBwdRefIdeal.main_arg1)
          ∧ r.2.mem ((c.tc : Thread Cert.GeluBwdRefIdeal.nD Cert.GeluBwdRefIdeal.τ).loc Cert.GeluBwdRefIdeal.main_arg2) = m' ((c.tc : Thread Cert.GeluBwdRefIdeal.nD Cert.GeluBwdRefIdeal.τ).loc Cert.GeluBwdRefIdeal.main_arg2)
          ∧ r.2.mem ((c.tc : Thread Cert.GeluBwdRefIdeal.nD Cert.GeluBwdRefIdeal.τ).loc Cert.GeluBwdRefIdeal.main_arg3) = m' ((c.tc : Thread Cert.GeluBwdRefIdeal.nD Cert.GeluBwdRefIdeal.τ).loc Cert.GeluBwdRefIdeal.main_arg3)
          ∧ r.2.mem ((c.tc : Thread Cert.GeluBwdRefIdeal.nD Cert.GeluBwdRefIdeal.τ).loc Cert.GeluBwdRefIdeal.main_arg4) = m' ((c.tc : Thread Cert.GeluBwdRefIdeal.nD Cert.GeluBwdRefIdeal.τ).loc Cert.GeluBwdRefIdeal.main_arg4))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)) →
    ∃ (v0 : (c : Dev Cert.AdamFf2Ideal.nD) → Buf (Elt Ideal) ((c.tc : Thread Cert.AdamFf2Ideal.nD Cert.AdamFf2Ideal.τ).loc Cert.AdamFf2Ideal.main_v0_0)) (v1 : (c : Dev Cert.AdamFf2Ideal.nD) → Buf (Elt Ideal) ((c.tc : Thread Cert.AdamFf2Ideal.nD Cert.AdamFf2Ideal.τ).loc Cert.AdamFf2Ideal.main_v0_1)) (v2 : (c : Dev Cert.AdamFf2Ideal.nD) → Buf (Elt Ideal) ((c.tc : Thread Cert.AdamFf2Ideal.nD Cert.AdamFf2Ideal.τ).loc Cert.AdamFf2Ideal.main_v0_2)) (v3 : (c : Dev Cert.AdamFf2Ideal.nD) → Buf (Elt Ideal) ((c.tc : Thread Cert.AdamFf2Ideal.nD Cert.AdamFf2Ideal.τ).loc Cert.AdamFf2Ideal.main_v0_3)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v0_0) = v0 c
          ∧ r.2.mem ((c.tc : Thread Cert.AdamFf2Ideal.nD Cert.AdamFf2Ideal.τ).loc Cert.AdamFf2Ideal.main_v0_1) = v1 c
          ∧ r.2.mem ((c.tc : Thread Cert.AdamFf2Ideal.nD Cert.AdamFf2Ideal.τ).loc Cert.AdamFf2Ideal.main_v0_2) = v2 c
          ∧ r.2.mem ((c.tc : Thread Cert.AdamFf2Ideal.nD Cert.AdamFf2Ideal.τ).loc Cert.AdamFf2Ideal.main_v0_3) = v3 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v1) = v0 c
          ∧ r.2.mem ((c.tc : Thread Cert.AdamFf2RefIdeal.nD Cert.AdamFf2RefIdeal.τ).loc Cert.AdamFf2RefIdeal.main_v25) = v1 c
          ∧ r.2.mem ((c.tc : Thread Cert.AdamFf2RefIdeal.nD Cert.AdamFf2RefIdeal.τ).loc Cert.AdamFf2RefIdeal.main_v6) = v2 c
          ∧ r.2.mem ((c.tc : Thread Cert.AdamFf2RefIdeal.nD Cert.AdamFf2RefIdeal.τ).loc Cert.AdamFf2RefIdeal.main_v12) = v3 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hFf2 : Cert.Ff2.Facts) (hFf2Ideal : Cert.Ff2Ideal.Facts) (hFf2RefIdeal : Cert.Ff2RefIdeal.Facts) (hFf2Dw : Cert.Ff2Dw.Facts) (hFf2DwIdeal : Cert.Ff2DwIdeal.Facts) (hFf2DwRefIdeal : Cert.Ff2DwRefIdeal.Facts) (hFf1Dx : Cert.Ff1Dx.Facts) (hFf1DxIdeal : Cert.Ff1DxIdeal.Facts) (hFf1DxRefIdeal : Cert.Ff1DxRefIdeal.Facts) (hFf1Dw : Cert.Ff1Dw.Facts) (hFf1DwIdeal : Cert.Ff1DwIdeal.Facts) (hFf1DwRefIdeal : Cert.Ff1DwRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hOutDw : Cert.OutDw.Facts) (hOutDwIdeal : Cert.OutDwIdeal.Facts) (hOutDwRefIdeal : Cert.OutDwRefIdeal.Facts) (hGluDw : Cert.GluDw.Facts) (hGluDwIdeal : Cert.GluDwIdeal.Facts) (hGluDwRefIdeal : Cert.GluDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hGeluBwd : Cert.GeluBwd.Facts) (hGeluBwdIdeal : Cert.GeluBwdIdeal.Facts) (hGeluBwdRefIdeal : Cert.GeluBwdRefIdeal.Facts) (hAdamFf2 : Cert.AdamFf2.Facts) (hAdamFf2Ideal : Cert.AdamFf2Ideal.Facts) (hAdamFf2RefIdeal : Cert.AdamFf2RefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Act (hAct := hAct)
    ∧ quiescent_ActIdeal (hActIdeal := hActIdeal)
    ∧ quiescent_ActRefIdeal (hActRefIdeal := hActRefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_GeluBwd (hGeluBwd := hGeluBwd)
    ∧ quiescent_GeluBwdIdeal (hGeluBwdIdeal := hGeluBwdIdeal)
    ∧ quiescent_GeluBwdRefIdeal (hGeluBwdRefIdeal := hGeluBwdRefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Act_ActIdeal
    ∧ algebraic_ActIdeal_ActRefIdeal (hActIdeal := hActIdeal) (hActRefIdeal := hActRefIdeal)
    ∧ preserves_Ff2_Ff2Ideal
    ∧ algebraic_Ff2Ideal_Ff2RefIdeal (hFf2Ideal := hFf2Ideal) (hFf2RefIdeal := hFf2RefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_OutDw_OutDwIdeal
    ∧ algebraic_OutDwIdeal_OutDwRefIdeal (hOutDwIdeal := hOutDwIdeal) (hOutDwRefIdeal := hOutDwRefIdeal)
    ∧ preserves_GluDw_GluDwIdeal
    ∧ algebraic_GluDwIdeal_GluDwRefIdeal (hGluDwIdeal := hGluDwIdeal) (hGluDwRefIdeal := hGluDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_GeluBwd_GeluBwdIdeal
    ∧ algebraic_GeluBwdIdeal_GeluBwdRefIdeal (hGeluBwdIdeal := hGeluBwdIdeal) (hGeluBwdRefIdeal := hGeluBwdRefIdeal)
    ∧ preserves_AdamFf2_AdamFf2Ideal
    ∧ algebraic_AdamFf2Ideal_AdamFf2RefIdeal (hAdamFf2Ideal := hAdamFf2Ideal) (hAdamFf2RefIdeal := hAdamFf2RefIdeal)
-- ==== Pre_finite_inputs.lean ====
abbrev S8192x1024 : Shape := ⟨2, ![8192, 1024]⟩
abbrev S8192x4096 : Shape := ⟨2, ![8192, 4096]⟩
abbrev S8x8192x128 : Shape := ⟨3, ![8, 8192, 128]⟩
abbrev S8x8192 : Shape := ⟨2, ![8, 8192]⟩
abbrev S_ : Shape := ⟨0, ![]⟩

class Facts : Prop where
  slices_S8192x4096_S8192x1024_0_2048 : S8192x4096.Slices ![0, 2048] S8192x1024
  bcast_S_S8192x1024 : S_.BroadcastsInDim S8192x1024 (![] : Fin 0 → Fin S8192x1024.rank)
  bcast_S_S8x8192x128 : S_.BroadcastsInDim S8x8192x128 (![] : Fin 0 → Fin S8x8192x128.rank)
  bcast_S_S8x8192 : S_.BroadcastsInDim S8x8192 (![] : Fin 0 → Fin S8x8192.rank)

variable [Facts]

def fn_part1 {F : FTy → Type} [FloatOps F] (main_arg6 : FVec F S8x8192 .f32) (main_arg7 : FVec F S8192x1024 .f32) (main_v3 : IVec S8192x1024 1) (main_v6 : IVec S8192x1024 1) (main_v9 : IVec S8192x1024 1) (main_v12 : IVec S8x8192x128 1) (main_v15 : IVec S8x8192 1) (main_v16 : FVec F S8x8192x128 .f32) (main_v17 : FVec F S8x8192x128 .f32) : IVec S8192x1024 1 × IVec S8192x1024 1 × IVec S8192x1024 1 × IVec S8x8192x128 1 × IVec S8x8192 1 × IVec S8x8192x128 1 × IVec S8x8192 1 × IVec S8192x1024 1 :=
  let main_v18 : IVec S8x8192x128 1 := cmpf .olt main_v16 main_v17
  let main_v19 : FVec F S8x8192 .f32 := Host.absf main_arg6
  let main_cst_5 : FVec F S_ .f32 := constant S_ .f32 0x7F800000#32
  let main_v20 : FVec F S8x8192 .f32 := broadcastInDim S8x8192 ![] bcast_S_S8x8192 main_cst_5
  let main_v21 : IVec S8x8192 1 := cmpf .olt main_v19 main_v20
  let main_v22 : FVec F S8192x1024 .f32 := Host.absf main_arg7
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  (main_v3, main_v6, main_v9, main_v12, main_v15, main_v18, main_v21, main_v24)

def fn {F : FTy → Type} [FloatOps F] (main_arg0 : FVec F S8192x1024 .f32) (main_arg1 : FVec F S8192x1024 .f32) (main_arg2 : FVec F S8192x4096 .f32) (main_arg3 : FVec F S8x8192x128 .f32) (main_arg4 : FVec F S8x8192 .f32) (main_arg5 : FVec F S8x8192x128 .f32) (main_arg6 : FVec F S8x8192 .f32) (main_arg7 : FVec F S8192x1024 .f32) (main_arg8 : FVec F S8192x1024 .f32) (main_arg9 : FVec F S8192x1024 .f32) (main_arg10 : FVec F S8192x1024 .f32) : IVec S8192x1024 1 × IVec S8192x1024 1 × IVec S8192x1024 1 × IVec S8x8192x128 1 × IVec S8x8192 1 × IVec S8x8192x128 1 × IVec S8x8192 1 × IVec S8192x1024 1 :=
  let main_v0 : FVec F S8192x1024 .f32 := (extractStridedSlice S8192x1024 ![0, 2048] · slices_S8192x4096_S8192x1024_0_2048) main_arg2
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_v0
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S8x8192x128 .f32 := Host.absf main_arg3
  let main_cst_2 : FVec F S_ .f32 := constant S_ .f32 0x7F800000#32
  let main_v11 : FVec F S8x8192x128 .f32 := broadcastInDim S8x8192x128 ![] bcast_S_S8x8192x128 main_cst_2
  let main_v12 : IVec S8x8192x128 1 := cmpf .olt main_v10 main_v11
  let main_v13 : FVec F S8x8192 .f32 := Host.absf main_arg4
  let main_cst_3 : FVec F S_ .f32 := constant S_ .f32 0x7F800000#32
  let main_v14 : FVec F S8x8192 .f32 := broadcastInDim S8x8192 ![] bcast_S_S8x8192 main_cst_3
  let main_v15 : IVec S8x8192 1 := cmpf .olt main_v13 main_v14
  let main_v16 : FVec F S8x8192x128 .f32 := Host.absf main_arg5
  let main_cst_4 : FVec F S_ .f32 := constant S_ .f32 0x7F800000#32
  let main_v17 : FVec F S8x8192x128 .f32 := broadcastInDim S8x8192x128 ![] bcast_S_S8x8192x128 main_cst_4
  fn_part1 (F := F) main_arg6 main_arg7 main_v3 main_v6 main_v9 main_v12 main_v15 main_v16 main_v17
-- ==== Kernel.lean ====
abbrev S8192x1024 : Shape := ⟨2, ![8192, 1024]⟩
abbrev S8192x4096 : Shape := ⟨2, ![8192, 4096]⟩
abbrev S8x8192x128 : Shape := ⟨3, ![8, 8192, 128]⟩
abbrev S8x8192 : Shape := ⟨2, ![8, 8192]⟩
abbrev S8192x8x128 : Shape := ⟨3, ![8192, 8, 128]⟩
abbrev S8 : Shape := ⟨1, ![8]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x1 : Shape := ⟨3, ![8, 8192, 1]⟩
abbrev S1x8x8192 : Shape := ⟨3, ![1, 8, 8192]⟩
abbrev S3x8x8192 : Shape := ⟨3, ![3, 8, 8192]⟩
abbrev S3x8x8192x1 : Shape := ⟨4, ![3, 8, 8192, 1]⟩
abbrev S1x8x8192x128 : Shape := ⟨4, ![1, 8, 8192, 128]⟩
abbrev S3x8x8192x128 : Shape := ⟨4, ![3, 8, 8192, 128]⟩
abbrev S8192x8 : Shape := ⟨2, ![8192, 8]⟩
abbrev S8192x8x1 : Shape := ⟨3, ![8192, 8, 1]⟩
abbrev S8x1x128 : Shape := ⟨3, ![8, 1, 128]⟩
abbrev S2048x128 : Shape := ⟨2, ![2048, 128]⟩
abbrev S128x128 : Shape := ⟨2, ![128, 128]⟩
abbrev S1x1x128 : Shape := ⟨3, ![1, 1, 128]⟩
abbrev S1x1x1 : Shape := ⟨3, ![1, 1, 1]⟩
abbrev S1x1 : Shape := ⟨2, ![1, 1]⟩
abbrev S128x256 : Shape := ⟨2, ![128, 256]⟩
abbrev S128x1 : Shape := ⟨2, ![128, 1]⟩
abbrev S256x128 : Shape := ⟨2, ![256, 128]⟩

abbrev nBuf : Space → Nat
  | .hbm => 171
  | .vmem => 38
  | .smem => 0
  | _ => 0

abbrev hbmTy0_0 (i : Nat) : BufTy := match i % 128 with
  | 0 => ⟨S8192x1024, .f32⟩
  | 1 => ⟨S8192x1024, .f32⟩
  | 2 => ⟨S8192x4096, .f32⟩
  | 3 => ⟨S8x8192x128, .f32⟩
  | 4 => ⟨S8x8192, .f32⟩
  | 5 => ⟨S8x8192x128, .f32⟩
  | 6 => ⟨S8x8192, .f32⟩
  | 7 => ⟨S8192x1024, .f32⟩
  | 8 => ⟨S8192x1024, .f32⟩
  | 9 => ⟨S8192x1024, .f32⟩
  | 10 => ⟨S8192x1024, .f32⟩
  | 11 => ⟨S8192x8x128, .f32⟩
  | 12 => ⟨S8192x8x128, .f32⟩
  | 13 => ⟨S8192x1024, .f32⟩
  | 14 => ⟨S8192x8x128, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8x8192x8192, .f32⟩
  | 29 => ⟨S_, .f32⟩
  | 30 => ⟨S8x8192x8192, .f32⟩
  | 31 => ⟨S8x8192x8192, .f32⟩
  | 32 => ⟨S8192, .i32⟩
  | 33 => ⟨S8192x1, .i32⟩
  | 34 => ⟨S8192, .i32⟩
  | 35 => ⟨S1x8192, .i32⟩
  | 36 => ⟨S8192x8192, .i32⟩
  | 37 => ⟨S8192x8192, .i32⟩
  | 38 => ⟨S8192x8192, .i32⟩
  | 39 => ⟨S_, .i32⟩
  | 40 => ⟨S8192x8192, .i32⟩
  | 41 => ⟨S8192x8192, .i1⟩
  | 42 => ⟨S_, .i32⟩
  | 43 => ⟨S8192x8192, .i32⟩
  | 44 => ⟨S8192x8192, .i1⟩
  | 45 => ⟨S8192x8192, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S8192x8192, .i32⟩
  | 53 => ⟨S8192x8192, .i32⟩
  | 54 => ⟨S_, .i32⟩
  | 55 => ⟨S8192x8192, .i32⟩
  | 56 => ⟨S8192x8192, .i1⟩
  | 57 => ⟨S_, .i32⟩
  | 58 => ⟨S8192x8192, .i32⟩
  | 59 => ⟨S8192x8192, .i1⟩
  | 60 => ⟨S_, .i32⟩
  | 61 => ⟨S_, .i1⟩
  | 62 => ⟨S8192x8192, .i1⟩
  | 63 => ⟨S8192x8192, .i1⟩
  | 64 => ⟨S8192x8192, .i1⟩
  | 65 => ⟨S8192x8192, .i32⟩
  | 66 => ⟨S8192x8192, .i32⟩
  | 67 => ⟨S8192x8192, .i32⟩
  | 68 => ⟨S_, .i32⟩
  | 69 => ⟨S8192x8192, .i32⟩
  | 70 => ⟨S8192x8192, .i1⟩
  | 71 => ⟨S8192x8192, .i1⟩
  | 72 => ⟨S8x1x1, .f32⟩
  | 73 => ⟨S8x1x1, .f32⟩
  | 74 => ⟨S8192x8192, .f32⟩
  | 75 => ⟨S1x8192x8192, .f32⟩
  | 76 => ⟨S8x8192x8192, .f32⟩
  | 77 => ⟨S8x8192x8192, .f32⟩
  | 78 => ⟨S8x8192x8192, .f32⟩
  | 79 => ⟨S8x8192x8192, .f32⟩
  | 80 => ⟨S_, .f32⟩
  | 81 => ⟨S_, .f32⟩
  | 82 => ⟨S8x8192x8192, .i1⟩
  | 83 => ⟨S8x8192x8192, .f32⟩
  | 84 => ⟨S8x8192x8192, .f32⟩
  | 85 => ⟨S_, .f32⟩
  | 86 => ⟨S8x8192, .f32⟩
  | 87 => ⟨S8x8192x1, .f32⟩
  | 88 => ⟨S8x8192x8192, .f32⟩
  | 89 => ⟨S8x8192x8192, .f32⟩
  | 90 => ⟨S8x8192x8192, .f32⟩
  | 91 => ⟨S_, .f32⟩
  | 92 => ⟨S8x8192, .f32⟩
  | 93 => ⟨S8x8192x1, .f32⟩
  | 94 => ⟨S8x8192x128, .f32⟩
  | 95 => ⟨S8x8192x128, .f32⟩
  | 96 => ⟨S8x8192x128, .f32⟩
  | 97 => ⟨S8x8192x1, .f32⟩
  | 98 => ⟨S8x8192x1, .f32⟩
  | 99 => ⟨S8x8192, .f32⟩
  | 100 => ⟨S1x8x8192, .f32⟩
  | 101 => ⟨S1x8x8192, .f32⟩
  | 102 => ⟨S1x8x8192, .f32⟩
  | 103 => ⟨S3x8x8192, .f32⟩
  | 104 => ⟨S_, .f32⟩
  | 105 => ⟨S8x8192, .f32⟩
  | 106 => ⟨S_, .f32⟩
  | 107 => ⟨S8x8192, .f32⟩
  | 108 => ⟨S8x8192, .f32⟩
  | 109 => ⟨S1x8x8192, .f32⟩
  | 110 => ⟨S3x8x8192, .f32⟩
  | 111 => ⟨S3x8x8192, .f32⟩
  | 112 => ⟨S3x8x8192, .f32⟩
  | 113 => ⟨S_, .f32⟩
  | 114 => ⟨S8x8192, .f32⟩
  | 115 => ⟨S1x8x8192, .f32⟩
  | 116 => ⟨S3x8x8192, .f32⟩
  | 117 => ⟨S3x8x8192, .f32⟩
  | 118 => ⟨S3x8x8192x1, .f32⟩
  | 119 => ⟨S1x8x8192x128, .f32⟩
  | 120 => ⟨S1x8x8192x128, .f32⟩
  | 121 => ⟨S1x8x8192x128, .f32⟩
  | 122 => ⟨S3x8x8192x128, .f32⟩
  | 123 => ⟨S3x8x8192x128, .f32⟩
  | 124 => ⟨S3x8x8192x128, .f32⟩
  | 125 => ⟨S_, .f32⟩
  | 126 => ⟨S8x8192x128, .f32⟩
  | 127 => ⟨S1x8x8192, .f32⟩
  | _ => ⟨S8192x1024, .f32⟩

abbrev hbmTy0_1 (i : Nat) : BufTy := match i % 128 with
  | 0 => ⟨S1x8x8192, .f32⟩
  | 1 => ⟨S1x8x8192, .f32⟩
  | 2 => ⟨S3x8x8192, .f32⟩
  | 3 => ⟨S_, .f32⟩
  | 4 => ⟨S8x8192, .f32⟩
  | 5 => ⟨S1x8x8192, .f32⟩
  | 6 => ⟨S3x8x8192, .f32⟩
  | 7 => ⟨S3x8x8192, .f32⟩
  | 8 => ⟨S3x8x8192, .f32⟩
  | 9 => ⟨S_, .f32⟩
  | 10 => ⟨S8x8192, .f32⟩
  | 11 => ⟨S8x8192, .f32⟩
  | 12 => ⟨S8x8192, .f32⟩
  | 13 => ⟨S8192x8x128, .f32⟩
  | 14 => ⟨S8192x8x128, .f32⟩
  | 15 => ⟨S8192x8x128, .f32⟩
  | 16 => ⟨S_, .f32⟩
  | 17 => ⟨S8192x8, .f32⟩
  | 18 => ⟨S8192x8, .f32⟩
  | 19 => ⟨S8192x8x1, .f32⟩
  | 20 => ⟨S8192x8x128, .f32⟩
  | 21 => ⟨S8192x1024, .f32⟩
  | 22 => ⟨S8192x8x1, .f32⟩
  | 23 => ⟨S8192x8x128, .f32⟩
  | 24 => ⟨S8192x1024, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S8x1x1, .f32⟩
  | 39 => ⟨S8x1x128, .f32⟩
  | 40 => ⟨S8192x1024, .f32⟩
  | 41 => ⟨S8192x1024, .f32⟩
  | 42 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S128x128, .f32⟩
  | .local _ .vmem, ⟨11, _⟩ => ⟨S128x128, .f32⟩
  | .local _ .vmem, ⟨12, _⟩ => ⟨S2048x128, .f32⟩
  | .local _ .vmem, ⟨13, _⟩ => ⟨S2048x128, .f32⟩
  | .local _ .vmem, ⟨14, _⟩ => ⟨S128x128, .f32⟩
  | .local _ .vmem, ⟨15, _⟩ => ⟨S128x128, .f32⟩
  | .local _ .vmem, ⟨16, _⟩ => ⟨S2048x128, .f32⟩
  | .local _ .vmem, ⟨17, _⟩ => ⟨S2048x128, .f32⟩
  | .local _ .vmem, ⟨18, _⟩ => ⟨S128x128, .f32⟩
  | .local _ .vmem, ⟨19, _⟩ => ⟨S128x128, .f32⟩
  | .local _ .vmem, ⟨20, _⟩ => ⟨S2048x128, .f32⟩
  | .local _ .vmem, ⟨21, _⟩ => ⟨S2048x128, .f32⟩
  | .local _ .vmem, ⟨22, _⟩ => ⟨S128x128, .f32⟩
  | .local _ .vmem, ⟨23, _⟩ => ⟨S128x128, .f32⟩
  | .local _ .vmem, ⟨24, _⟩ => ⟨S1x1x128, .f32⟩
  | .local _ .vmem, ⟨25, _⟩ => ⟨S1x1x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_1 : Ref sig .tc := ⟨.hbm, 54, rfl⟩
abbrev main_call0_v5 : Ref sig .tc := ⟨.hbm, 55, rfl⟩
abbrev main_call0_v6 : Ref sig .tc := ⟨.hbm, 56, rfl⟩
abbrev main_call0_c_2 : Ref sig .tc := ⟨.hbm, 57, rfl⟩
abbrev main_call0_v7 : Ref sig .tc := ⟨.hbm, 58, rfl⟩
abbrev main_call0_v8 : Ref sig .tc := ⟨.hbm, 59, rfl⟩
abbrev main_call0_c_3 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v40 : Ref sig .tc := ⟨.hbm, 84, rfl⟩
abbrev main_cst_8 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_10 : Ref sig .tc := ⟨.hbm, 104, rfl⟩
abbrev main_v58 : Ref sig .tc := ⟨.hbm, 105, rfl⟩
abbrev main_cst_11 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_12 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_13 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_14 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_15 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_16 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_17 : Ref sig .tc := ⟨.hbm, 154, rfl⟩
abbrev main_v101 : Ref sig .tc := ⟨.hbm, 155, rfl⟩
abbrev main_v102 : Ref sig .tc := ⟨.hbm, 156, rfl⟩
abbrev main_cst_18 : Ref sig .tc := ⟨.hbm, 157, rfl⟩
abbrev main_v103 : Ref sig .tc := ⟨.hbm, 158, rfl⟩
abbrev main_v104 : Ref sig .tc := ⟨.hbm, 159, rfl⟩
abbrev main_cst_19 : Ref sig .tc := ⟨.hbm, 160, rfl⟩
abbrev main_v105 : Ref sig .tc := ⟨.hbm, 161, rfl⟩
abbrev main_v106 : Ref sig .tc := ⟨.hbm, 162, rfl⟩
abbrev main_cst_20 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111_0 : Ref sig .tc := ⟨.hbm, 168, rfl⟩
abbrev main_v111_1 : Ref sig .tc := ⟨.hbm, 169, rfl⟩
abbrev main_v111_2 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let v3 : BitVec 32 := Scalar.addi c0_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg0
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let v3 : BitVec 32 := Scalar.addi c0_i32 arg0
  let c0_i32_1 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let v3 : BitVec 32 := Scalar.addi c0_i32 arg0
  let c0_i32_1 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let v3 : BitVec 32 := Scalar.addi c0_i32 arg0
  let c0_i32_1 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x4096 : Shape := ⟨2, ![8192, 4096]⟩
abbrev S8x8192x128 : Shape := ⟨3, ![8, 8192, 128]⟩
abbrev S8x8192 : Shape := ⟨2, ![8, 8192]⟩
abbrev S8192x8x128 : Shape := ⟨3, ![8192, 8, 128]⟩
abbrev S8 : Shape := ⟨1, ![8]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x1 : Shape := ⟨3, ![8, 8192, 1]⟩
abbrev S1x8x8192 : Shape := ⟨3, ![1, 8, 8192]⟩
abbrev S3x8x8192 : Shape := ⟨3, ![3, 8, 8192]⟩
abbrev S3x8x8192x1 : Shape := ⟨4, ![3, 8, 8192, 1]⟩
abbrev S1x8x8192x128 : Shape := ⟨4, ![1, 8, 8192, 128]⟩
abbrev S3x8x8192x128 : Shape := ⟨4, ![3, 8, 8192, 128]⟩
abbrev S8x128x8192 : Shape := ⟨3, ![8, 128, 8192]⟩

abbrev nBuf : Space → Nat
  | .hbm => 257
  | .vmem => 0
  | .smem => 0
  | _ => 0

abbrev hbmTy0_0 (i : Nat) : BufTy := match i % 128 with
  | 0 => ⟨S8192x1024, .f32⟩
  | 1 => ⟨S8192x1024, .f32⟩
  | 2 => ⟨S8192x4096, .f32⟩
  | 3 => ⟨S8x8192x128, .f32⟩
  | 4 => ⟨S8x8192, .f32⟩
  | 5 => ⟨S8x8192x128, .f32⟩
  | 6 => ⟨S8x8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x8x128, .f32⟩
  | 13 => ⟨S8192x8x128, .f32⟩
  | 14 => ⟨S8192x8x128, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8x8192x8192, .f32⟩
  | 29 => ⟨S_, .f32⟩
  | 30 => ⟨S8x8192x8192, .f32⟩
  | 31 => ⟨S8x8192x8192, .f32⟩
  | 32 => ⟨S8192, .i32⟩
  | 33 => ⟨S8192x1, .i32⟩
  | 34 => ⟨S8192, .i32⟩
  | 35 => ⟨S1x8192, .i32⟩
  | 36 => ⟨S8192x8192, .i32⟩
  | 37 => ⟨S8192x8192, .i32⟩
  | 38 => ⟨S8192x8192, .i32⟩
  | 39 => ⟨S_, .i32⟩
  | 40 => ⟨S8192x8192, .i32⟩
  | 41 => ⟨S8192x8192, .i1⟩
  | 42 => ⟨S_, .i32⟩
  | 43 => ⟨S8192x8192, .i32⟩
  | 44 => ⟨S8192x8192, .i1⟩
  | 45 => ⟨S8192x8192, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S8192x8192, .i32⟩
  | 53 => ⟨S8192x8192, .i32⟩
  | 54 => ⟨S_, .i32⟩
  | 55 => ⟨S8192x8192, .i32⟩
  | 56 => ⟨S8192x8192, .i1⟩
  | 57 => ⟨S_, .i32⟩
  | 58 => ⟨S8192x8192, .i32⟩
  | 59 => ⟨S8192x8192, .i1⟩
  | 60 => ⟨S_, .i32⟩
  | 61 => ⟨S_, .i1⟩
  | 62 => ⟨S8192x8192, .i1⟩
  | 63 => ⟨S8192x8192, .i1⟩
  | 64 => ⟨S8192x8192, .i1⟩
  | 65 => ⟨S8192x8192, .i32⟩
  | 66 => ⟨S8192x8192, .i32⟩
  | 67 => ⟨S8192x8192, .i32⟩
  | 68 => ⟨S_, .i32⟩
  | 69 => ⟨S8192x8192, .i32⟩
  | 70 => ⟨S8192x8192, .i1⟩
  | 71 => ⟨S8192x8192, .i1⟩
  | 72 => ⟨S8x1x1, .f32⟩
  | 73 => ⟨S8x1x1, .f32⟩
  | 74 => ⟨S8192x8192, .f32⟩
  | 75 => ⟨S1x8192x8192, .f32⟩
  | 76 => ⟨S8x8192x8192, .f32⟩
  | 77 => ⟨S8x8192x8192, .f32⟩
  | 78 => ⟨S8x8192x8192, .f32⟩
  | 79 => ⟨S8x8192x8192, .f32⟩
  | 80 => ⟨S_, .f32⟩
  | 81 => ⟨S_, .f32⟩
  | 82 => ⟨S8x8192x8192, .i1⟩
  | 83 => ⟨S8x8192x8192, .f32⟩
  | 84 => ⟨S8x8192x8192, .f32⟩
  | 85 => ⟨S_, .f32⟩
  | 86 => ⟨S8x8192x8192, .f32⟩
  | 87 => ⟨S_, .f32⟩
  | 88 => ⟨S8x8192, .f32⟩
  | 89 => ⟨S8x8192x1, .f32⟩
  | 90 => ⟨S8x8192x8192, .f32⟩
  | 91 => ⟨S8x8192x8192, .i1⟩
  | 92 => ⟨S8x8192x8192, .f32⟩
  | 93 => ⟨S_, .f32⟩
  | 94 => ⟨S8x8192, .f32⟩
  | 95 => ⟨S8x8192x1, .f32⟩
  | 96 => ⟨S8x8192x8192, .f32⟩
  | 97 => ⟨S8x8192x8192, .f32⟩
  | 98 => ⟨S8x8192x8192, .f32⟩
  | 99 => ⟨S_, .f32⟩
  | 100 => ⟨S8x8192, .f32⟩
  | 101 => ⟨S8x8192x1, .f32⟩
  | 102 => ⟨S8x8192x128, .f32⟩
  | 103 => ⟨S8x8192x128, .f32⟩
  | 104 => ⟨S8x8192x128, .f32⟩
  | 105 => ⟨S8x8192x1, .f32⟩
  | 106 => ⟨S_, .f32⟩
  | 107 => ⟨S8x8192x1, .f32⟩
  | 108 => ⟨S8x8192x1, .f32⟩
  | 109 => ⟨S8x8192x1, .f32⟩
  | 110 => ⟨S8x8192x1, .f32⟩
  | 111 => ⟨S8x8192, .f32⟩
  | 112 => ⟨S1x8x8192, .f32⟩
  | 113 => ⟨S1x8x8192, .f32⟩
  | 114 => ⟨S1x8x8192, .f32⟩
  | 115 => ⟨S3x8x8192, .f32⟩
  | 116 => ⟨S_, .f32⟩
  | 117 => ⟨S8x8192, .f32⟩
  | 118 => ⟨S_, .f32⟩
  | 119 => ⟨S8x8192, .f32⟩
  | 120 => ⟨S_, .f32⟩
  | 121 => ⟨S8x8192, .f32⟩
  | 122 => ⟨S1x8x8192, .f32⟩
  | 123 => ⟨S3x8x8192, .f32⟩
  | 124 => ⟨S3x8x8192, .i1⟩
  | 125 => ⟨S3x8x8192, .f32⟩
  | 126 => ⟨S_, .f32⟩
  | 127 => ⟨S8x8192, .f32⟩
  | _ => ⟨S8192x1024, .f32⟩

abbrev hbmTy0_1 (i : Nat) : BufTy := match i % 128 with
  | 0 => ⟨S_, .f32⟩
  | 1 => ⟨S8x8192, .f32⟩
  | 2 => ⟨S8x8192, .f32⟩
  | 3 => ⟨S_, .f32⟩
  | 4 => ⟨S8x8192, .f32⟩
  | 5 => ⟨S8x8192, .i1⟩
  | 6 => ⟨S_, .f32⟩
  | 7 => ⟨S8x8192, .f32⟩
  | 8 => ⟨S8x8192, .i1⟩
  | 9 => ⟨S_, .f32⟩
  | 10 => ⟨S8x8192, .f32⟩
  | 11 => ⟨S_, .f32⟩
  | 12 => ⟨S8x8192, .f32⟩
  | 13 => ⟨S_, .f32⟩
  | 14 => ⟨S8x8192, .f32⟩
  | 15 => ⟨S8x8192, .f32⟩
  | 16 => ⟨S8x8192, .f32⟩
  | 17 => ⟨S1x8x8192, .f32⟩
  | 18 => ⟨S3x8x8192, .f32⟩
  | 19 => ⟨S3x8x8192, .f32⟩
  | 20 => ⟨S3x8x8192, .f32⟩
  | 21 => ⟨S_, .f32⟩
  | 22 => ⟨S8x8192, .f32⟩
  | 23 => ⟨S1x8x8192, .f32⟩
  | 24 => ⟨S3x8x8192, .f32⟩
  | 25 => ⟨S3x8x8192, .f32⟩
  | 26 => ⟨S1x8x8192, .f32⟩
  | 27 => ⟨S_, .f32⟩
  | 28 => ⟨S1x8x8192, .f32⟩
  | 29 => ⟨S1x8x8192, .f32⟩
  | 30 => ⟨S3x8x8192x1, .f32⟩
  | 31 => ⟨S1x8x8192x128, .f32⟩
  | 32 => ⟨S1x8x8192x128, .f32⟩
  | 33 => ⟨S1x8x8192x128, .f32⟩
  | 34 => ⟨S3x8x8192x128, .f32⟩
  | 35 => ⟨S_, .f32⟩
  | 36 => ⟨S8x8192x128, .f32⟩
  | 37 => ⟨S_, .f32⟩
  | 38 => ⟨S8x8192x128, .f32⟩
  | 39 => ⟨S3x8x8192x128, .f32⟩
  | 40 => ⟨S3x8x8192x128, .f32⟩
  | 41 => ⟨S_, .f32⟩
  | 42 => ⟨S8x8192x128, .f32⟩
  | 43 => ⟨S8192x8x128, .f32⟩
  | 44 => ⟨S8192x1024, .f32⟩
  | 45 => ⟨S8192x8x128, .f32⟩
  | 46 => ⟨S8x8192x128, .f32⟩
  | 47 => ⟨S3x8x8192x128, .f32⟩
  | 48 => ⟨S3x8x8192x128, .f32⟩
  | 49 => ⟨S3x8x8192x128, .f32⟩
  | 50 => ⟨S3x8x8192x128, .f32⟩
  | 51 => ⟨S_, .f32⟩
  | 52 => ⟨S3x8x8192, .f32⟩
  | 53 => ⟨S3x8x8192x1, .f32⟩
  | 54 => ⟨S1x8x8192x128, .f32⟩
  | 55 => ⟨S8x8192x128, .f32⟩
  | 56 => ⟨S1x8x8192x128, .f32⟩
  | 57 => ⟨S8x8192x128, .f32⟩
  | 58 => ⟨S1x8x8192x128, .f32⟩
  | 59 => ⟨S8x8192x128, .f32⟩
  | 60 => ⟨S_, .f32⟩
  | 61 => ⟨S3x8x8192, .f32⟩
  | 62 => ⟨S3x8x8192, .f32⟩
  | 63 => ⟨S3x8x8192, .f32⟩
  | 64 => ⟨S3x8x8192, .f32⟩
  | 65 => ⟨S_, .f32⟩
  | 66 => ⟨S8x8192, .f32⟩
  | 67 => ⟨S1x8x8192, .f32⟩
  | 68 => ⟨S1x8x8192, .f32⟩
  | 69 => ⟨S3x8x8192, .f32⟩
  | 70 => ⟨S3x8x8192, .f32⟩
  | 71 => ⟨S_, .f32⟩
  | 72 => ⟨S8x8192, .f32⟩
  | 73 => ⟨S3x8x8192, .f32⟩
  | 74 => ⟨S3x8x8192, .f32⟩
  | 75 => ⟨S3x8x8192, .f32⟩
  | 76 => ⟨S1x8x8192, .f32⟩
  | 77 => ⟨S8x8192, .f32⟩
  | 78 => ⟨S1x8x8192, .f32⟩
  | 79 => ⟨S8x8192, .f32⟩
  | 80 => ⟨S1x8x8192, .f32⟩
  | 81 => ⟨S8x8192, .f32⟩
  | 82 => ⟨S8x8192x1, .f32⟩
  | 83 => ⟨S8x8192x1, .f32⟩
  | 84 => ⟨S8x8192x128, .f32⟩
  | 85 => ⟨S8x8192x128, .f32⟩
  | 86 => ⟨S8x8192x128, .f32⟩
  | 87 => ⟨S_, .f32⟩
  | 88 => ⟨S8x8192, .f32⟩
  | 89 => ⟨S8x8192x1, .f32⟩
  | 90 => ⟨S8x8192x1, .f32⟩
  | 91 => ⟨S8x8192x1, .f32⟩
  | 92 => ⟨S8x8192x128, .f32⟩
  | 93 => ⟨S8x8192x128, .f32⟩
  | 94 => ⟨S8x128x8192, .f32⟩
  | 95 => ⟨S8192x8x128, .f32⟩
  | 96 => ⟨S8x8192x8192, .f32⟩
  | 97 => ⟨S_, .f32⟩
  | 98 => ⟨S8x8192, .f32⟩
  | 99 => ⟨S8x8192x8192, .f32⟩
  | 100 => ⟨S8x8192x8192, .f32⟩
  | 101 => ⟨S8x8192x8192, .f32⟩
  | 102 => ⟨S8x8192x8192, .f32⟩
  | 103 => ⟨S_, .f32⟩
  | 104 => ⟨S8x8192, .f32⟩
  | 105 => ⟨S8x8192x1, .f32⟩
  | 106 => ⟨S8x8192x1, .f32⟩
  | 107 => ⟨S_, .f32⟩
  | 108 => ⟨S8x8192, .f32⟩
  | 109 => ⟨S8x8192, .f32⟩
  | 110 => ⟨S8x8192x8192, .f32⟩
  | 111 => ⟨S8x8192x8192, .f32⟩
  | 112 => ⟨S8x8192x8192, .f32⟩
  | 113 => ⟨S_, .f32⟩
  | 114 => ⟨S8x8192x8192, .f32⟩
  | 115 => ⟨S8x8192x8192, .f32⟩
  | 116 => ⟨S_, .f32⟩
  | 117 => ⟨S8x8192x8192, .f32⟩
  | 118 => ⟨S8x8192x8192, .f32⟩
  | 119 => ⟨S8x8192x128, .f32⟩
  | 120 => ⟨S8192x8x128, .f32⟩
  | 121 => ⟨S8x8192x128, .f32⟩
  | 122 => ⟨S8192x8x128, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_1 : Ref sig .tc := ⟨.hbm, 54, rfl⟩
abbrev main_call0_v5 : Ref sig .tc := ⟨.hbm, 55, rfl⟩
abbrev main_call0_v6 : Ref sig .tc := ⟨.hbm, 56, rfl⟩
abbrev main_call0_c_2 : Ref sig .tc := ⟨.hbm, 57, rfl⟩
abbrev main_call0_v7 : Ref sig .tc := ⟨.hbm, 58, rfl⟩
abbrev main_call0_v8 : Ref sig .tc := ⟨.hbm, 59, rfl⟩
abbrev main_call0_c_3 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_call1_v0 : Ref sig .tc := ⟨.hbm, 81, rfl⟩
abbrev main_v40_1 : Ref sig .tc := ⟨.hbm, 82, rfl⟩
abbrev main_call1_v2 : Ref sig .tc := ⟨.hbm, 83, rfl⟩
abbrev main_v40_0 : Ref sig .tc := ⟨.hbm, 84, rfl⟩
abbrev main_call1_cst : Ref sig .tc := ⟨.hbm, 85, rfl⟩
abbrev main_v40_2 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_9 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_11 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_cst_13 : Ref sig .tc := ⟨.hbm, 118, rfl⟩
abbrev main_v67 : Ref sig .tc := ⟨.hbm, 119, rfl⟩
abbrev main_cst_14 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_15 : Ref sig .tc := ⟨.hbm, 126, rfl⟩
abbrev main_v73 : Ref sig .tc := ⟨.hbm, 127, rfl⟩
abbrev main_cst_16 : Ref sig .tc := ⟨.hbm, 128, rfl⟩
abbrev main_v74 : Ref sig .tc := ⟨.hbm, 129, rfl⟩
abbrev main_v75 : Ref sig .tc := ⟨.hbm, 130, rfl⟩
abbrev main_cst_17 : Ref sig .tc := ⟨.hbm, 131, rfl⟩
abbrev main_v76 : Ref sig .tc := ⟨.hbm, 132, rfl⟩
abbrev main_v77 : Ref sig .tc := ⟨.hbm, 133, rfl⟩
abbrev main_cst_18 : Ref sig .tc := ⟨.hbm, 134, rfl⟩
abbrev main_v78 : Ref sig .tc := ⟨.hbm, 135, rfl⟩
abbrev main_v79 : Ref sig .tc := ⟨.hbm, 136, rfl⟩
abbrev main_cst_19 : Ref sig .tc := ⟨.hbm, 137, rfl⟩
abbrev main_v80 : Ref sig .tc := ⟨.hbm, 138, rfl⟩
abbrev main_cst_20 : Ref sig .tc := ⟨.hbm, 139, rfl⟩
abbrev main_v81 : Ref sig .tc := ⟨.hbm, 140, rfl⟩
abbrev main_cst_21 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_cst_22 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_23 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_24 : Ref sig .tc := ⟨.hbm, 163, rfl⟩
abbrev main_v101 : Ref sig .tc := ⟨.hbm, 164, rfl⟩
abbrev main_cst_25 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_26 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_27 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_28 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_29 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_30 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_31 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_32 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_33 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_34 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_call2_cst : Ref sig .tc := ⟨.hbm, 241, rfl⟩
abbrev main_call2_v0 : Ref sig .tc := ⟨.hbm, 242, rfl⟩
abbrev main_v168 : Ref sig .tc := ⟨.hbm, 243, rfl⟩
abbrev main_cst_35 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩

abbrev nD : Nat := 1
abbrev τ : Topo := Topo.v7x

variable {F : FTy → Type} [FloatOps F]
-- ==== Act.lean ====
abbrev S8192x2048 : Shape := ⟨2, ![8192, 2048]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .bf16⟩
  | .hbm, ⟨3, _⟩ => ⟨S8192x2048, .bf16⟩
  | .hbm, ⟨4, _⟩ => ⟨S8192x8192, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ActRefIdeal.lean ====
abbrev S8192x2048 : Shape := ⟨2, ![8192, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8x2048x1024, .f32⟩
  | .hbm, ⟨6, _⟩ => ⟨S8192x2048, .f32⟩
  | .hbm, ⟨7, _⟩ => ⟨S8192x2048, .f32⟩
  | .hbm, ⟨8, _⟩ => ⟨S2048x8x1024, .f32⟩
  | .hbm, ⟨9, _⟩ => ⟨S2048x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x2048, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .bf16⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S8192x2048, .f32⟩
  | .hbm, ⟨4, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ff2Dw.lean ====
abbrev S8192x8192 : Shape := ⟨2, ![8192, 8192]⟩
abbrev S8192x2048 : Shape := ⟨2, ![8192, 2048]⟩
abbrev S1x1 : Shape := ⟨2, ![1, 1]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x1, .f32⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S8192x8192 : Shape := ⟨2, ![8192, 8192]⟩
abbrev S8192x2048 : Shape := ⟨2, ![8192, 2048]⟩
abbrev S1x1 : Shape := ⟨2, ![1, 1]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x1, .f32⟩
  | .hbm, ⟨3, _⟩ => ⟨S8192x8192, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ff1Dx.lean ====
abbrev S8192x8192 : Shape := ⟨2, ![8192, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S8192x8192 : Shape := ⟨2, ![8192, 8192]⟩
abbrev S8x2048x1024 : Shape := ⟨3, ![8, 2048, 1024]⟩
abbrev S_ : Shape := ⟨0, ![]⟩
abbrev S8192x2048 : Shape := ⟨2, ![8192, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S8192x8192, .f32⟩
  | .hbm, ⟨3, _⟩ => ⟨S8x2048x1024, .f32⟩
  | .hbm, ⟨4, _⟩ => ⟨S_, .f32⟩
  | .hbm, ⟨5, _⟩ => ⟨S8192x2048, .f32⟩
  | .hbm, ⟨6, _⟩ => ⟨S2048x8x1024, .f32⟩
  | .hbm, ⟨7, _⟩ => ⟨S2048x8192, .f32⟩
  | .hbm, ⟨8, _⟩ => ⟨S8192x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1Dw.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S8192x2048 : Shape := ⟨2, ![8192, 2048]⟩
abbrev S8192x8192 : Shape := ⟨2, ![8192, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8x2048x1024, .f32⟩
  | .hbm, ⟨6, _⟩ => ⟨S2048x8x1024, .f32⟩
  | .hbm, ⟨7, _⟩ => ⟨S2048x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proj.lean ====
abbrev S8192x2048 : Shape := ⟨2, ![8192, 2048]⟩
abbrev S8x2048x512 : Shape := ⟨3, ![8, 2048, 512]⟩
abbrev S8192x1024 : Shape := ⟨2, ![8192, 1024]⟩
abbrev S1024x1024 : Shape := ⟨2, ![1024, 1024]⟩
abbrev S2048x2048 : Shape := ⟨2, ![2048, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S2048x1024 : Shape := ⟨2, ![2048, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S8192x1024, .f32⟩
  | .hbm, ⟨3, _⟩ => ⟨S1024x1024, .bf16⟩
  | .hbm, ⟨4, _⟩ => ⟨S8192x2048, .bf16⟩
  | .hbm, ⟨5, _⟩ => ⟨S2048x2048, .bf16⟩
  | .hbm, ⟨6, _⟩ => ⟨S8192x4096, .f32⟩
  | .hbm, ⟨7, _⟩ => ⟨S8192x1024, .f32⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjRefIdeal.lean ====
abbrev S8192x2048 : Shape := ⟨2, ![8192, 2048]⟩
abbrev S8x2048x512 : Shape := ⟨3, ![8, 2048, 512]⟩
abbrev S8192x1024 : Shape := ⟨2, ![8192, 1024]⟩
abbrev S1024x1024 : Shape := ⟨2, ![1024, 1024]⟩
abbrev S2048x2048 : Shape := ⟨2, ![2048, 2048]⟩
abbrev S2048x8x512 : Shape := ⟨3, ![2048, 8, 512]⟩
abbrev S2048x4096 : Shape := ⟨2, ![2048, 4096]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S8192x1024, .f32⟩
  | .hbm, ⟨3, _⟩ => ⟨S1024x1024, .bf16⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S8x2048x512, .f32⟩
  | .hbm, ⟨8, _⟩ => ⟨S1024x1024, .f32⟩
  | .hbm, ⟨9, _⟩ => ⟨S8192x2048, .f32⟩
  | .hbm, ⟨10, _⟩ => ⟨S2048x2048, .f32⟩
  | .hbm, ⟨11, _⟩ => ⟨S2048x8x512, .f32⟩
  | .hbm, ⟨12, _⟩ => ⟨S2048x4096, .f32⟩
  | .hbm, ⟨13, _⟩ => ⟨S8192x4096, .f32⟩
  | .hbm, ⟨14, _⟩ => ⟨S8192x1024, .f32⟩
  | .hbm, ⟨15, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== ProjDx.lean ====
abbrev S8192x2048 : Shape := ⟨2, ![8192, 2048]⟩
abbrev S2048x2048 : Shape := ⟨2, ![2048, 2048]⟩
abbrev S8192x1024 : Shape := ⟨2, ![8192, 1024]⟩
abbrev S1024x1024 : Shape := ⟨2, ![1024, 1024]⟩
abbrev S1024x2048 : Shape := ⟨2, ![1024, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x1024, .bf16⟩
  | .hbm, ⟨3, _⟩ => ⟨S1024x1024, .bf16⟩
  | .hbm, ⟨4, _⟩ => ⟨S8192x2048, .f32⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ProjDxRefIdeal.lean ====
abbrev S8192x2048 : Shape := ⟨2, ![8192, 2048]⟩
abbrev S2048x2048 : Shape := ⟨2, ![2048, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x1024, .bf16⟩
  | .hbm, ⟨3, _⟩ => ⟨S1024x1024, .bf16⟩
  | .hbm, ⟨4, _⟩ => ⟨S8192x2048, .f32⟩
  | .hbm, ⟨5, _⟩ => ⟨S2048x2048, .f32⟩
  | .hbm, ⟨6, _⟩ => ⟨S8192x1024, .f32⟩
  | .hbm, ⟨7, _⟩ => ⟨S1024x1024, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S8192x2048 : Shape := ⟨2, ![8192, 2048]⟩
abbrev S8192x4096 : Shape := ⟨2, ![8192, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S8192x4096 : Shape := ⟨2, ![8192, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S_, .f32⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S8192x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S8192x4096 : Shape := ⟨2, ![8192, 4096]⟩
abbrev S8x2048x512 : Shape := ⟨3, ![8, 2048, 512]⟩
abbrev S8x128 : Shape := ⟨2, ![8, 128]⟩
abbrev S2048x8x512 : Shape := ⟨3, ![2048, 8, 512]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S8x128, .f32⟩
  | .hbm, ⟨3, _⟩ => ⟨S2048x8x512, .bf16⟩
  | .hbm, ⟨4, _⟩ => ⟨S2048x4096, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x4096 : Shape := ⟨2, ![8192, 4096]⟩
abbrev S8x2048x512 : Shape := ⟨3, ![8, 2048, 512]⟩
abbrev S8x128 : Shape := ⟨2, ![8, 128]⟩
abbrev S_ : Shape := ⟨0, ![]⟩
abbrev S8192x2048 : Shape := ⟨2, ![8192, 2048]⟩
abbrev S2048x8x512 : Shape := ⟨3, ![2048, 8, 512]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S8x128, .f32⟩
  | .hbm, ⟨3, _⟩ => ⟨S8192x4096, .f32⟩
  | .hbm, ⟨4, _⟩ => ⟨S8x2048x512, .f32⟩
  | .hbm, ⟨5, _⟩ => ⟨S_, .f32⟩
  | .hbm, ⟨6, _⟩ => ⟨S8192x2048, .f32⟩
  | .hbm, ⟨7, _⟩ => ⟨S2048x8x512, .f32⟩
  | .hbm, ⟨8, _⟩ => ⟨S2048x4096, .f32⟩
  | .hbm, ⟨9, _⟩ => ⟨S8192x4096, .f32⟩
  | .hbm, ⟨10, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm1Bwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1BwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2Bwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2BwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== GeluBwd.lean ====
abbrev S8192x1024 : Shape := ⟨2, ![8192, 1024]⟩
abbrev S8192x4096 : Shape := ⟨2, ![8192, 4096]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GeluBwdRefIdeal.lean ====
abbrev S8192x1024 : Shape := ⟨2, ![8192, 1024]⟩
abbrev S8192x4096 : Shape := ⟨2, ![8192, 4096]⟩
abbrev S1x1024 : Shape := ⟨2, ![1, 1024]⟩
abbrev S_ : Shape := ⟨0, ![]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== AdamFf2.lean ====
abbrev S1024x2048 : Shape := ⟨2, ![1024, 2048]⟩
abbrev S8x1024x2048 : Shape := ⟨3, ![8, 1024, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1024x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFf2RefIdeal.lean ====
abbrev S1024x2048 : Shape := ⟨2, ![1024, 2048]⟩
abbrev S8x1024x2048 : Shape := ⟨3, ![8, 1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1024x2048, .bf16⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Block.lean ====
/-
  What the kernel's body computes at one grid point, 128 rows at a time: the windowed softmax weights, the gradients of
  the scores, and from them the three result blocks, spelt once for all sixteen groups of rows.
-/
module

public import proofs.«01_k».proof.Proof.Gen.KernelIdeal.Frame
public import Idealize.ShloMosaic.Lib.Pipeline.Value

@[expose] public section

noncomputable section

namespace Cert.Block

open Cert.KernelIdeal Cert.KernelIdeal.Gen Idealize.ShloMosaic

variable {F : FTy → Type} [FloatOps F] [Named F]

/-- A 128 by 128 block of floats. -/
abbrev Sq (F : FTy → Type) := Vec F S128x128 .f32

theorem tile_inb (b : Fin 16) : ∀ a, ![b.val * 128, 0] a + S128x128.size a ≤ S2048x128.size a := by
  intro a; fin_cases a
  · show b.val * 128 + 128 ≤ 2048; omega
  · show 0 + 128 ≤ 128; omega

/-- The rectangle of the `b`-th group of 128 rows. -/
abbrev tile (b : Fin 16) : Rect S2048x128 := Rect.unit (s := S2048x128) ![b.val * 128, 0] S128x128.size (tile_inb b)

/-- The `b`-th group of 128 rows of a block of 2048. -/
abbrev rows (x : Vec F S2048x128 .f32) (b : Fin 16) : Sq F := View.ld x (tile b)

/-- The rows before group `b`: the group before it, and the block `first` handed over where `b` is the first. -/
def before (first : Sq F) (x : Vec F S2048x128 .f32) : Fin 16 → Sq F
  | ⟨0, _⟩ => first
  | ⟨n + 1, h⟩ => rows x ⟨n, Nat.lt_of_succ_lt h⟩

/-- Two groups of rows one above the other, in the narrow format. -/
def keys (a b : Sq F) : FVec F S256x128 .bf16 :=
  concatenate S256x128 0 [⟨S128x128, truncf .bf16 a bitsLt_bf16_f32⟩, ⟨S128x128, truncf .bf16 b bitsLt_bf16_f32⟩]
    concatenates_S128x128_S128x128_S256x128_d0

/-- The first column of a block. -/
def column (x : Sq F) : FVec F S128x1 .f32 :=
  extractStridedSlice S128x1 ![0, 0] (shapeCast S128x128 x shapeCasts_S128x128_S128x128) slices_S128x128_o0_0_S128x1

/-- The weights of the 256 keys `kp`, `kc` for 128 queries. -/
def prob (bias : FVec F S128x256 .f32) (q l kp kc : Sq F) : FVec F S128x256 .f32 :=
  exp (subf (addf (mulf (matmul dot_S128x128_S256x128_S128x256_1_1_0_0_n_n none (truncf .bf16 q bitsLt_bf16_f32) (keys kp kc)
    (constant S128x256 .f32 0x00000000#32)) (broadcast S128x256 (Scalar.ofBits .f32 0x3DB504F3#32))) bias)
    (broadcastTo S128x256 (column l) broadcasts_S128x1_S128x256))

/-- The weights in the narrow format. -/
def probN (bias : FVec F S128x256 .f32) (q l kp kc : Sq F) : FVec F S128x256 .bf16 :=
  truncf .bf16 (prob bias q l kp kc) bitsLt_bf16_f32

/-- The gradients of the 256 scores of 128 queries. -/
def dscore (bias : FVec F S128x256 .f32) (q g l d kp kc vp vc : Sq F) : FVec F S128x256 .bf16 :=
  truncf .bf16 (mulf (prob bias q l kp kc) (subf (matmul dot_S128x128_S256x128_S128x256_1_1_0_0_n_n none
    (truncf .bf16 g bitsLt_bf16_f32) (keys vp vc) (constant S128x256 .f32 0x00000000#32))
    (broadcastTo S128x256 (column d) broadcasts_S128x1_S128x256))) bitsLt_bf16_f32

/-- The queries' gradient of one group of rows. -/
def dqP (ds : FVec F S128x256 .bf16) (ks : FVec F S256x128 .bf16) (acc : Sq F) : Sq F :=
  addf (mulf (matmul dot_S128x256_S256x128_S128x128_1_0_0_1_n_n none ds ks (constant S128x128 .f32 0x00000000#32))
    (broadcast S128x128 (Scalar.ofBits .f32 0x3DB504F3#32))) acc

/-- The 256 keys' sums over 128 queries. -/
def tn (p : FVec F S128x256 .bf16) (x : Sq F) : FVec F S256x128 .f32 :=
  matmul dot_S128x256_S128x128_S256x128_0_0_1_1_n_n none p (truncf .bf16 x bitsLt_bf16_f32) (constant S256x128 .f32 0x00000000#32)

/-- The rows of the window's own keys. -/
def own (w : FVec F S256x128 .f32) : Sq F := extractStridedSlice S128x128 ![128, 0] w slices_S256x128_o128_0_S128x128
/-- The rows of the keys before them. -/
def prev (w : FVec F S256x128 .f32) : Sq F := extractStridedSlice S128x128 ![0, 0] w slices_S256x128_o0_0_S128x128

/-- The keys' gradient of one group of rows, from its own and from the next queries. -/
def dkP (a b acc : Sq F) : Sq F := addf (mulf (addf a b) (broadcast S128x128 (Scalar.ofBits .f32 0x3DB504F3#32))) acc
/-- The values' gradient likewise. -/
def dvP (a b acc : Sq F) : Sq F := addf (addf a b) acc

/-- The weights of 128 queries of the next tile over this tile's last 128 keys. -/
def probX (bias : Sq F) (q l kc : Sq F) : Sq F :=
  exp (subf (addf (mulf (matmul dot_S128x128_S128x128_S128x128_1_1_0_0_n_n none (truncf .bf16 q bitsLt_bf16_f32)
    (truncf .bf16 kc bitsLt_bf16_f32) (constant S128x128 .f32 0x00000000#32)) (broadcast S128x128 (Scalar.ofBits .f32 0x3DB504F3#32)))
    bias) (broadcastTo S128x128 (column l) broadcasts_S128x1_S128x128))

/-- The gradients of their scores. -/
def dscoreX (bias : Sq F) (q g l d kc vc : Sq F) : FVec F S128x128 .bf16 :=
  truncf .bf16 (mulf (probX bias q l kc) (subf (matmul dot_S128x128_S128x128_S128x128_1_1_0_0_n_n none
    (truncf .bf16 g bitsLt_bf16_f32) (truncf .bf16 vc bitsLt_bf16_f32) (constant S128x128 .f32 0x00000000#32))
    (broadcastTo S128x128 (column d) broadcasts_S128x1_S128x128))) bitsLt_bf16_f32

/-- Their sums over the queries, nothing where there is no next tile. -/
def tnX (live : BitVec 1) (p : FVec F S128x128 .bf16) (x : Sq F) : Sq F :=
  Scalar.select live (matmul dot_S128x128_S128x128_S128x128_0_0_1_1_n_n none p (truncf .bf16 x bitsLt_bf16_f32)
    (constant S128x128 .f32 0x00000000#32)) (broadcast S128x128 (Scalar.ofBits .f32 0x00000000#32))

section Point

variable (i : grid0.Coords) (x0 : Vec F S2048x128 .f32) (x1 : Vec F S128x128 .f32) (x2 : Vec F S2048x128 .f32) (x3 : Vec F S128x128 .f32) (x4 : Vec F S2048x128 .f32) (x5 : Vec F S128x128 .f32) (x6 : Vec F S2048x128 .f32) (x7 : Vec F S128x128 .f32) (x8 : Vec F S2048x128 .f32) (x9 : Vec F S128x128 .f32) (x10 : Vec F S2048x128 .f32) (x11 : Vec F S128x128 .f32) (x12 : Vec F S1x1x128 .f32) (x13 : Vec F S2048x128 .f32) (x14 : Vec F S2048x128 .f32) (x15 : Vec F S2048x128 .f32)

/-- The bias of group `b`'s window. -/
def bias (i : grid0.Coords) (x12 : Vec F S1x1x128 .f32) : Fin 16 → FVec F S128x256 .f32
  | ⟨0, _⟩ => k0_pay5 i (View.ld x12 r0_0)
  | ⟨_ + 1, _⟩ => k0_pay4 (View.ld x12 r0_0)

/-- The bias of the next tile's first queries over this tile's last keys. -/
def biasX (x12 : Vec F S1x1x128 .f32) : Sq F := k0_pay9 k0_pay6 (k0_pay7 (View.ld x12 r0_0)) (k0_pay8 (F := F))

/-- The scores' gradients of group `b`. -/
def ds (b : Fin 16) : FVec F S128x256 .bf16 :=
  dscore (bias i x12 b) (rows x0 b) (rows x6 b) (rows x8 b) (rows x10 b) (before (View.ld x3 r0_2) x2 b) (rows x2 b)
    (before (View.ld x5 r0_2) x4 b) (rows x4 b)

/-- The weights of group `b`. -/
def pr (b : Fin 16) : FVec F S128x256 .bf16 :=
  probN (bias i x12 b) (rows x0 b) (rows x8 b) (before (View.ld x3 r0_2) x2 b) (rows x2 b)

/-- Whether a tile follows. -/
def live (i : grid0.Coords) : BitVec 1 := Scalar.cmpi .slt (BitVec.ofNat 32 (i 1).val) 3#32

/-- What the queries of the next group add to the keys' gradient of group `b`. -/
def nextK : Fin 16 → Sq F
  | ⟨15, _⟩ => tnX (live i) (dscoreX (biasX x12) (View.ld x1 r0_2) (View.ld x7 r0_2) (View.ld x9 r0_2) (View.ld x11 r0_2)
      (rows x2 15) (rows x4 15)) (View.ld x1 r0_2)
  | b => prev (tn (ds i x0 x2 x3 x4 x5 x6 x8 x10 x12 (b + 1)) (rows x0 (b + 1)))

/-- What the queries of the next group add to the values' gradient of group `b`. -/
def nextV : Fin 16 → Sq F
  | ⟨15, _⟩ => tnX (live i) (truncf .bf16 (probX (biasX x12) (View.ld x1 r0_2) (View.ld x9 r0_2) (rows x2 15)) bitsLt_bf16_f32)
      (View.ld x7 r0_2)
  | b => prev (tn (pr i x0 x2 x3 x8 x12 (b + 1)) (rows x6 (b + 1)))

/-- The queries' gradient of group `b`. -/
def dqB (b : Fin 16) : Sq F :=
  dqP (ds i x0 x2 x3 x4 x5 x6 x8 x10 x12 b) (keys (before (View.ld x3 r0_2) x2 b) (rows x2 b)) (rows x13 b)
/-- The keys' gradient of group `b`. -/
def dkB (b : Fin 16) : Sq F :=
  dkP (own (tn (ds i x0 x2 x3 x4 x5 x6 x8 x10 x12 b) (rows x0 b))) (nextK i x0 x1 x2 x3 x4 x5 x6 x7 x8 x9 x10 x11 x12 b) (rows x14 b)
/-- The values' gradient of group `b`. -/
def dvB (b : Fin 16) : Sq F :=
  dvP (own (tn (pr i x0 x2 x3 x8 x12 b) (rows x6 b))) (nextV i x0 x1 x2 x3 x6 x7 x8 x9 x12 b) (rows x15 b)

/-- Sixteen groups of rows, the last first. -/
abbrev stacked (D : Fin 16 → Sq F) : List (View.Piece (Elt F) S2048x128 .f32) :=
  [⟨tile 15, D 15⟩, ⟨tile 14, D 14⟩, ⟨tile 13, D 13⟩, ⟨tile 12, D 12⟩, ⟨tile 11, D 11⟩, ⟨tile 10, D 10⟩, ⟨tile 9, D 9⟩,
    ⟨tile 8, D 8⟩, ⟨tile 7, D 7⟩, ⟨tile 6, D 6⟩, ⟨tile 5, D 5⟩, ⟨tile 4, D 4⟩, ⟨tile 3, D 3⟩, ⟨tile 2, D 2⟩, ⟨tile 1, D 1⟩,
    ⟨tile 0, D 0⟩]

set_option maxRecDepth 8192 in
theorem out16_eq : out0_16 i x0 x1 x2 x3 x4 x5 x6 x7 x8 x9 x10 x11 x12 x13 x14 x15
    = View.canon (stacked (dqB i x0 x2 x3 x4 x5 x6 x8 x10 x12 x13)) := rfl

set_option maxRecDepth 8192 in
theorem out17_eq : out0_17 i x0 x1 x2 x3 x4 x5 x6 x7 x8 x9 x10 x11 x12 x13 x14 x15
    = View.canon (stacked (dkB i x0 x1 x2 x3 x4 x5 x6 x7 x8 x9 x10 x11 x12 x14)) := rfl

set_option maxRecDepth 8192 in
theorem out18_eq : out0_18 i x0 x1 x2 x3 x4 x5 x6 x7 x8 x9 x10 x11 x12 x13 x14 x15
    = View.canon (stacked (dvB i x0 x1 x2 x3 x6 x7 x8 x9 x12 x15)) := rfl

end Point

end Cert.Block

end
-- ==== Proof.RefRead.lean ====
/-
  The reference's intermediate arrays read at one index: the value there by the values the array is made of.
-/
module

public import proofs.«01_k».proof.Proof.Gen.ReferenceIdeal.Run
public import Idealize.ShloMosaic.Lib.Pointwise
public import Idealize.ShloMosaic.Lib.WordArith
public import Idealize.ShloMosaic.Lib.Tactic.CleanTypes

@[expose] public section

set_option maxRecDepth 8192

noncomputable section

namespace Cert.RefRead

open Idealize.ShloMosaic.WordArith Cert.ReferenceIdeal Cert.ReferenceIdeal.Gen Cert.ReferenceIdeal.Value Idealize.ShloMosaic

/-- The lane of a head. -/
def col (h : Fin 8) (e : Fin 128) : Fin 1024 := ⟨h.val * 128 + e.val, by omega⟩
/-- The lane of a head among the projection's value lanes. -/
def colV (h : Fin 8) (e : Fin 128) : Fin 4096 := ⟨2048 + (h.val * 128 + e.val), by omega⟩

theorem flat_at (x : FVec Ideal S8x8192x1 .f32) (h : Fin 8) (i : Fin 8192) :
    shapeCast S8x8192 x shapeCasts_S8x8192x1_S8x8192 (ix2 h i) = x (ix3 h i 0) := by
  pointwise

theorem stack_at0 (x y z : FVec Ideal S8x8192 .f32) (h : Fin 8) (i : Fin 8192) :
    (concatenate S3x8x8192 0 [⟨S1x8x8192, (broadcastInDim S1x8x8192 ![1, 2] bcast_S8x8192_S1x8x8192_1_2 x)⟩, ⟨S1x8x8192, (broadcastInDim S1x8x8192 ![1, 2] bcast_S8x8192_S1x8x8192_1_2 y)⟩, ⟨S1x8x8192, (broadcastInDim S1x8x8192 ![1, 2] bcast_S8x8192_S1x8x8192_1_2 z)⟩] concatenates_S1x8x8192_S1x8x8192_S1x8x8192_S3x8x8192_d0) (ix3 0 h i) = x (ix2 h i) := by
  pointwise

theorem stack4_at0 (x y z : FVec Ideal S8x8192x128 .f32) (h : Fin 8) (i : Fin 8192) (e : Fin 128) :
    (concatenate S3x8x8192x128 0 [⟨S1x8x8192x128, (broadcastInDim S1x8x8192x128 ![1, 2, 3] bcast_S8x8192x128_S1x8x8192x128_1_2_3 x)⟩, ⟨S1x8x8192x128, (broadcastInDim S1x8x8192x128 ![1, 2, 3] bcast_S8x8192x128_S1x8x8192x128_1_2_3 y)⟩, ⟨S1x8x8192x128, (broadcastInDim S1x8x8192x128 ![1, 2, 3] bcast_S8x8192x128_S1x8x8192x128_1_2_3 z)⟩] concatenates_S1x8x8192x128_S1x8x8192x128_S1x8x8192x128_S3x8x8192x128_d0) (ix4 0 h i e) = x (ix3 h i e) := by
  pointwise

theorem stack_at1 (x y z : FVec Ideal S8x8192 .f32) (h : Fin 8) (i : Fin 8192) :
    (concatenate S3x8x8192 0 [⟨S1x8x8192, (broadcastInDim S1x8x8192 ![1, 2] bcast_S8x8192_S1x8x8192_1_2 x)⟩, ⟨S1x8x8192, (broadcastInDim S1x8x8192 ![1, 2] bcast_S8x8192_S1x8x8192_1_2 y)⟩, ⟨S1x8x8192, (broadcastInDim S1x8x8192 ![1, 2] bcast_S8x8192_S1x8x8192_1_2 z)⟩] concatenates_S1x8x8192_S1x8x8192_S1x8x8192_S3x8x8192_d0) (ix3 1 h i) = y (ix2 h i) := by
  pointwise

theorem stack4_at1 (x y z : FVec Ideal S8x8192x128 .f32) (h : Fin 8) (i : Fin 8192) (e : Fin 128) :
    (concatenate S3x8x8192x128 0 [⟨S1x8x8192x128, (broadcastInDim S1x8x8192x128 ![1, 2, 3] bcast_S8x8192x128_S1x8x8192x128_1_2_3 x)⟩, ⟨S1x8x8192x128, (broadcastInDim S1x8x8192x128 ![1, 2, 3] bcast_S8x8192x128_S1x8x8192x128_1_2_3 y)⟩, ⟨S1x8x8192x128, (broadcastInDim S1x8x8192x128 ![1, 2, 3] bcast_S8x8192x128_S1x8x8192x128_1_2_3 z)⟩] concatenates_S1x8x8192x128_S1x8x8192x128_S1x8x8192x128_S3x8x8192x128_d0) (ix4 1 h i e) = y (ix3 h i e) := by
  pointwise

theorem stack_at2 (x y z : FVec Ideal S8x8192 .f32) (h : Fin 8) (i : Fin 8192) :
    (concatenate S3x8x8192 0 [⟨S1x8x8192, (broadcastInDim S1x8x8192 ![1, 2] bcast_S8x8192_S1x8x8192_1_2 x)⟩, ⟨S1x8x8192, (broadcastInDim S1x8x8192 ![1, 2] bcast_S8x8192_S1x8x8192_1_2 y)⟩, ⟨S1x8x8192, (broadcastInDim S1x8x8192 ![1, 2] bcast_S8x8192_S1x8x8192_1_2 z)⟩] concatenates_S1x8x8192_S1x8x8192_S1x8x8192_S3x8x8192_d0) (ix3 2 h i) = z (ix2 h i) := by
  pointwise

theorem stack4_at2 (x y z : FVec Ideal S8x8192x128 .f32) (h : Fin 8) (i : Fin 8192) (e : Fin 128) :
    (concatenate S3x8x8192x128 0 [⟨S1x8x8192x128, (broadcastInDim S1x8x8192x128 ![1, 2, 3] bcast_S8x8192x128_S1x8x8192x128_1_2_3 x)⟩, ⟨S1x8x8192x128, (broadcastInDim S1x8x8192x128 ![1, 2, 3] bcast_S8x8192x128_S1x8x8192x128_1_2_3 y)⟩, ⟨S1x8x8192x128, (broadcastInDim S1x8x8192x128 ![1, 2, 3] bcast_S8x8192x128_S1x8x8192x128_1_2_3 z)⟩] concatenates_S1x8x8192x128_S1x8x8192x128_S1x8x8192x128_S3x8x8192x128_d0) (ix4 2 h i e) = z (ix3 h i e) := by
  pointwise

theorem score_grad_at (v151 : FVec Ideal S8x8192x128 .f32) (v3 : FVec Ideal S8192x8x128 .f32) (v141 v52 : FVec Ideal S8x8192x1 .f32)
    (v117 v53 : FVec Ideal S8x8192x128 .f32) (v50 : FVec Ideal S8x8192x8192 .f32) (h : Fin 8) (i j : Fin 8192) :
    mulf (addf (Host.dotGeneral (φ₂ := .f32) dot_S8x8192x128_S8192x8x128_S8x8192x8192_2_2_1_0_0_1 none v151 v3) (broadcastInDim S8x8192x8192 ![0, 1] bcast_S8x8192_S8x8192x8192_0_1 (Host.reduceAdd (addf (Host.divf v141 v52) (Host.negf (shapeCast _ (Host.reduceAdd (mulf (mulf v117 (broadcastInDim S8x8192x128 ![0, 1, 2] bcast_S8x8192x1_S8x8192x128_0_1_2 (Host.divf (broadcastInDim S8x8192x1 ![] bcast_S_S8x8192x1 (constant S_ .f32 0x3F800000#32)) (mulf v52 v52)))) v53) (constant S_ .f32 0x00000000#32) reducesTo_S8x8192x128_S8x8192_d2 h_S_) shapeCasts_S8x8192_S8x8192x1))) (constant S_ .f32 0x00000000#32) reducesTo_S8x8192x1_S8x8192_d2 h_S_))) v50 (ix3 h i j)
    = (∑ x, v151 (ix3 h i x) * v3 (ix3 j h x) + ∑ x : Fin 1, (Ideal.div (v141 (ix3 h i x)) (v52 (ix3 h i x))
        + -∑ y, v117 (ix3 h i y) * Ideal.div 1 (v52 (ix3 h i 0) * v52 (ix3 h i 0)) * v53 (ix3 h i y))) * v50 (ix3 h i j) := by
  pointwise!

variable (V0 : Valuation τ sig (Elt Ideal))

/-! ## The arrays as functions of their indices -/

def T1 (i : Fin 8192) (h : Fin 8) (e : Fin 128) : EReal := res_main_v1 V0 (ix3 i h e)
def T2 (i : Fin 8192) (h : Fin 8) (e : Fin 128) : EReal := res_main_v2 V0 (ix3 i h e)
def T3 (i : Fin 8192) (h : Fin 8) (e : Fin 128) : EReal := res_main_v3 V0 (ix3 i h e)
def T40_0 (h : Fin 8) (i j : Fin 8192) : EReal := res_main_v40_0 V0 (ix3 h i j)
def T41 (h : Fin 8) (i : Fin 8192) : EReal := res_main_v41 V0 (ix2 h i)
def T45 (h : Fin 8) (i j : Fin 8192) : EReal := res_main_v45 V0 (ix3 h i j)
def T47 (h : Fin 8) (i : Fin 8192) : EReal := res_main_v47 V0 (ix3 h i 0)
def T50 (h : Fin 8) (i j : Fin 8192) : EReal := res_main_v50 V0 (ix3 h i j)
def T52 (h : Fin 8) (i : Fin 8192) : EReal := res_main_v52 V0 (ix3 h i 0)
def T53 (h : Fin 8) (i : Fin 8192) (e : Fin 128) : EReal := res_main_v53 V0 (ix3 h i e)
def T65 (p : Fin 3) (h : Fin 8) (i : Fin 8192) : EReal := res_main_v65 V0 (ix3 p h i)
def T68 (h : Fin 8) (i : Fin 8192) : EReal := res_main_v68 V0 (ix2 h i)
def T88 (p : Fin 3) (h : Fin 8) (i : Fin 8192) : EReal := res_main_v88 V0 (ix3 p h i)
def T90 (h : Fin 8) (i : Fin 8192) : EReal := res_main_v90 V0 (ix3 0 h i)
def T96 (p : Fin 3) (h : Fin 8) (i : Fin 8192) : EReal := res_main_v96 V0 (ix4 p h i 0)
def T100 (p : Fin 3) (h : Fin 8) (i : Fin 8192) (e : Fin 128) : EReal := res_main_v100 V0 (ix4 p h i e)
def T110 (p : Fin 3) (h : Fin 8) (i : Fin 8192) (e : Fin 128) : EReal := res_main_v110 V0 (ix4 p h i e)
def T112 (p : Fin 3) (h : Fin 8) (i : Fin 8192) (e : Fin 128) : EReal := res_main_v112 V0 (ix4 p h i e)
def T117 (h : Fin 8) (i : Fin 8192) (e : Fin 128) : EReal := res_main_v117 V0 (ix3 h i e)
def T122 (p : Fin 3) (h : Fin 8) (i : Fin 8192) : EReal := res_main_v122 V0 (ix3 p h i)
def T134 (p : Fin 3) (h : Fin 8) (i : Fin 8192) : EReal := res_main_v134 V0 (ix3 p h i)
def T141 (h : Fin 8) (i : Fin 8192) : EReal := res_main_v141 V0 (ix3 h i 0)
def T151 (h : Fin 8) (i : Fin 8192) (e : Fin 128) : EReal := res_main_v151 V0 (ix3 h i e)
def T158 (h : Fin 8) (i j : Fin 8192) : EReal := res_main_v158 V0 (ix3 h i j)
def T170 (h : Fin 8) (i j : Fin 8192) : EReal := res_main_v170 V0 (ix3 h i j)
def inQ (i : Fin 8192) (h : Fin 8) (e : Fin 128) : EReal := V0 (Proc.devRef .tc main_arg0) (ix2 i (col h e))
def inK (i : Fin 8192) (h : Fin 8) (e : Fin 128) : EReal := V0 (Proc.devRef .tc main_arg1) (ix2 i (col h e))
def inV (i : Fin 8192) (h : Fin 8) (e : Fin 128) : EReal := V0 (Proc.devRef .tc main_arg2) (ix2 i (colV h e))
def inO4 (h : Fin 8) (i : Fin 8192) (e : Fin 128) : EReal := V0 (Proc.devRef .tc main_arg3) (ix3 h i e)
def inL4 (h : Fin 8) (i : Fin 8192) : EReal := V0 (Proc.devRef .tc main_arg4) (ix2 h i)
def inO16 (h : Fin 8) (i : Fin 8192) (e : Fin 128) : EReal := V0 (Proc.devRef .tc main_arg5) (ix3 h i e)
def inL16 (h : Fin 8) (i : Fin 8192) : EReal := V0 (Proc.devRef .tc main_arg6) (ix2 h i)
def inG (i : Fin 8192) (h : Fin 8) (e : Fin 128) : EReal := V0 (Proc.devRef .tc main_arg7) (ix2 i (col h e))
def inA8 (i : Fin 8192) (h : Fin 8) (e : Fin 128) : EReal := V0 (Proc.devRef .tc main_arg8) (ix2 i (col h e))
def inA9 (i : Fin 8192) (h : Fin 8) (e : Fin 128) : EReal := V0 (Proc.devRef .tc main_arg9) (ix2 i (col h e))
def inA10 (i : Fin 8192) (h : Fin 8) (e : Fin 128) : EReal := V0 (Proc.devRef .tc main_arg10) (ix2 i (col h e))

theorem r1 (i : Fin 8192) (h : Fin 8) (e : Fin 128) : T1 V0 i h e = inQ V0 i h e := by
  unfold T1 res_main_v1; clean_types; pointwise <;> rfl

theorem r2 (i : Fin 8192) (h : Fin 8) (e : Fin 128) : T2 V0 i h e = inK V0 i h e := by
  unfold T2 res_main_v2; clean_types; pointwise <;> rfl

theorem r3 (i : Fin 8192) (h : Fin 8) (e : Fin 128) : T3 V0 i h e = inV V0 i h e := by
  unfold T3 res_main_v3; clean_types; pointwise <;> rfl

theorem r41 (h : Fin 8) (i : Fin 8192) : T41 V0 h i = Finset.fold max (Ideal.ofBits .f32 0xFF800000#32) (fun x => T40_0 V0 h i x) Finset.univ := by
  unfold T41 res_main_v41; clean_types; pointwise <;> rfl

theorem r45 (h : Fin 8) (i j : Fin 8192) : T45 V0 h i j = FloatOps.uitofp (F := Ideal) .f32 (BitVec.ofBool (decide (T40_0 V0 h i j = T41 V0 h i))) := by
  unfold T45 res_main_v45; clean_types; pointwise <;> rfl

theorem r47 (h : Fin 8) (i : Fin 8192) : T47 V0 h i = T41 V0 h i := by
  unfold T47 res_main_v47; clean_types; pointwise <;> rfl

theorem r50 (h : Fin 8) (i j : Fin 8192) : T50 V0 h i j = Ideal.exp (T40_0 V0 h i j - T47 V0 h i) := by
  unfold T50 res_main_v50; clean_types; pointwise <;> rfl

theorem r52 (h : Fin 8) (i : Fin 8192) : T52 V0 h i = ∑ x, T50 V0 h i x := by
  unfold T52 res_main_v52; clean_types; pointwise <;> rfl

theorem r53 (h : Fin 8) (i : Fin 8192) (e : Fin 128) : T53 V0 h i e = ∑ x, T50 V0 h i x * T3 V0 x h e := by
  unfold T53 res_main_v53; clean_types; pointwise <;> rfl

theorem r68 (h : Fin 8) (i : Fin 8192) : T68 V0 h i = Finset.fold max (Ideal.ofBits .f32 0xFF800000#32) (fun p => T65 V0 p h i) Finset.univ := by
  unfold T68 res_main_v68; clean_types; pointwise <;> rfl

theorem r88 (p : Fin 3) (h : Fin 8) (i : Fin 8192) : T88 V0 p h i = Ideal.exp (T65 V0 p h i - max (Ideal.ofBits .f32 0xFF800000#32) (T68 V0 h i)) := by
  unfold T88 res_main_v88; clean_types; pointwise <;> rfl

theorem r90 (h : Fin 8) (i : Fin 8192) : T90 V0 h i = ∑ p, T88 V0 p h i := by
  unfold T90 res_main_v90; clean_types; pointwise <;> rfl

theorem r96 (p : Fin 3) (h : Fin 8) (i : Fin 8192) : T96 V0 p h i = Ideal.div (T88 V0 p h i) (T90 V0 h i) := by
  unfold T96 res_main_v96; clean_types; pointwise <;> rfl

theorem r110 (p : Fin 3) (h : Fin 8) (i : Fin 8192) (e : Fin 128) : T110 V0 p h i e = inG V0 i h e := by
  unfold T110 res_main_v110; clean_types; pointwise <;> rfl

theorem r112 (p : Fin 3) (h : Fin 8) (i : Fin 8192) (e : Fin 128) : T112 V0 p h i e = T96 V0 p h i * T110 V0 p h i e := by
  unfold T112 res_main_v112; clean_types; pointwise <;> rfl

theorem r117 (h : Fin 8) (i : Fin 8192) (e : Fin 128) : T117 V0 h i e = T112 V0 0 h i e := by
  unfold T117 res_main_v117; clean_types; pointwise <;> rfl

theorem r122 (p : Fin 3) (h : Fin 8) (i : Fin 8192) : T122 V0 p h i = ∑ _x : Fin 1, ∑ x, T110 V0 p h i x * T100 V0 p h i x := by
  unfold T122 res_main_v122; clean_types; pointwise <;> rfl

theorem r134 (p : Fin 3) (h : Fin 8) (i : Fin 8192) : T134 V0 p h i = (Ideal.div (T122 V0 p h i) (T90 V0 h i) + ∑ _x : Fin 1, -∑ q, T122 V0 q h i * Ideal.div 1 (T90 V0 h i * T90 V0 h i) * T88 V0 q h i) * T88 V0 p h i := by
  unfold T134 res_main_v134; clean_types; pointwise <;> rfl

theorem r141 (h : Fin 8) (i : Fin 8192) : T141 V0 h i = T134 V0 0 h i := by
  unfold T141 res_main_v141; clean_types; pointwise <;> rfl

theorem r151 (h : Fin 8) (i : Fin 8192) (e : Fin 128) : T151 V0 h i e = Ideal.div (T117 V0 h i e) (T52 V0 h i) := by
  unfold T151 res_main_v151; clean_types; pointwise <;> rfl

/-- The row's log-sum in this pattern, as a column. -/
def lcol : FVec Ideal S8x8192x1 .f32 := addf (φ := .f32) (res_main_v47 V0) (Host.log (φ := .f32) (res_main_v52 V0))
theorem r65_own (h : Fin 8) (i : Fin 8192) : T65 V0 0 h i = shapeCast S8x8192 (lcol V0) shapeCasts_S8x8192x1_S8x8192 (ix2 h i) :=
  stack_at0 _ _ _ h i
theorem lcol_at (h : Fin 8) (i : Fin 8192) : lcol V0 (ix3 h i 0) = T47 V0 h i + Ideal.log (T52 V0 h i) := by
  have g (x y : FVec Ideal S8x8192x1 .f32) : addf x (Host.log y) (ix3 h i 0) = x (ix3 h i 0) + Ideal.log (y (ix3 h i 0)) := by pointwise
  exact g _ _
theorem r65_0 (h : Fin 8) (i : Fin 8192) : T65 V0 0 h i = T47 V0 h i + Ideal.log (T52 V0 h i) := by
  rw [r65_own, flat_at, lcol_at]
theorem r65_1 (h : Fin 8) (i : Fin 8192) : T65 V0 1 h i = inL4 V0 h i := stack_at1 _ _ _ h i
theorem r65_2 (h : Fin 8) (i : Fin 8192) : T65 V0 2 h i = inL16 V0 h i := stack_at2 _ _ _ h i

theorem div_at (x : FVec Ideal S8x8192x128 .f32) (y : FVec Ideal S8x8192x1 .f32) (h : Fin 8) (i : Fin 8192) (e : Fin 128) :
    Host.divf x (broadcastInDim S8x8192x128 ![0, 1, 2] bcast_S8x8192x1_S8x8192x128_0_1_2 y) (ix3 h i e) = Ideal.div (x (ix3 h i e)) (y (ix3 h i 0)) := by
  pointwise
theorem r100_0 (h : Fin 8) (i : Fin 8192) (e : Fin 128) : T100 V0 0 h i e = Ideal.div (T53 V0 h i e) (T52 V0 h i) := (stack4_at0 _ _ _ h i e).trans (div_at _ _ h i e)
theorem r100_1 (h : Fin 8) (i : Fin 8192) (e : Fin 128) : T100 V0 1 h i e = inO4 V0 h i e := stack4_at1 _ _ _ h i e
theorem r100_2 (h : Fin 8) (i : Fin 8192) (e : Fin 128) : T100 V0 2 h i e = inO16 V0 h i e := stack4_at2 _ _ _ h i e

theorem r158 (h : Fin 8) (i j : Fin 8192) : T158 V0 h i j = (∑ x, T151 V0 h i x * T3 V0 j h x + ∑ _x : Fin 1, (Ideal.div (T141 V0 h i) (T52 V0 h i)
        + -∑ y, T117 V0 h i y * Ideal.div 1 (T52 V0 h i * T52 V0 h i) * T53 V0 h i y)) * T50 V0 h i j :=
  (score_grad_at _ _ _ _ _ _ _ h i j).trans (by rw [Fin.sum_univ_one, Fin.sum_univ_one]; rfl)

theorem r170 (h : Fin 8) (i j : Fin 8192) : T170 V0 h i j = Scalar.select (res_main_v40_1 V0 (ix3 h i j)) (T158 V0 h i j
      + Ideal.div (∑ _x : Fin 1, (T141 V0 h i + ∑ x, -T158 V0 h i x)) (∑ x, T45 V0 h i x) * T45 V0 h i j) 0 * Ideal.ofBits .f32 0x3DB504F3#32 := by
  unfold T170 res_main_v170; clean_types; pointwise
  rw [Fin.sum_univ_one, Fin.sum_univ_one]; rfl

/-! ## Which keys a query sees -/

/-- Key `j` is one of the 128 before query `i`, or `i` itself. -/
def valid (i j : Fin 8192) : Prop := j.val ≤ i.val ∧ i.val ≤ j.val + 128

instance (i j : Fin 8192) : Decidable (valid i j) := inferInstanceAs (Decidable (_ ∧ _))

theorem v22 (i j : Fin 8192) : (res_main_v22 V0 (ix2 i j) : BitVec 32) = BitVec.ofNat 32 i.val - BitVec.ofNat 32 j.val := by
  unfold res_main_v22; clean_types; pointwise; rfl

theorem v22_toInt (i j : Fin 8192) : (res_main_v22 V0 (ix2 i j) : BitVec 32).toInt = (i.val : ℤ) - j.val := by
  have hi := i.isLt; have hj := j.isLt
  rw [v22, toInt_sub_of_bounds, toInt_ofNat_small _ (by omega), toInt_ofNat_small _ (by omega)] <;>
    rw [toInt_ofNat_small _ (by omega), toInt_ofNat_small _ (by omega)] <;> omega

theorem call0_v2 : (res_main_call0_v2 V0 ix0 : BitVec 32) = 1#32 := by
  unfold res_main_call0_v2 res_main_call0_v0; clean_types; pointwise; rfl

theorem call0_v4 (i j : Fin 8192) : (res_main_call0_v4 V0 (ix2 i j) : BitVec 32) = 0#32 := by
  have e : (res_main_call0_v4 V0 (ix2 i j) : BitVec 32) = IntOp.remsi ArithUnit.host (res_main_v22 V0 (ix2 i j)) (res_main_call0_v2 V0 ix0) := by
    unfold res_main_call0_v4; clean_types; pointwise
  rw [e, call0_v2]; exact remsi_one _ _

theorem sge_ofInt (x : BitVec 32) (n : ℤ) (hx : x.toInt = n) : IntOp.cmpi .sge x 0#32 = BitVec.ofBool (decide (0 ≤ n)) := by
  subst hx
  show BitVec.ofBool (BitVec.sle 0#32 x) = _
  rw [BitVec.sle_eq_decide]; rfl

theorem sle_ofInt (x : BitVec 32) (n : ℤ) (hx : x.toInt = n) : IntOp.cmpi .sle x 128#32 = BitVec.ofBool (decide (n ≤ 128)) := by
  subst hx
  show BitVec.ofBool (BitVec.sle x 128#32) = _
  rw [BitVec.sle_eq_decide]; rfl

theorem v40_1 (h : Fin 8) (i j : Fin 8192) : (res_main_v40_1 V0 (ix3 h i j) : BitVec 1) = BitVec.ofBool (decide (valid i j)) := by
  have e : (res_main_v40_1 V0 (ix3 h i j) : BitVec 1) = IntOp.andi (IntOp.andi (IntOp.cmpi .sge (res_main_v22 V0 (ix2 i j)) 0#32) (IntOp.cmpi .sle (res_main_v22 V0 (ix2 i j)) 128#32))
      (IntOp.cmpi .eq (Scalar.select (IntOp.andi (IntOp.cmpi .ne (IntOp.cmpi .slt (res_main_call0_v4 V0 (ix2 i j)) 0#32) (IntOp.cmpi .slt (res_main_call0_v2 V0 ix0) 0#32)) (IntOp.cmpi .ne (res_main_call0_v4 V0 (ix2 i j)) 0#32)) (IntOp.addi (res_main_call0_v4 V0 (ix2 i j)) (res_main_call0_v2 V0 ix0)) (res_main_call0_v4 V0 (ix2 i j))) 0#32) := by
    unfold res_main_v40_1; clean_types; pointwise
  rw [e, call0_v2, call0_v4, sge_ofInt _ _ (v22_toInt V0 i j), sle_ofInt _ _ (v22_toInt V0 i j), andi_ofBool]
  have t : (IntOp.cmpi .eq (Scalar.select (IntOp.andi (IntOp.cmpi .ne (IntOp.cmpi .slt 0#32 0#32) (IntOp.cmpi .slt 1#32 0#32)) (IntOp.cmpi .ne 0#32 0#32)) (IntOp.addi 0#32 1#32) 0#32) 0#32) = BitVec.ofBool true := by decide
  rw [t, andi_ofBool, Bool.and_true]
  congr 1
  rw [← Bool.decide_and]
  exact decide_eq_decide.mpr (by unfold valid; omega)

theorem r40_0 (h : Fin 8) (i j : Fin 8192) : T40_0 V0 h i j = Scalar.select (BitVec.ofBool (decide (valid i j)))
    ((∑ x, T1 V0 i h x * T2 V0 j h x) * Ideal.ofBits .f32 0x3DB504F3#32
      + -Ideal.pow (Ideal.ofBits .f32 0x40000000#32) (Ideal.div (Ideal.ofBits .f32 0xC1000000#32 * (FloatOps.sitofp (F := Ideal) .f32 (BitVec.ofNat 32 h.val) + 1)) (Ideal.ofBits .f32 0x41000000#32))
        * FloatOps.sitofp (F := Ideal) .f32 (BitVec.ofNat 32 i.val - BitVec.ofNat 32 j.val)) (Ideal.ofBits .f32 0xFF800000#32) := by
  rw [← v40_1 V0 h i j, ← v22 V0 i j]
  unfold T40_0 res_main_v40_0; clean_types; pointwise; rfl

end Cert.RefRead

end
-- ==== Proof.Row.lean ====
/-
  One row of the attention over the reals: the softmax of one query's scores, its mixture with the other two patterns by
  their log-sums, and the gradient of the scores. The gradient as the chain rule spells it, through the normaliser, the
  log-sum and the mixture's weights, is the closed form by the joint log-sum that the kernel uses.
-/
module

public import Idealize.ShloMosaic.Lib.Pointwise
public import Mathlib.Tactic.FieldSimp
public import Mathlib.Tactic.Positivity
public import Mathlib.Tactic.Ring

@[expose] public section

noncomputable section

namespace Cert.Row

open Finset

variable {ι : Type} [Fintype ι] (V : ι → Prop) [DecidablePred V] (s : ι → ℝ) (m : ℝ) (v : ι → Fin 128 → ℝ)
  (g o4 o16 : Fin 128 → ℝ) (l4 l16 M : ℝ)

/-- The weight of a key before normalisation. -/
def wt (j : ι) : ℝ := if V j then Real.exp (s j - m) else 0
/-- The normaliser. -/
def den : ℝ := ∑ j, wt V s m j
/-- The weighted sum of the values. -/
def num (x : Fin 128) : ℝ := ∑ j, wt V s m j * v j x
/-- The log-sum of the row. -/
def lrow : ℝ := m + Real.log (den V s m)
/-- The three patterns' log-sums. -/
def lse3 (p : Fin 3) : ℝ := ![lrow V s m, l4, l16] p
/-- The three patterns' mixture weights before normalisation. -/
def ex (p : Fin 3) : ℝ := Real.exp (lse3 V s m l4 l16 p - M)
/-- Their sum. -/
def tot : ℝ := ∑ p, ex V s m l4 l16 M p
/-- The three patterns' outputs. -/
def outs (p : Fin 3) (x : Fin 128) : ℝ := ![num V s m v x / den V s m, o4 x, o16 x] p
/-- The output's product with its gradient, summed over the row. -/
def dd : ℝ := ∑ x, g x * ∑ p, ex V s m l4 l16 M p / tot V s m l4 l16 M * outs V s m v o4 o16 p x
/-- The joint log-sum. -/
def lse : ℝ := M + Real.log (tot V s m l4 l16 M)
/-- The weight of a key in the mixture. -/
def P (j : ι) : ℝ := if V j then Real.exp (s j - lse V s m l4 l16 M) else 0
/-- A pattern's output times the gradient. -/
def W (p : Fin 3) : ℝ := ∑ x, g x * outs V s m v o4 o16 p x
/-- The gradient of a pattern's log-sum. -/
def dl (p : Fin 3) : ℝ :=
  (W V s m v g o4 o16 p / tot V s m l4 l16 M
    + -(∑ q, W V s m v g o4 o16 q * (1 / (tot V s m l4 l16 M * tot V s m l4 l16 M)) * ex V s m l4 l16 M q)) * ex V s m l4 l16 M p
/-- The gradient of the first pattern's output. -/
def dO (x : Fin 128) : ℝ := ex V s m l4 l16 M 0 / tot V s m l4 l16 M * g x
/-- The gradient of a score as the chain rule gives it, the maximum held fixed. -/
def dsr (j : ι) : ℝ :=
  (∑ x, dO V s m g l4 l16 M x / den V s m * v j x
    + (dl V s m v g o4 o16 l4 l16 M 0 / den V s m
      + -(∑ x, dO V s m g l4 l16 M x * (1 / (den V s m * den V s m)) * num V s m v x))) * wt V s m j

theorem wt_nonneg (j : ι) : 0 ≤ wt V s m j := by unfold wt; split <;> positivity

theorem den_pos (h : ∃ j, V j) : 0 < den V s m := by
  obtain ⟨j, hj⟩ := h
  refine Finset.sum_pos' (fun i _ => wt_nonneg V s m i) ⟨j, Finset.mem_univ j, ?_⟩
  unfold wt; rw [if_pos hj]; positivity

theorem ex_pos (p : Fin 3) : 0 < ex V s m l4 l16 M p := Real.exp_pos _

theorem tot_pos : 0 < tot V s m l4 l16 M := Finset.sum_pos (fun p _ => ex_pos V s m l4 l16 M p) ⟨0, Finset.mem_univ 0⟩

/-- The mixture's product with the gradient, pattern by pattern. -/
theorem dd_eq : dd V s m v g o4 o16 l4 l16 M
    = ∑ p, ex V s m l4 l16 M p / tot V s m l4 l16 M * W V s m v g o4 o16 p := by
  unfold dd W
  simp only [Finset.mul_sum]
  rw [Finset.sum_comm]
  refine Finset.sum_congr rfl fun p _ => Finset.sum_congr rfl fun x _ => by ring

theorem dl_eq (p : Fin 3) : dl V s m v g o4 o16 l4 l16 M p
    = ex V s m l4 l16 M p / tot V s m l4 l16 M * (W V s m v g o4 o16 p - dd V s m v g o4 o16 l4 l16 M) := by
  have ht := (tot_pos V s m l4 l16 M).ne'
  rw [dd_eq]; unfold dl
  have : ∑ q, W V s m v g o4 o16 q * (1 / (tot V s m l4 l16 M * tot V s m l4 l16 M)) * ex V s m l4 l16 M q
      = (1 / tot V s m l4 l16 M) * ∑ p, ex V s m l4 l16 M p / tot V s m l4 l16 M * W V s m v g o4 o16 p := by
    rw [Finset.mul_sum]; refine Finset.sum_congr rfl fun q _ => by field_simp
  rw [this]; field_simp; ring

/-- The product of the first pattern's output gradient with the numerator. -/
theorem sum_dO_num (h : ∃ j, V j) : ∑ x, dO V s m g l4 l16 M x * num V s m v x
    = ex V s m l4 l16 M 0 / tot V s m l4 l16 M * den V s m * W V s m v g o4 o16 0 := by
  have hd := (den_pos V s m h).ne'
  unfold W
  rw [Finset.mul_sum]
  refine Finset.sum_congr rfl fun x _ => ?_
  show dO V s m g l4 l16 M x * num V s m v x = _ * (g x * (num V s m v x / den V s m))
  unfold dO; field_simp

/-- The weight of a key, normalised and mixed, by the joint log-sum. -/
theorem wt_mixed (h : ∃ j, V j) (j : ι) :
    ex V s m l4 l16 M 0 / tot V s m l4 l16 M / den V s m * wt V s m j = P V s m l4 l16 M j := by
  have hd := den_pos V s m h
  have ht := tot_pos V s m l4 l16 M
  unfold wt P
  split
  · have e0 : ex V s m l4 l16 M 0 = Real.exp (m - M) * den V s m := by
      unfold ex; show Real.exp (lrow V s m - M) = _
      unfold lrow; rw [show m + Real.log (den V s m) - M = (m - M) + Real.log (den V s m) by ring, Real.exp_add, Real.exp_log hd]
    have e1 : Real.exp (s j - lse V s m l4 l16 M) = Real.exp (s j - m) * Real.exp (m - M) / tot V s m l4 l16 M := by
      unfold lse
      rw [show s j - (M + Real.log (tot V s m l4 l16 M)) = (s j - m) + (m - M) - Real.log (tot V s m l4 l16 M) by ring,
        Real.exp_sub, Real.exp_add, Real.exp_log ht]
    rw [e0, e1]; field_simp
  · simp

/-- The chain rule's gradient of a score is the closed form. -/
theorem dsr_eq (h : ∃ j, V j) (j : ι) : dsr V s m v g o4 o16 l4 l16 M j
    = P V s m l4 l16 M j * (∑ x, g x * v j x - dd V s m v g o4 o16 l4 l16 M) := by
  have hd := (den_pos V s m h).ne'
  rw [← wt_mixed V s m l4 l16 M h j]
  unfold dsr
  have e1 : ∑ x, dO V s m g l4 l16 M x / den V s m * v j x
      = ex V s m l4 l16 M 0 / tot V s m l4 l16 M / den V s m * ∑ x, g x * v j x := by
    rw [Finset.mul_sum]; refine Finset.sum_congr rfl fun x _ => ?_
    unfold dO; ring
  have e2 : ∑ x, dO V s m g l4 l16 M x * (1 / (den V s m * den V s m)) * num V s m v x
      = (1 / (den V s m * den V s m)) * ∑ x, dO V s m g l4 l16 M x * num V s m v x := by
    rw [Finset.mul_sum]; refine Finset.sum_congr rfl fun x _ => by ring
  rw [e1, e2, sum_dO_num V s m v g o4 o16 l4 l16 M h, dl_eq]
  field_simp; ring

/-- The values' gradient: a key's weight times the gradient. -/
theorem dO_wt (h : ∃ j, V j) (j : ι) (x : Fin 128) :
    dO V s m g l4 l16 M x / den V s m * wt V s m j = P V s m l4 l16 M j * g x := by
  rw [← wt_mixed V s m l4 l16 M h j]; unfold dO; ring

/-- Over the keys the scores' gradients sum to the gradient of the log-sum: nothing is left for the maximum. -/
theorem sum_dsr (h : ∃ j, V j) : ∑ j, dsr V s m v g o4 o16 l4 l16 M j = dl V s m v g o4 o16 l4 l16 M 0 := by
  have hd := (den_pos V s m h).ne'
  have hn : ∀ x, ∑ j, wt V s m j * v j x = num V s m v x := fun _ => rfl
  have hs : ∑ j, wt V s m j = den V s m := rfl
  have e1 : ∑ j, (∑ x, dO V s m g l4 l16 M x / den V s m * v j x) * wt V s m j
      = (1 / den V s m) * ∑ x, dO V s m g l4 l16 M x * num V s m v x := by
    simp only [Finset.sum_mul]
    rw [Finset.sum_comm, Finset.mul_sum]
    refine Finset.sum_congr rfl fun x _ => ?_
    rw [← hn x, Finset.mul_sum, Finset.mul_sum]
    refine Finset.sum_congr rfl fun j _ => by ring
  have e2 : ∑ x, dO V s m g l4 l16 M x * (1 / (den V s m * den V s m)) * num V s m v x
      = (1 / (den V s m * den V s m)) * ∑ x, dO V s m g l4 l16 M x * num V s m v x := by
    rw [Finset.mul_sum]; refine Finset.sum_congr rfl fun x _ => by ring
  unfold dsr
  simp only [add_mul, Finset.sum_add_distrib, ← Finset.mul_sum]
  rw [e1, e2, hs]
  field_simp; ring

end Cert.Row

end
-- ==== Proof.RefVal.lean ====
/-
  The reference's intermediate arrays on finite arguments: each is the real number the row's softmax and its gradient
  give there.
-/
module

public import proofs.«01_k».proof.Proof.RefRead
public import proofs.«01_k».proof.Proof.Row

@[expose] public section

noncomputable section

namespace Cert.RefVal

open Cert.ReferenceIdeal Cert.RefRead Idealize.ShloMosaic

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_cc (x : ℝ) {y : ℝ} (hy : y ≠ 0) : Ideal.div (x : EReal) (y : EReal) = ((x / y : ℝ) : EReal) := by
  rw [Ideal.div_coe hy, ← EReal.coe_mul, mul_one_div]

theorem sub_cc (x y : ℝ) : (x : EReal) - (y : EReal) = ((x - y : ℝ) : EReal) := (EReal.coe_sub x y).symm

/-- The greatest of numbers some of which are −∞ and not all: it is one of those that are not. -/
theorem top_coe {ι : Type} [Fintype ι] (V : ι → Prop) [DecidablePred V] (s : ι → ℝ) (h : ∃ j, V j) :
    ∃ j, V j ∧ Finset.fold max (⊥ : EReal) (fun j => if V j then (s j : EReal) else ⊥) Finset.univ = (s j : EReal) := by
  obtain ⟨a, ha⟩ := h
  obtain ⟨j, -, hj⟩ := Finset.exists_mem_eq_sup (Finset.univ : Finset ι) ⟨a, Finset.mem_univ a⟩ (fun j => if V j then (s j : EReal) else ⊥)
  have e : Finset.fold max (⊥ : EReal) (fun j => if V j then (s j : EReal) else ⊥) Finset.univ
      = Finset.univ.sup (fun j => if V j then (s j : EReal) else ⊥) := rfl
  by_cases hV : V j
  · refine ⟨j, hV, ?_⟩
    rw [e, hj, if_pos hV]
  · exfalso
    have hle : (fun j => if V j then (s j : EReal) else ⊥) a ≤ Finset.univ.sup (fun j => if V j then (s j : EReal) else ⊥) :=
      Finset.le_sup (f := fun j => if V j then (s j : EReal) else ⊥) (Finset.mem_univ a)
    rw [hj] at hle
    simp only [if_pos ha, if_neg hV, le_bot_iff] at hle
    exact EReal.coe_ne_bot _ hle

/-! ## Constants -/

theorem neg_inf : Ideal.ofBits .f32 0xFF800000#32 = ⊥ := by
  simp [Ideal.ofBits, Ideal.ieee, -EReal.coe_mul]

/-- The scale of the scores. -/
def sc : ℝ := (Ideal.ofBits .f32 0x3DB504F3#32).toReal

theorem sc_eq : Ideal.ofBits .f32 0x3DB504F3#32 = (sc : EReal) := by
  have : ∃ r : ℝ, Ideal.ofBits .f32 0x3DB504F3#32 = (r : EReal) := by
    simp only [Ideal.ofBits, Ideal.ieee]
    norm_num [-EReal.coe_mul]
    exact ⟨_, rfl⟩
  obtain ⟨r, hr⟩ := this
  unfold sc; rw [hr]; rfl

/-- A head's slope, as the program computes it. -/
def slopeE (h : Fin 8) : EReal :=
  Ideal.pow (Ideal.ofBits .f32 0x40000000#32) (Ideal.div (Ideal.ofBits .f32 0xC1000000#32
    * (FloatOps.sitofp (F := Ideal) .f32 (BitVec.ofNat 32 h.val) + 1)) (Ideal.ofBits .f32 0x41000000#32))

/-- A head's slope. -/
def sl (h : Fin 8) : ℝ := (slopeE h).toReal

theorem two_eq : Ideal.ofBits .f32 0x40000000#32 = ((2 : ℝ) : EReal) := by
  simp [Ideal.ofBits, Ideal.ieee, -EReal.coe_mul]; norm_num
theorem eight_eq : Ideal.ofBits .f32 0x41000000#32 = ((8 : ℝ) : EReal) := by
  simp [Ideal.ofBits, Ideal.ieee, -EReal.coe_mul]; norm_num
theorem neg8_eq : Ideal.ofBits .f32 0xC1000000#32 = ((-8 : ℝ) : EReal) := by
  simp [Ideal.ofBits, Ideal.ieee, -EReal.coe_mul]; norm_num

theorem sitofp_coe (b : BitVec 32) : FloatOps.sitofp (F := Ideal) .f32 b = ((b.toInt : ℝ) : EReal) := rfl

theorem sl_eq (h : Fin 8) : slopeE h = (sl h : EReal) := by
  have : ∃ r : ℝ, slopeE h = (r : EReal) := by
    unfold slopeE
    rw [two_eq, eight_eq, neg8_eq, sitofp_coe, ← EReal.coe_one, ← EReal.coe_add, ← EReal.coe_mul, div_cc _ (by norm_num)]
    exact ⟨_, Ideal.pow_coe_coe _ _⟩
  obtain ⟨r, hr⟩ := this
  unfold sl; rw [hr]; rfl

/-! ## The arguments -/

/-- Real arrays for the arguments the softmax and its gradient are computed from. -/
structure Data where
  q : Fin 8192 → Fin 8 → Fin 128 → ℝ
  k : Fin 8192 → Fin 8 → Fin 128 → ℝ
  v : Fin 8192 → Fin 8 → Fin 128 → ℝ
  g : Fin 8192 → Fin 8 → Fin 128 → ℝ
  o4 : Fin 8 → Fin 8192 → Fin 128 → ℝ
  o16 : Fin 8 → Fin 8192 → Fin 128 → ℝ
  l4 : Fin 8 → Fin 8192 → ℝ
  l16 : Fin 8 → Fin 8192 → ℝ

/-- The arguments hold these real numbers. -/
structure Holds (V0 : Valuation τ sig (Elt Ideal)) (D : Data) : Prop where
  q : ∀ i h e, inQ V0 i h e = (D.q i h e : EReal)
  k : ∀ i h e, inK V0 i h e = (D.k i h e : EReal)
  v : ∀ i h e, inV V0 i h e = (D.v i h e : EReal)
  g : ∀ i h e, inG V0 i h e = (D.g i h e : EReal)
  o4 : ∀ h i e, inO4 V0 h i e = (D.o4 h i e : EReal)
  o16 : ∀ h i e, inO16 V0 h i e = (D.o16 h i e : EReal)
  l4 : ∀ h i, inL4 V0 h i = (D.l4 h i : EReal)
  l16 : ∀ h i, inL16 V0 h i = (D.l16 h i : EReal)

variable (D : Data) (h : Fin 8) (i : Fin 8192)

/-- The score of a key. -/
def score (j : Fin 8192) : ℝ := (∑ x, D.q i h x * D.k j h x) * sc + -sl h * ((i.val : ℝ) - j.val)
/-- The greatest score of a row. -/
def mx : ℝ := (Finset.fold max (⊥ : EReal) (fun j => if valid i j then (score D h i j : EReal) else ⊥) Finset.univ).toReal
/-- A key's weight, the normaliser and the numerator. -/
abbrev wt (j : Fin 8192) : ℝ := Row.wt (valid i) (score D h i) (mx D h i) j
abbrev den : ℝ := Row.den (valid i) (score D h i) (mx D h i)
abbrev num (x : Fin 128) : ℝ := Row.num (valid i) (score D h i) (mx D h i) (fun j => D.v j h) x
/-- The patterns' log-sums and the greatest of them. -/
abbrev lse3 (p : Fin 3) : ℝ := Row.lse3 (valid i) (score D h i) (mx D h i) (D.l4 h i) (D.l16 h i) p
def M : ℝ := (Finset.fold max (⊥ : EReal) (fun p : Fin 3 => if True then (lse3 D h i p : EReal) else ⊥) Finset.univ).toReal
abbrev ex (p : Fin 3) : ℝ := Row.ex (valid i) (score D h i) (mx D h i) (D.l4 h i) (D.l16 h i) (M D h i) p
abbrev tot : ℝ := Row.tot (valid i) (score D h i) (mx D h i) (D.l4 h i) (D.l16 h i) (M D h i)
abbrev outs (p : Fin 3) (x : Fin 128) : ℝ := Row.outs (valid i) (score D h i) (mx D h i) (fun j => D.v j h) (D.o4 h i) (D.o16 h i) p x
abbrev W (p : Fin 3) : ℝ := Row.W (valid i) (score D h i) (mx D h i) (fun j => D.v j h) (D.g i h) (D.o4 h i) (D.o16 h i) p
abbrev dl (p : Fin 3) : ℝ := Row.dl (valid i) (score D h i) (mx D h i) (fun j => D.v j h) (D.g i h) (D.o4 h i) (D.o16 h i) (D.l4 h i) (D.l16 h i) (M D h i) p
abbrev dO (x : Fin 128) : ℝ := Row.dO (valid i) (score D h i) (mx D h i) (D.g i h) (D.l4 h i) (D.l16 h i) (M D h i) x
abbrev dsr (j : Fin 8192) : ℝ := Row.dsr (valid i) (score D h i) (mx D h i) (fun j => D.v j h) (D.g i h) (D.o4 h i) (D.o16 h i) (D.l4 h i) (D.l16 h i) (M D h i) j
/-- The joint log-sum and the output's product with its gradient. -/
abbrev lse : ℝ := Row.lse (valid i) (score D h i) (mx D h i) (D.l4 h i) (D.l16 h i) (M D h i)
abbrev dd : ℝ := Row.dd (valid i) (score D h i) (mx D h i) (fun j => D.v j h) (D.g i h) (D.o4 h i) (D.o16 h i) (D.l4 h i) (D.l16 h i) (M D h i)
/-- The weight of a key in the mixture. -/
abbrev prob (j : Fin 8192) : ℝ := Row.P (valid i) (score D h i) (mx D h i) (D.l4 h i) (D.l16 h i) (M D h i) j

theorem valid_self : ∃ j, valid i j := ⟨i, le_refl _, by omega⟩

theorem den_ne : den D h i ≠ 0 := (Row.den_pos _ _ _ (valid_self i)).ne'
theorem tot_ne : tot D h i ≠ 0 := (Row.tot_pos _ _ _ _ _ _).ne'

variable {D} {V0 : Valuation τ sig (Elt Ideal)} (H : Holds V0 D)
include H

theorem e40 (j : Fin 8192) : T40_0 V0 h i j = if valid i j then (score D h i j : EReal) else ⊥ := by
  have hs := sl_eq h
  unfold slopeE at hs
  rw [r40_0, neg_inf, sc_eq, hs, sitofp_coe, ← v22 V0 i j, v22_toInt]
  simp only [r1, r2, H.q, H.k, ← EReal.coe_mul, ← coe_sum]
  by_cases hv : valid i j
  · simp only [hv, decide_true, if_true, ← EReal.coe_neg, ← EReal.coe_mul, ← EReal.coe_add]
    show ((_ : ℝ) : EReal) = _
    unfold score; push_cast; rfl
  · simp only [hv, decide_false, if_false]; rfl

theorem e41_at : ∃ j, valid i j ∧ T41 V0 h i = (score D h i j : EReal) := by
  obtain ⟨j, hj, e⟩ := top_coe (valid i) (score D h i) (valid_self i)
  refine ⟨j, hj, ?_⟩
  rw [r41, neg_inf]; simp only [e40 h i H]; exact e

theorem e41 : T41 V0 h i = (mx D h i : EReal) := by
  obtain ⟨j, hj, e⟩ := top_coe (valid i) (score D h i) (valid_self i)
  rw [r41, neg_inf]; simp only [e40 h i H]
  unfold mx; rw [e]; rfl

theorem e47 : T47 V0 h i = (mx D h i : EReal) := (r47 V0 h i).trans (e41 h i H)

theorem e50 (j : Fin 8192) : T50 V0 h i j = (wt D h i j : EReal) := by
  rw [r50, e40 h i H, e47 h i H]
  unfold wt Row.wt
  split
  · rw [sub_cc, Ideal.exp_coe]
  · rw [EReal.bot_sub, Ideal.exp_bot, EReal.coe_zero]

theorem e52 : T52 V0 h i = (den D h i : EReal) := by
  rw [r52]; simp only [e50 h i H]; rw [← coe_sum]; rfl

theorem e53 (x : Fin 128) : T53 V0 h i x = (num D h i x : EReal) := by
  rw [r53]; simp only [e50 h i H, r3, H.v, ← EReal.coe_mul]; rw [← coe_sum]; rfl

theorem e65 (p : Fin 3) : T65 V0 p h i = (lse3 D h i p : EReal) := by
  have hd := Row.den_pos (valid i) (score D h i) (mx D h i) (valid_self i)
  fin_cases p
  · refine (r65_0 V0 h i).trans ?_
    rw [e47 h i H, e52 h i H, Ideal.log_coe, if_neg (not_le.mpr hd), ← EReal.coe_add]; rfl
  · exact (r65_1 V0 h i).trans (H.l4 h i)
  · exact (r65_2 V0 h i).trans (H.l16 h i)

theorem e68 : T68 V0 h i = (M D h i : EReal) := by
  obtain ⟨p, -, e⟩ := top_coe (fun _ : Fin 3 => True) (lse3 D h i) ⟨0, trivial⟩
  rw [r68, neg_inf]
  unfold M
  rw [e]
  simp only [if_true] at e
  simp only [e65 h i H]
  exact e

theorem e88 (p : Fin 3) : T88 V0 p h i = (ex D h i p : EReal) := by
  rw [r88, e65 h i H, neg_inf, max_eq_right bot_le, e68 h i H, sub_cc, Ideal.exp_coe]; rfl

theorem e90 : T90 V0 h i = (tot D h i : EReal) := by
  rw [r90]; simp only [e88 h i H]; rw [← coe_sum]; rfl

theorem e96 (p : Fin 3) : T96 V0 p h i = ((ex D h i p / tot D h i : ℝ) : EReal) := by
  rw [r96, e88 h i H, e90 h i H, div_cc _ (tot_ne D h i)]

theorem e100 (p : Fin 3) (x : Fin 128) : T100 V0 p h i x = (outs D h i p x : EReal) := by
  fin_cases p
  · refine (r100_0 V0 h i x).trans ?_
    rw [e53 h i H, e52 h i H, div_cc _ (den_ne D h i)]; rfl
  · exact (r100_1 V0 h i x).trans (H.o4 h i x)
  · exact (r100_2 V0 h i x).trans (H.o16 h i x)

theorem e110 (p : Fin 3) (x : Fin 128) : T110 V0 p h i x = (D.g i h x : EReal) := (r110 V0 p h i x).trans (H.g i h x)

theorem e117 (x : Fin 128) : T117 V0 h i x = (dO D h i x : EReal) := by
  rw [r117, r112, e96 h i H, e110 h i H, ← EReal.coe_mul]; rfl

theorem e122 (p : Fin 3) : T122 V0 p h i = (W D h i p : EReal) := by
  rw [r122, Fin.sum_univ_one]
  simp only [e110 h i H, e100 h i H, ← EReal.coe_mul]; rw [← coe_sum]; rfl

theorem e134 (p : Fin 3) : T134 V0 p h i = (dl D h i p : EReal) := by
  have ht := tot_ne D h i
  rw [r134, Fin.sum_univ_one]
  simp only [e122 h i H, e90 h i H, e88 h i H, ← EReal.coe_one, ← EReal.coe_mul]
  simp only [div_cc _ ht, div_cc _ (mul_ne_zero ht ht), ← EReal.coe_mul, ← coe_sum, ← EReal.coe_neg, ← EReal.coe_add]
  rfl

theorem e141 : T141 V0 h i = (dl D h i 0 : EReal) := (r141 V0 h i).trans (e134 h i H 0)

theorem e151 (x : Fin 128) : T151 V0 h i x = ((dO D h i x / den D h i : ℝ) : EReal) := by
  rw [r151, e117 h i H, e52 h i H, div_cc _ (den_ne D h i)]

theorem e158 (j : Fin 8192) : T158 V0 h i j = (dsr D h i j : EReal) := by
  have hd := den_ne D h i
  rw [r158, Fin.sum_univ_one]
  simp only [e151 h i H, r3, H.v, e141 h i H, e52 h i H, e117 h i H, e53 h i H, e50 h i H, ← EReal.coe_one, ← EReal.coe_mul]
  simp only [div_cc _ hd, div_cc _ (mul_ne_zero hd hd), ← EReal.coe_mul, ← coe_sum, ← EReal.coe_neg, ← EReal.coe_add]
  rfl

/-- How many keys share the greatest score. -/
theorem e45 : ∃ c : Fin 8192 → ℝ, (∀ j, T45 V0 h i j = (c j : EReal)) ∧ ∑ j, c j ≠ 0 := by
  refine ⟨fun j => ((BitVec.ofBool (decide (T40_0 V0 h i j = T41 V0 h i))).toNat : ℝ), fun j => r45 V0 h i j, ?_⟩
  obtain ⟨j, hj, e⟩ := e41_at h i H
  refine (Finset.sum_pos' (fun j _ => Nat.cast_nonneg _) ⟨j, Finset.mem_univ j, ?_⟩).ne'
  have : T40_0 V0 h i j = T41 V0 h i := by rw [e, e40 h i H, if_pos hj]
  simp [this]

/-- The gradient of a score, scaled. -/
theorem e170 (j : Fin 8192) : T170 V0 h i j
    = ((prob D h i j * (∑ x, D.g i h x * D.v j h x - dd D h i) * sc : ℝ) : EReal) := by
  obtain ⟨c, hc, hc0⟩ := e45 h i H
  have hz : dl D h i 0 + ∑ j, -dsr D h i j = 0 := by
    rw [Finset.sum_neg_distrib, Row.sum_dsr _ _ _ _ _ _ _ _ _ _ (valid_self i), add_neg_cancel]
  rw [r170, Fin.sum_univ_one, v40_1, sc_eq]
  simp only [e158 h i H, e141 h i H, hc, ← EReal.coe_neg, ← coe_sum, ← EReal.coe_add]
  rw [hz, div_cc _ hc0, zero_div, ← EReal.coe_mul, zero_mul, ← EReal.coe_add, add_zero]
  have hr := Row.dsr_eq (valid i) (score D h i) (mx D h i) (fun j => D.v j h) (D.g i h) (D.o4 h i) (D.o16 h i) (D.l4 h i) (D.l16 h i) (M D h i) (valid_self i) j
  by_cases hv : valid i j
  · simp only [hv, decide_true]
    show (dsr D h i j : EReal) * _ = _
    rw [← EReal.coe_mul, ← hr]
  · simp only [hv, decide_false]
    show (0 : EReal) * _ = _
    have : prob D h i j = 0 := if_neg hv
    rw [this]; simp

/-- A key's share of the output's gradient. -/
theorem e151_50 (x : Fin 128) (j : Fin 8192) : T151 V0 h i x * T50 V0 h i j = ((prob D h i j * D.g i h x : ℝ) : EReal) := by
  rw [e151 h i H, e50 h i H, ← EReal.coe_mul]
  exact congrArg _ (Row.dO_wt _ _ _ _ _ _ _ (valid_self i) j x)

end Cert.RefVal

end
-- ==== Proof.BlockRead.lean ====
/-
  The kernel's 128-row blocks on finite arguments: each entry of a block is the real number spelt here.
-/
module

public import proofs.«01_k».proof.Proof.Block
public import proofs.«01_k».proof.Proof.RefVal
public import Idealize.ShloMosaic.Lib.Pointwise
public import Idealize.ShloMosaic.Lib.WordArith

@[expose] public section

set_option maxRecDepth 8192

noncomputable section

namespace Cert.Block

open Cert.KernelIdeal Cert.KernelIdeal.Gen Cert.RefVal Idealize.ShloMosaic

/-- A column of the first 128, and of the last 128, among 256. -/
abbrev lo (s : Fin 128) : Fin 256 := ⟨s.val, by omega⟩
abbrev hi (s : Fin 128) : Fin 256 := ⟨128 + s.val, by omega⟩

theorem sum_halves {α : Type} [AddCommMonoid α] (f : Fin 256 → α) : ∑ l, f l = ∑ s, f (lo s) + ∑ s, f (hi s) :=
  Fin.sum_univ_add (a := 128) (b := 128) f

theorem keys_lo (a b : Sq Ideal) (s c : Fin 128) : keys a b (ix2 (lo s) c) = a (ix2 s c) := by
  unfold keys; pointwise
theorem keys_hi (a b : Sq Ideal) (s c : Fin 128) : keys a b (ix2 (hi s) c) = b (ix2 s c) := by
  unfold keys; pointwise

theorem prob_at (bias : FVec Ideal S128x256 .f32) (q l kp kc : Sq Ideal) (r : Fin 128) (j : Fin 256) :
    prob bias q l kp kc (ix2 r j) = Ideal.exp ((∑ c, q (ix2 r c) * keys kp kc (ix2 j c)) * Ideal.ofBits .f32 0x3DB504F3#32
      + bias (ix2 r j) - l (ix2 r 0)) := by
  unfold prob column; pointwise

theorem dscore_at (bias : FVec Ideal S128x256 .f32) (q g l d kp kc vp vc : Sq Ideal) (r : Fin 128) (j : Fin 256) :
    dscore bias q g l d kp kc vp vc (ix2 r j) = prob bias q l kp kc (ix2 r j) * ((∑ c, g (ix2 r c) * keys vp vc (ix2 j c)) - d (ix2 r 0)) := by
  unfold dscore column; pointwise

theorem dqP_at (ds : FVec Ideal S128x256 .bf16) (ks : FVec Ideal S256x128 .bf16) (acc : Sq Ideal) (r c : Fin 128) :
    dqP ds ks acc (ix2 r c) = (∑ j, ds (ix2 r j) * ks (ix2 j c)) * Ideal.ofBits .f32 0x3DB504F3#32 + acc (ix2 r c) := by
  unfold dqP; pointwise

theorem own_at (p : FVec Ideal S128x256 .bf16) (x : Sq Ideal) (s c : Fin 128) :
    own (tn p x) (ix2 s c) = ∑ r, p (ix2 r (hi s)) * x (ix2 r c) := by
  unfold own tn; pointwise
theorem prev_at (p : FVec Ideal S128x256 .bf16) (x : Sq Ideal) (s c : Fin 128) :
    prev (tn p x) (ix2 s c) = ∑ r, p (ix2 r (lo s)) * x (ix2 r c) := by
  unfold prev tn; pointwise

theorem probX_at (bias : Sq Ideal) (q l kc : Sq Ideal) (r j : Fin 128) :
    probX bias q l kc (ix2 r j) = Ideal.exp ((∑ c, q (ix2 r c) * kc (ix2 j c)) * Ideal.ofBits .f32 0x3DB504F3#32
      + bias (ix2 r j) - l (ix2 r 0)) := by
  unfold probX column; pointwise

theorem dscoreX_at (bias : Sq Ideal) (q g l d kc vc : Sq Ideal) (r j : Fin 128) :
    dscoreX bias q g l d kc vc (ix2 r j) = probX bias q l kc (ix2 r j) * ((∑ c, g (ix2 r c) * vc (ix2 j c)) - d (ix2 r 0)) := by
  unfold dscoreX column; pointwise

theorem tnX_at (live : BitVec 1) (p : FVec Ideal S128x128 .bf16) (x : Sq Ideal) (s c : Fin 128) :
    tnX live p x (ix2 s c) = Scalar.select live (∑ r, p (ix2 r s) * x (ix2 r c)) 0 := by
  unfold tnX; pointwise

theorem dkP_at (a b acc : Sq Ideal) (r c : Fin 128) :
    dkP a b acc (ix2 r c) = (a (ix2 r c) + b (ix2 r c)) * Ideal.ofBits .f32 0x3DB504F3#32 + acc (ix2 r c) := by
  unfold dkP; pointwise
theorem dvP_at (a b acc : Sq Ideal) (r c : Fin 128) :
    dvP a b acc (ix2 r c) = a (ix2 r c) + b (ix2 r c) + acc (ix2 r c) := by
  unfold dvP; pointwise

/-! ## The biases -/

theorem mask_bot : (Named.named (F := Ideal) κ "mask" (φ := .f32) 0xF149F2CA#32 : EReal) = ⊥ := rfl

theorem pay3_at (x : Vec Ideal S1x1x1 .f32) (r s : Fin 128) : k0_pay3 x (ix2 r s)
    = Scalar.select (IntOp.cmpi .sle (BitVec.ofNat 32 s.val) (BitVec.ofNat 32 r.val))
      ((0 - x (ix3 0 0 0) * 1) * FloatOps.sitofp (F := Ideal) .f32 (BitVec.ofNat 32 r.val - BitVec.ofNat 32 s.val + 0#32)) (⊥ : EReal) := by
  unfold k0_pay3 k0_pay2; pointwise
  rfl

theorem pay4_lo (x : Vec Ideal S1x1x1 .f32) (r s : Fin 128) : k0_pay4 x (ix2 r (lo s))
    = Scalar.select (IntOp.cmpi .sge (BitVec.ofNat 32 s.val) (BitVec.ofNat 32 r.val))
      ((0 - x (ix3 0 0 0) * 1) * FloatOps.sitofp (F := Ideal) .f32 (BitVec.ofNat 32 r.val - BitVec.ofNat 32 s.val + 128#32)) (⊥ : EReal) := by
  unfold k0_pay4 k0_pay2; pointwise
  rfl
theorem pay4_hi (x : Vec Ideal S1x1x1 .f32) (r s : Fin 128) : k0_pay4 x (ix2 r (hi s)) = k0_pay3 x (ix2 r s) := by
  unfold k0_pay4; pointwise

theorem pay5_lo (i : grid0.Coords) (x : Vec Ideal S1x1x1 .f32) (r s : Fin 128) : k0_pay5 i x (ix2 r (lo s))
    = Scalar.select (IntOp.cmpi .sgt (BitVec.ofNat 32 (i 1).val) 0#32) (k0_pay4 x (ix2 r (lo s))) (⊥ : EReal) := by
  unfold k0_pay5; pointwise
  rfl
theorem pay5_hi (i : grid0.Coords) (x : Vec Ideal S1x1x1 .f32) (r s : Fin 128) : k0_pay5 i x (ix2 r (hi s)) = k0_pay3 x (ix2 r s) := by
  unfold k0_pay5; pointwise
  rw [pay4_hi]; unfold Scalar.select; split <;> rfl

theorem biasX_at (x12 : Vec Ideal S1x1x128 .f32) (r s : Fin 128) : biasX x12 (ix2 r s) = k0_pay4 (View.ld x12 r0_0) (ix2 r (lo s)) := by
  rw [pay4_lo]
  unfold biasX k0_pay9 k0_pay6 k0_pay7 k0_pay8 k0_pay2; pointwise
  rfl

end Cert.Block

end
-- ==== Proof.Window.lean ====
/-
  The sequence in 64 groups of 128 rows: the keys a group's queries see lie in the group and in the one before it, and the
  queries that see a group's keys lie in the group and in the one after it.
-/
module

public import proofs.«01_k».proof.Proof.RefRead

@[expose] public section

noncomputable section

namespace Cert.Window

open Cert.RefRead Finset

/-- Row `r` of group `B`. -/
def row (B : Fin 64) (r : Fin 128) : Fin 8192 := ⟨B.val * 128 + r.val, by omega⟩
/-- The group before, and the group after. -/
def prevB (B : Fin 64) : Fin 64 := ⟨B.val - 1, by omega⟩
def nextB (B : Fin 64) : Fin 64 := ⟨min (B.val + 1) 63, by omega⟩

theorem row_val (B : Fin 64) (r : Fin 128) : (row B r).val = B.val * 128 + r.val := rfl

theorem valid_own (B : Fin 64) (r s : Fin 128) : valid (row B r) (row B s) ↔ s.val ≤ r.val := by
  have := r.isLt; have := s.isLt
  unfold valid; rw [row_val, row_val]; omega
theorem valid_prev (B : Fin 64) (hB : 0 < B.val) (r s : Fin 128) : valid (row B r) (row (prevB B) s) ↔ r.val ≤ s.val := by
  have := r.isLt; have := s.isLt
  have e : (prevB B).val = B.val - 1 := rfl
  unfold valid; rw [row_val, row_val, e]; omega

theorem sum_rows (f : Fin 8192 → ℝ) : ∑ i, f i = ∑ B, ∑ r, f (row B r) := by
  rw [← Fintype.sum_prod_type' (f := fun B r => f (row B r))]
  refine (Fintype.sum_equiv (finProdFinEquiv (m := 64) (n := 128)) (fun x => f (row x.1 x.2)) f fun x => ?_).symm
  congr 1
  apply Fin.ext
  show x.1.val * 128 + x.2.val = x.2.val + 128 * x.1.val
  omega

theorem sum_key (B : Fin 64) (r : Fin 128) (f : Fin 8192 → ℝ) (hf : ∀ j, ¬ valid (row B r) j → f j = 0) :
    ∑ j, f j = (if 0 < B.val then ∑ s, f (row (prevB B) s) else 0) + ∑ s, f (row B s) := by
  have hz : ∀ C : Fin 64, C ≠ B → (C ≠ prevB B) → ∑ s, f (row C s) = 0 := by
    intro C h1 h2
    refine Finset.sum_eq_zero fun s _ => hf _ ?_
    have e : (prevB B).val = B.val - 1 := rfl
    have h1' : C.val ≠ B.val := fun h => h1 (Fin.ext h)
    have h2' : C.val ≠ B.val - 1 := fun h => h2 (Fin.ext h)
    have := r.isLt; have := s.isLt
    unfold valid; rw [row_val, row_val]; omega
  rw [sum_rows]
  split
  · rename_i hB
    refine Finset.sum_eq_add (prevB B) B ?_ (fun C _ hC => hz C hC.2 hC.1) (fun h => absurd (Finset.mem_univ _) h) (fun h => absurd (Finset.mem_univ _) h)
    intro h
    have : B.val - 1 = B.val := congrArg Fin.val h
    omega
  · rename_i hB
    rw [zero_add]
    refine Finset.sum_eq_single B (fun C _ hC => hz C hC ?_) (fun h => absurd (Finset.mem_univ _) h)
    intro h
    apply hC; apply Fin.ext
    have : C.val = B.val - 1 := congrArg Fin.val h
    omega

theorem sum_query (B : Fin 64) (s : Fin 128) (f : Fin 8192 → ℝ) (hf : ∀ i, ¬ valid i (row B s) → f i = 0) :
    ∑ i, f i = ∑ r, f (row B r) + if B.val < 63 then ∑ r, f (row (nextB B) r) else 0 := by
  have hz : ∀ C : Fin 64, C ≠ B → (C ≠ nextB B) → ∑ r, f (row C r) = 0 := by
    intro C h1 h2
    refine Finset.sum_eq_zero fun r _ => hf _ ?_
    have h1' : C.val ≠ B.val := fun h => h1 (Fin.ext h)
    have h2' : C.val ≠ min (B.val + 1) 63 := fun h => h2 (Fin.ext h)
    have := r.isLt; have := s.isLt; have := C.isLt
    unfold valid; rw [row_val, row_val]; omega
  rw [sum_rows]
  split
  · rename_i hB
    refine Finset.sum_eq_add B (nextB B) ?_ (fun C _ hC => hz C hC.1 hC.2) (fun h => absurd (Finset.mem_univ _) h) (fun h => absurd (Finset.mem_univ _) h)
    intro h
    have : B.val = min (B.val + 1) 63 := congrArg Fin.val h
    omega
  · rename_i hB
    rw [add_zero]
    refine Finset.sum_eq_single B (fun C _ hC => hz C hC ?_) (fun h => absurd (Finset.mem_univ _) h)
    intro h
    apply hC; apply Fin.ext
    have : C.val = min (B.val + 1) 63 := congrArg Fin.val h
    omega

end Cert.Window

end
-- ==== Proof.BlockVal.lean ====
/-
  The three result blocks of one grid point on finite arguments: each entry is the dense gradient at that row, plus what
  the result starts from.
-/
module

public import proofs.«01_k».proof.Proof.BlockRead
public import proofs.«01_k».proof.Proof.Window

@[expose] public section

set_option maxRecDepth 8192

noncomputable section

namespace Cert.BlockVal

open Cert.KernelIdeal Cert.KernelIdeal.Gen Cert.RefVal Cert.RefRead Cert.Window Idealize.ShloMosaic
open Cert.Block hiding prob

/-- The gradient of a score before scaling. -/
def w (D : Data) (h : Fin 8) (i j : Fin 8192) : ℝ := prob D h i j * (∑ x, D.g i h x * D.v j h x - dd D h i)

theorem prob_zero (D : Data) (h : Fin 8) (i j : Fin 8192) (hv : ¬ valid i j) : prob D h i j = 0 := if_neg hv
theorem w_zero (D : Data) (h : Fin 8) (i j : Fin 8192) (hv : ¬ valid i j) : w D h i j = 0 := by
  unfold w; rw [prob_zero D h i j hv, zero_mul]

/-- Group `b` of tile `t`. -/
def blk (t : Fin 4) (b : Fin 16) : Fin 64 := ⟨t.val * 16 + b.val, by omega⟩

/-! ## Masks -/

theorem sle_small (a b : ℕ) (ha : a < 2 ^ 31) (hb : b < 2 ^ 31) :
    IntOp.cmpi .sle (BitVec.ofNat 32 a) (BitVec.ofNat 32 b) = BitVec.ofBool (decide (a ≤ b)) := by
  show BitVec.ofBool (BitVec.sle (BitVec.ofNat 32 a) (BitVec.ofNat 32 b)) = _
  rw [BitVec.sle_eq_decide, WordArith.toInt_ofNat_small _ ha, WordArith.toInt_ofNat_small _ hb]
  congr 1; simp
theorem sge_small (a b : ℕ) (ha : a < 2 ^ 31) (hb : b < 2 ^ 31) :
    IntOp.cmpi .sge (BitVec.ofNat 32 a) (BitVec.ofNat 32 b) = BitVec.ofBool (decide (b ≤ a)) := sle_small b a hb ha
theorem slt_small (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  rw [BitVec.slt_eq_decide, WordArith.toInt_ofNat_small _ ha, WordArith.toInt_ofNat_small _ hb]
  congr 1; simp
theorem sgt_small (a b : ℕ) (ha : a < 2 ^ 31) (hb : b < 2 ^ 31) :
    IntOp.cmpi .sgt (BitVec.ofNat 32 a) (BitVec.ofNat 32 b) = BitVec.ofBool (decide (b < a)) := slt_small b a hb ha

theorem select_bool {α : Type} (p : Prop) [Decidable p] (a b : α) : Scalar.select (BitVec.ofBool (decide p)) a b = if p then a else b := by
  by_cases h : p
  · simp only [h, decide_true, if_true]; rfl
  · simp only [h, decide_false, if_false]; rfl

theorem dist_own (r s : Fin 128) : (BitVec.ofNat 32 r.val - BitVec.ofNat 32 s.val + 0#32).toInt = (r.val : ℤ) - s.val := by
  have := r.isLt; have := s.isLt
  rw [BitVec.add_zero, WordArith.toInt_sub_of_bounds] <;>
    rw [WordArith.toInt_ofNat_small _ (by omega), WordArith.toInt_ofNat_small _ (by omega)] <;> omega
theorem dist_prev (r s : Fin 128) : (BitVec.ofNat 32 r.val - BitVec.ofNat 32 s.val + 128#32).toInt = (r.val : ℤ) - s.val + 128 := by
  have := r.isLt; have := s.isLt
  have e : (BitVec.ofNat 32 r.val - BitVec.ofNat 32 s.val + 128#32) = BitVec.ofNat 32 (r.val + 128) - BitVec.ofNat 32 s.val := by
    rw [BitVec.ofNat_add]; ring
  rw [e, WordArith.toInt_sub_of_bounds] <;>
    rw [WordArith.toInt_ofNat_small _ (by omega), WordArith.toInt_ofNat_small _ (by omega)] <;> omega

section Bias
variable {x12 : Vec Ideal S1x1x128 .f32} {σ : ℝ} (hx : x12 (ix3 0 0 0) = (σ : EReal))
include hx

theorem ld12 : View.ld x12 r0_0 (ix3 0 0 0) = (σ : EReal) := by
  rw [← hx]; pointwise

theorem neg_slope : (0 : EReal) - View.ld x12 r0_0 (ix3 0 0 0) * 1 = ((-σ : ℝ) : EReal) := by
  rw [ld12 hx, mul_one, EReal.coe_neg, zero_sub]

theorem pay3_real (r s : Fin 128) : k0_pay3 (View.ld x12 r0_0) (ix2 r s)
    = if s.val ≤ r.val then ((-σ * ((r.val : ℝ) - s.val) : ℝ) : EReal) else ⊥ := by
  rw [pay3_at, sle_small _ _ (by omega) (by omega), select_bool, neg_slope hx, sitofp_coe, dist_own, ← EReal.coe_mul]
  push_cast; rfl
theorem pay4_real (r s : Fin 128) : k0_pay4 (View.ld x12 r0_0) (ix2 r (lo s))
    = if r.val ≤ s.val then ((-σ * ((r.val : ℝ) - s.val + 128) : ℝ) : EReal) else ⊥ := by
  rw [pay4_lo, sge_small _ _ (by omega) (by omega), select_bool, neg_slope hx, sitofp_coe, dist_prev, ← EReal.coe_mul]
  push_cast; rfl

theorem bias_hi (i : grid0.Coords) (b : Fin 16) (r s : Fin 128) : bias i x12 b (ix2 r (hi s))
    = if s.val ≤ r.val then ((-σ * ((r.val : ℝ) - s.val) : ℝ) : EReal) else ⊥ := by
  rw [← pay3_real hx]
  obtain ⟨n, hn⟩ := b
  cases n with
  | zero => exact pay5_hi i _ r s
  | succ n => exact pay4_hi _ r s

theorem bias_lo (i : grid0.Coords) (b : Fin 16) (r s : Fin 128) (t : Fin 4) (ht : (i 1).val = t.val) : bias i x12 b (ix2 r (lo s))
    = if 0 < (blk t b).val ∧ r.val ≤ s.val then ((-σ * ((r.val : ℝ) - s.val + 128) : ℝ) : EReal) else ⊥ := by
  obtain ⟨n, hn⟩ := b
  cases n with
  | zero =>
    refine (pay5_lo i _ r s).trans ?_
    rw [sgt_small _ 0 (by omega) (by omega), select_bool, pay4_real hx, ht]
    have : (blk t ⟨0, hn⟩).val = t.val * 16 := rfl
    rw [this]
    by_cases h : 0 < t.val
    · rw [if_pos h]; simp only [show 0 < t.val * 16 by omega, true_and]
    · rw [if_neg h, if_neg]; omega
  | succ n =>
    refine (pay4_real hx r s).trans ?_
    have : 0 < (blk t ⟨n + 1, hn⟩).val := by show 0 < t.val * 16 + (n + 1); omega
    simp only [this, true_and]

theorem biasX_real (r s : Fin 128) : biasX x12 (ix2 r s)
    = if r.val ≤ s.val then ((-σ * ((r.val : ℝ) - s.val + 128) : ℝ) : EReal) else ⊥ := by
  rw [biasX_at, pay4_real hx]

end Bias

theorem exp_mask (p : Prop) [Decidable p] (x b l : ℝ) :
    Ideal.exp ((x : EReal) + (if p then (b : EReal) else ⊥) - (l : EReal)) = ((if p then Real.exp (x + b - l) else 0 : ℝ) : EReal) := by
  split
  · rw [← EReal.coe_add, sub_cc, Ideal.exp_coe]
  · rw [EReal.add_bot, EReal.bot_sub, Ideal.exp_bot, EReal.coe_zero]

/-! ## One grid point -/

/-- The blocks a grid point of head `h` and tile `t` reads. -/
structure Point (D : Data) (h : Fin 8) (t : Fin 4) (i : grid0.Coords) (x0 : Vec Ideal S2048x128 .f32) (x1 : Vec Ideal S128x128 .f32)
    (x2 : Vec Ideal S2048x128 .f32) (x3 : Vec Ideal S128x128 .f32) (x4 : Vec Ideal S2048x128 .f32) (x5 : Vec Ideal S128x128 .f32)
    (x6 : Vec Ideal S2048x128 .f32) (x7 : Vec Ideal S128x128 .f32) (x8 : Vec Ideal S2048x128 .f32) (x9 : Vec Ideal S128x128 .f32)
    (x10 : Vec Ideal S2048x128 .f32) (x11 : Vec Ideal S128x128 .f32) (x12 : Vec Ideal S1x1x128 .f32) : Prop where
  at_t : (i 1).val = t.val
  q : ∀ b r c, rows x0 b (ix2 r c) = (D.q (row (blk t b) r) h c : EReal)
  qx : ∀ r c, View.ld x1 r0_2 (ix2 r c) = (D.q (row (nextB (blk t 15)) r) h c : EReal)
  k : ∀ b r c, rows x2 b (ix2 r c) = (D.k (row (blk t b) r) h c : EReal)
  kp : ∀ r c, View.ld x3 r0_2 (ix2 r c) = (D.k (row (prevB (blk t 0)) r) h c : EReal)
  v : ∀ b r c, rows x4 b (ix2 r c) = (D.v (row (blk t b) r) h c : EReal)
  vp : ∀ r c, View.ld x5 r0_2 (ix2 r c) = (D.v (row (prevB (blk t 0)) r) h c : EReal)
  g : ∀ b r c, rows x6 b (ix2 r c) = (D.g (row (blk t b) r) h c : EReal)
  gx : ∀ r c, View.ld x7 r0_2 (ix2 r c) = (D.g (row (nextB (blk t 15)) r) h c : EReal)
  l : ∀ b r, rows x8 b (ix2 r 0) = (lse D h (row (blk t b) r) : EReal)
  lx : ∀ r, View.ld x9 r0_2 (ix2 r 0) = (lse D h (row (nextB (blk t 15)) r) : EReal)
  d : ∀ b r, rows x10 b (ix2 r 0) = (dd D h (row (blk t b) r) : EReal)
  dx : ∀ r, View.ld x11 r0_2 (ix2 r 0) = (dd D h (row (nextB (blk t 15)) r) : EReal)
  s : x12 (ix3 0 0 0) = (sl h : EReal)

variable {D : Data} {h : Fin 8} {t : Fin 4} {i : grid0.Coords} {x0 : Vec Ideal S2048x128 .f32} {x1 : Vec Ideal S128x128 .f32}
    {x2 : Vec Ideal S2048x128 .f32} {x3 : Vec Ideal S128x128 .f32} {x4 : Vec Ideal S2048x128 .f32} {x5 : Vec Ideal S128x128 .f32}
    {x6 : Vec Ideal S2048x128 .f32} {x7 : Vec Ideal S128x128 .f32} {x8 : Vec Ideal S2048x128 .f32} {x9 : Vec Ideal S128x128 .f32}
    {x10 : Vec Ideal S2048x128 .f32} {x11 : Vec Ideal S128x128 .f32} {x12 : Vec Ideal S1x1x128 .f32}
    (H : Point D h t i x0 x1 x2 x3 x4 x5 x6 x7 x8 x9 x10 x11 x12)

theorem prevB_succ (t : Fin 4) (n : ℕ) (hn : n + 1 < 16) : prevB (blk t ⟨n + 1, hn⟩) = blk t ⟨n, Nat.lt_of_succ_lt hn⟩ := by
  apply Fin.ext; show t.val * 16 + (n + 1) - 1 = t.val * 16 + n; omega

theorem before_real (x : Vec Ideal S2048x128 .f32) (y : Sq Ideal) (K : Fin 8192 → Fin 128 → ℝ)
    (hx : ∀ b r c, rows x b (ix2 r c) = (K (row (blk t b) r) c : EReal))
    (hy : ∀ r c, y (ix2 r c) = (K (row (prevB (blk t 0)) r) c : EReal)) (b : Fin 16) (r c : Fin 128) :
    before y x b (ix2 r c) = (K (row (prevB (blk t b)) r) c : EReal) := by
  obtain ⟨n, hn⟩ := b
  cases n with
  | zero => exact hy r c
  | succ n => rw [prevB_succ]; exact hx _ r c

/-- The score in the form the kernel computes it. -/
theorem prob_own (D : Data) (h : Fin 8) (B : Fin 64) (r s : Fin 128) : prob D h (row B r) (row B s)
    = if s.val ≤ r.val then Real.exp ((∑ c, D.q (row B r) h c * D.k (row B s) h c) * sc + -sl h * ((r.val : ℝ) - s.val) - lse D h (row B r)) else 0 := by
  show (if valid _ _ then _ else _) = _
  simp only [valid_own]
  split
  · have this : (((row B r).val : ℝ) - ((row B s).val : ℝ)) = (r.val : ℝ) - s.val := by rw [row_val, row_val]; push_cast; ring
    have e : score D h (row B r) (row B s) = (∑ c, D.q (row B r) h c * D.k (row B s) h c) * sc + -sl h * ((r.val : ℝ) - s.val) := by
      unfold score; rw [this]
    rw [e]
  · rfl
theorem prob_prev (D : Data) (h : Fin 8) (B : Fin 64) (hB : 0 < B.val) (r s : Fin 128) : prob D h (row B r) (row (prevB B) s)
    = if r.val ≤ s.val then Real.exp ((∑ c, D.q (row B r) h c * D.k (row (prevB B) s) h c) * sc + -sl h * ((r.val : ℝ) - s.val + 128) - lse D h (row B r)) else 0 := by
  show (if valid _ _ then _ else _) = _
  simp only [valid_prev B hB]
  split
  · have this : (((row B r).val : ℝ) - ((row (prevB B) s).val : ℝ)) = (r.val : ℝ) - s.val + 128 := by
      have e : (prevB B).val = B.val - 1 := rfl
      rw [row_val, row_val, e]; push_cast [Nat.cast_sub (show 1 ≤ B.val from hB)]; ring
    have e : score D h (row B r) (row (prevB B) s) = (∑ c, D.q (row B r) h c * D.k (row (prevB B) s) h c) * sc + -sl h * ((r.val : ℝ) - s.val + 128) := by
      unfold score; rw [this]
    rw [e]
  · rfl

/-- A key's weight, nothing where the first group has no group before it. -/
def pL (D : Data) (h : Fin 8) (B : Fin 64) (r s : Fin 128) : ℝ := if 0 < B.val then prob D h (row B r) (row (prevB B) s) else 0
def wL (D : Data) (h : Fin 8) (B : Fin 64) (r s : Fin 128) : ℝ := if 0 < B.val then w D h (row B r) (row (prevB B) s) else 0

theorem wL_eq (D : Data) (h : Fin 8) (B : Fin 64) (r s : Fin 128) : wL D h B r s
    = pL D h B r s * (∑ x, D.g (row B r) h x * D.v (row (prevB B) s) h x - dd D h (row B r)) := by
  unfold wL pL w; split
  · rfl
  · rw [zero_mul]

include H

theorem kp_real (b : Fin 16) (r c : Fin 128) : before (View.ld x3 r0_2) x2 b (ix2 r c) = (D.k (row (prevB (blk t b)) r) h c : EReal) :=
  before_real x2 (View.ld x3 r0_2) (fun j c => D.k j h c) H.k H.kp b r c
theorem vp_real (b : Fin 16) (r c : Fin 128) : before (View.ld x5 r0_2) x4 b (ix2 r c) = (D.v (row (prevB (blk t b)) r) h c : EReal) :=
  before_real x4 (View.ld x5 r0_2) (fun j c => D.v j h c) H.v H.vp b r c

theorem pr_hi (b : Fin 16) (r s : Fin 128) : pr i x0 x2 x3 x8 x12 b (ix2 r (hi s)) = (prob D h (row (blk t b) r) (row (blk t b) s) : EReal) := by
  refine (prob_at _ _ _ _ _ r (hi s)).trans ?_
  simp only [keys_hi, H.q, H.k, ← EReal.coe_mul, ← coe_sum, sc_eq, bias_hi H.s, H.l, exp_mask]
  rw [prob_own]
theorem pr_lo (b : Fin 16) (r s : Fin 128) : pr i x0 x2 x3 x8 x12 b (ix2 r (lo s)) = (pL D h (blk t b) r s : EReal) := by
  refine (prob_at _ _ _ _ _ r (lo s)).trans ?_
  simp only [keys_lo, H.q, kp_real H, ← EReal.coe_mul, ← coe_sum, sc_eq, bias_lo H.s i b r s t H.at_t, H.l, exp_mask]
  unfold pL
  by_cases hB : 0 < (blk t b).val
  · simp only [hB, true_and, if_true]; rw [prob_prev _ _ _ hB]
  · simp only [hB, false_and, if_false]

theorem ds_hi (b : Fin 16) (r s : Fin 128) : ds i x0 x2 x3 x4 x5 x6 x8 x10 x12 b (ix2 r (hi s)) = (w D h (row (blk t b) r) (row (blk t b) s) : EReal) := by
  refine (dscore_at _ _ _ _ _ _ _ _ _ r (hi s)).trans ?_
  have e := pr_hi H b r s
  have e' : Block.prob (bias i x12 b) (rows x0 b) (rows x8 b) (before (View.ld x3 r0_2) x2 b) (rows x2 b) (ix2 r (hi s)) = _ := e
  rw [e']
  simp only [keys_hi, H.g, H.v, H.d, ← EReal.coe_mul, ← coe_sum, sub_cc]
  rfl
theorem ds_lo (b : Fin 16) (r s : Fin 128) : ds i x0 x2 x3 x4 x5 x6 x8 x10 x12 b (ix2 r (lo s)) = (wL D h (blk t b) r s : EReal) := by
  refine (dscore_at _ _ _ _ _ _ _ _ _ r (lo s)).trans ?_
  have e := pr_lo H b r s
  have e' : Block.prob (bias i x12 b) (rows x0 b) (rows x8 b) (before (View.ld x3 r0_2) x2 b) (rows x2 b) (ix2 r (lo s)) = _ := e
  rw [e', wL_eq]
  simp only [keys_lo, H.g, vp_real H, H.d, ← EReal.coe_mul, ← coe_sum, sub_cc]

theorem prX_real (ht : t.val < 3) (r s : Fin 128) : probX (biasX x12) (View.ld x1 r0_2) (View.ld x9 r0_2) (rows x2 15) (ix2 r s)
    = (prob D h (row (nextB (blk t 15)) r) (row (blk t 15) s) : EReal) := by
  have hB : 0 < (nextB (blk t 15)).val := by show 0 < min _ _; omega
  have hp : prevB (nextB (blk t 15)) = blk t 15 := by
    apply Fin.ext
    show min (t.val * 16 + 15 + 1) 63 - 1 = t.val * 16 + 15
    omega
  refine (probX_at _ _ _ _ r s).trans ?_
  simp only [H.qx, H.k, ← EReal.coe_mul, ← coe_sum, sc_eq, biasX_real H.s, H.lx, exp_mask]
  have e := prob_prev D h (nextB (blk t 15)) hB r s
  rw [hp] at e
  rw [e]

theorem dsX_real (ht : t.val < 3) (r s : Fin 128) : dscoreX (biasX x12) (View.ld x1 r0_2) (View.ld x7 r0_2) (View.ld x9 r0_2) (View.ld x11 r0_2)
      (rows x2 15) (rows x4 15) (ix2 r s) = (w D h (row (nextB (blk t 15)) r) (row (blk t 15) s) : EReal) := by
  refine (dscoreX_at _ _ _ _ _ _ _ r s).trans ?_
  rw [prX_real H ht]
  simp only [H.gx, H.v, H.dx, ← EReal.coe_mul, ← coe_sum, sub_cc]
  rfl

omit H in
theorem nextK_lt (b : Fin 16) (hb : b.val < 15) : nextK i x0 x1 x2 x3 x4 x5 x6 x7 x8 x9 x10 x11 x12 b
    = prev (tn (ds i x0 x2 x3 x4 x5 x6 x8 x10 x12 (b + 1)) (rows x0 (b + 1))) := by
  fin_cases b <;> first | rfl | (exfalso; revert hb; decide)
omit H in
theorem nextV_lt (b : Fin 16) (hb : b.val < 15) : nextV i x0 x1 x2 x3 x6 x7 x8 x9 x12 b
    = prev (tn (pr i x0 x2 x3 x8 x12 (b + 1)) (rows x6 (b + 1))) := by
  fin_cases b <;> first | rfl | (exfalso; revert hb; decide)

omit H in
theorem blk_succ (t : Fin 4) (b : Fin 16) (hb : b.val < 15) : blk t (b + 1) = nextB (blk t b) ∧ 0 < (blk t (b + 1)).val
    ∧ prevB (blk t (b + 1)) = blk t b ∧ (blk t b).val < 63 := by
  have e : (b + 1).val = b.val + 1 := by
    rw [Fin.val_add]; show (b.val + 1) % 16 = _; omega
  have e2 : (blk t (b + 1)).val = t.val * 16 + (b.val + 1) := by show t.val * 16 + (b + 1).val = _; rw [e]
  have e3 : (blk t b).val = t.val * 16 + b.val := rfl
  refine ⟨Fin.ext ?_, by omega, Fin.ext ?_, by omega⟩
  · rw [e2]; show _ = min (t.val * 16 + b.val + 1) 63; omega
  · show (blk t (b + 1)).val - 1 = _; omega

theorem live_eq : live i = BitVec.ofBool (decide (t.val < 3)) := by
  show IntOp.cmpi .slt (BitVec.ofNat 32 (i 1).val) (BitVec.ofNat 32 3) = _
  rw [H.at_t, slt_small _ _ (by omega) (by omega)]

/-- What the next group's queries add to a key's gradient. -/
theorem nextK_real (b : Fin 16) (s c : Fin 128) : nextK i x0 x1 x2 x3 x4 x5 x6 x7 x8 x9 x10 x11 x12 b (ix2 s c)
    = ((if (blk t b).val < 63 then ∑ r, w D h (row (nextB (blk t b)) r) (row (blk t b) s) * D.q (row (nextB (blk t b)) r) h c else 0 : ℝ) : EReal) := by
  by_cases hb : b.val < 15
  · obtain ⟨e1, e2, e3, e4⟩ := blk_succ t b hb
    rw [nextK_lt b hb, prev_at]
    simp only [ds_lo H, H.q, ← EReal.coe_mul, ← coe_sum]
    rw [if_pos e4]
    rw [e1] at e2 e3
    simp only [wL, e1, e2, e3, if_true]
  · obtain rfl : b = 15 := by apply Fin.ext; have := b.isLt; show b.val = 15; omega
    refine (tnX_at _ _ _ s c).trans ?_
    rw [live_eq H, select_bool]
    have e : (blk t 15).val = t.val * 16 + 15 := rfl
    by_cases ht : t.val < 3
    · rw [if_pos ht, if_pos (by omega)]
      simp only [dsX_real H ht, H.qx, ← EReal.coe_mul, ← coe_sum]
    · rw [if_neg ht, if_neg (by omega)]; rfl

theorem nextV_real (b : Fin 16) (s c : Fin 128) : nextV i x0 x1 x2 x3 x6 x7 x8 x9 x12 b (ix2 s c)
    = ((if (blk t b).val < 63 then ∑ r, prob D h (row (nextB (blk t b)) r) (row (blk t b) s) * D.g (row (nextB (blk t b)) r) h c else 0 : ℝ) : EReal) := by
  by_cases hb : b.val < 15
  · obtain ⟨e1, e2, e3, e4⟩ := blk_succ t b hb
    rw [nextV_lt b hb, prev_at]
    simp only [pr_lo H, H.g, ← EReal.coe_mul, ← coe_sum]
    rw [if_pos e4]
    rw [e1] at e2 e3
    simp only [pL, e1, e2, e3, if_true]
  · obtain rfl : b = 15 := by apply Fin.ext; have := b.isLt; show b.val = 15; omega
    refine (tnX_at _ _ _ s c).trans ?_
    rw [live_eq H, select_bool]
    have e : (blk t 15).val = t.val * 16 + 15 := rfl
    by_cases ht : t.val < 3
    · rw [if_pos ht, if_pos (by omega)]
      have e5 (r : Fin 128) : truncf .bf16 (probX (biasX x12) (View.ld x1 r0_2) (View.ld x9 r0_2) (rows x2 15)) bitsLt_bf16_f32 (ix2 r s)
          = (prob D h (row (nextB (blk t 15)) r) (row (blk t 15) s) : EReal) := prX_real H ht r s
      simp only [e5, H.gx, ← EReal.coe_mul, ← coe_sum]
    · rw [if_neg ht, if_neg (by omega)]; rfl

/-! ## The three results -/

theorem dqB_real (x13 : Vec Ideal S2048x128 .f32) (b : Fin 16) (r c : Fin 128) :
    dqB i x0 x2 x3 x4 x5 x6 x8 x10 x12 x13 b (ix2 r c)
    = (((∑ j, w D h (row (blk t b) r) j * sc * D.k j h c : ℝ) : EReal) + rows x13 b (ix2 r c) : EReal) := by
  refine (dqP_at _ _ _ r c).trans ?_
  rw [sum_halves]
  simp only [ds_lo H, ds_hi H, keys_lo, keys_hi, kp_real H, H.k, ← EReal.coe_mul, ← coe_sum, sc_eq, ← EReal.coe_add]
  refine congrArg (fun z : ℝ => HAdd.hAdd (α := EReal) (β := EReal) (z : EReal) (rows x13 b (ix2 r c))) ?_
  rw [sum_key (blk t b) r (fun j => w D h (row (blk t b) r) j * sc * D.k j h c)
    (fun j hj => by rw [w_zero D h _ j hj, zero_mul, zero_mul]), add_mul, Finset.sum_mul, Finset.sum_mul]
  congr 1
  · unfold wL
    split
    · exact Finset.sum_congr rfl fun s _ => by ring
    · exact Finset.sum_eq_zero fun s _ => by ring
  · exact Finset.sum_congr rfl fun s _ => by ring

theorem dkB_real (x14 : Vec Ideal S2048x128 .f32) (b : Fin 16) (s c : Fin 128) :
    dkB i x0 x1 x2 x3 x4 x5 x6 x7 x8 x9 x10 x11 x12 x14 b (ix2 s c)
    = (((∑ a, w D h a (row (blk t b) s) * sc * D.q a h c : ℝ) : EReal) + rows x14 b (ix2 s c) : EReal) := by
  refine (dkP_at _ _ _ s c).trans ?_
  rw [own_at, nextK_real H]
  simp only [ds_hi H, H.q, ← EReal.coe_mul, ← coe_sum, sc_eq, ← EReal.coe_add]
  refine congrArg (fun z : ℝ => HAdd.hAdd (α := EReal) (β := EReal) (z : EReal) (rows x14 b (ix2 s c))) ?_
  rw [sum_query (blk t b) s (fun a => w D h a (row (blk t b) s) * sc * D.q a h c)
    (fun a ha => by rw [w_zero D h a _ ha, zero_mul, zero_mul]), add_mul, Finset.sum_mul]
  congr 1
  · exact Finset.sum_congr rfl fun r _ => by ring
  · split
    · rw [Finset.sum_mul]; exact Finset.sum_congr rfl fun r _ => by ring
    · rw [zero_mul]

theorem dvB_real (x15 : Vec Ideal S2048x128 .f32) (b : Fin 16) (s c : Fin 128) :
    dvB i x0 x1 x2 x3 x6 x7 x8 x9 x12 x15 b (ix2 s c)
    = (((∑ a, prob D h a (row (blk t b) s) * D.g a h c : ℝ) : EReal) + rows x15 b (ix2 s c) : EReal) := by
  refine (dvP_at _ _ _ s c).trans ?_
  rw [own_at, nextV_real H]
  simp only [pr_hi H, H.g, ← EReal.coe_mul, ← coe_sum, ← EReal.coe_add]
  refine congrArg (fun z : ℝ => HAdd.hAdd (α := EReal) (β := EReal) (z : EReal) (rows x15 b (ix2 s c))) ?_
  rw [sum_query (blk t b) s (fun a => prob D h a (row (blk t b) s) * D.g a h c)
    (fun a ha => by rw [prob_zero D h a _ ha, zero_mul])]

end Cert.BlockVal

end
-- ==== Proof.Arrays.lean ====
/-
  What a grid point's windows hold of the arrays the call finds, and what array the blocks it writes make.
-/
module

public import proofs.«01_k».proof.Proof.BlockVal
public import proofs.«01_k».proof.Proof.Gen.KernelIdeal.Value
public import Idealize.ShloMosaic.Lib.Pipeline.ValueKit

@[expose] public section

set_option maxRecDepth 16384

noncomputable section

namespace Cert.Arr

open Cert.KernelIdeal Cert.KernelIdeal.Gen Cert.RefRead Cert.Window Cert.Block Cert.BlockVal Idealize.ShloMosaic

/-- The head and the tile of a grid point. -/
abbrev hd (t : Fin cfg0.N) : Fin 8 := grid0.coords t 0
abbrev tl (t : Fin cfg0.N) : Fin 4 := grid0.coords t 1

theorem idx0 : ∀ t : Fin grid0.N, win0_0.index t = ![(grid0.coords t 1).val, (grid0.coords t 0).val] := by decide +kernel
theorem idx1 : ∀ t : Fin grid0.N, win0_1.index t = ![min ((grid0.coords t 1).val * 16 + 16) 63, (grid0.coords t 0).val] := by decide +kernel
theorem idx2 : ∀ t : Fin grid0.N, win0_2.index t = ![(grid0.coords t 1).val, (grid0.coords t 0).val] := by decide +kernel
theorem idx3 : ∀ t : Fin grid0.N, win0_3.index t = ![(grid0.coords t 1).val * 16 - 1, (grid0.coords t 0).val] := by decide +kernel
theorem idx4 : ∀ t : Fin grid0.N, win0_4.index t = ![(grid0.coords t 1).val, 16 + (grid0.coords t 0).val] := by decide +kernel
theorem idx5 : ∀ t : Fin grid0.N, win0_5.index t = ![(grid0.coords t 1).val * 16 - 1, 16 + (grid0.coords t 0).val] := by decide +kernel
theorem idx6 : ∀ t : Fin grid0.N, win0_6.index t = ![(grid0.coords t 1).val, (grid0.coords t 0).val] := by decide +kernel
theorem idx7 : ∀ t : Fin grid0.N, win0_7.index t = ![min ((grid0.coords t 1).val * 16 + 16) 63, (grid0.coords t 0).val] := by decide +kernel
theorem idx8 : ∀ t : Fin grid0.N, win0_8.index t = ![(grid0.coords t 1).val, (grid0.coords t 0).val] := by decide +kernel
theorem idx9 : ∀ t : Fin grid0.N, win0_9.index t = ![min ((grid0.coords t 1).val * 16 + 16) 63, (grid0.coords t 0).val] := by decide +kernel
theorem idx10 : ∀ t : Fin grid0.N, win0_10.index t = ![(grid0.coords t 1).val, (grid0.coords t 0).val] := by decide +kernel
theorem idx11 : ∀ t : Fin grid0.N, win0_11.index t = ![min ((grid0.coords t 1).val * 16 + 16) 63, (grid0.coords t 0).val] := by decide +kernel
theorem idx12 : ∀ t : Fin grid0.N, win0_12.index t = ![(grid0.coords t 0).val, 0, 0] := by decide +kernel
theorem idx13 : ∀ t : Fin grid0.N, win0_13.index t = ![(grid0.coords t 1).val, (grid0.coords t 0).val] := by decide +kernel
theorem idx14 : ∀ t : Fin grid0.N, win0_14.index t = ![(grid0.coords t 1).val, (grid0.coords t 0).val] := by decide +kernel
theorem idx15 : ∀ t : Fin grid0.N, win0_15.index t = ![(grid0.coords t 1).val, (grid0.coords t 0).val] := by decide +kernel
theorem idx16 : ∀ t : Fin grid0.N, win0_16.index t = ![(grid0.coords t 1).val, (grid0.coords t 0).val] := by decide +kernel
theorem idx17 : ∀ t : Fin grid0.N, win0_17.index t = ![(grid0.coords t 1).val, (grid0.coords t 0).val] := by decide +kernel
theorem idx18 : ∀ t : Fin grid0.N, win0_18.index t = ![(grid0.coords t 1).val, (grid0.coords t 0).val] := by decide +kernel

variable (m : (ℓ : Loc nD τ sig) → Buf (Elt Ideal) ℓ) (c : Dev nD)

theorem rows_at (x : Vec Ideal S2048x128 .f32) (b : Fin 16) (r e : Fin 128) : rows x b (ix2 r e) = x (ix2 ⟨b.val * 128 + r.val, by omega⟩ e) := by
  refine View.ld_unit_apply_of _ _ _ _ _ _ fun a => ?_
  fin_cases a
  · rfl
  · exact (Nat.zero_add _).symm

theorem full_at (x : Sq Ideal) (r e : Fin 128) : View.ld x r0_2 (ix2 r e) = x (ix2 r e) := by
  pointwise

theorem p0 (t : Fin cfg0.N) (b : Fin 16) (r e : Fin 128) :
    rows (iblk m c 0 t) b (ix2 r e) = V m c main_arg0 (ix2 (row (blk (tl t) b) r) (col (hd t) e)) := by
  rw [rows_at]
  blk_ext [iblk, idx0 t, row, blk, col]
  all_goals first | omega | (simp only [hd, tl]; omega) | (simp only [hd, tl, Fin.isValue, Fin.val_ofNat]; omega)

theorem p1 (t : Fin cfg0.N) (r e : Fin 128) :
    View.ld (iblk m c 1 t) r0_2 (ix2 r e) = V m c main_arg0 (ix2 (row (nextB (blk (tl t) 15)) r) (col (hd t) e)) := by
  rw [full_at]
  blk_ext [iblk, idx1 t, row, blk, col, nextB]
  all_goals first | omega | (simp only [hd, tl]; omega) | (simp only [hd, tl, Fin.isValue, Fin.val_ofNat]; omega)

theorem p2 (t : Fin cfg0.N) (b : Fin 16) (r e : Fin 128) :
    rows (iblk m c 2 t) b (ix2 r e) = V m c main_arg1 (ix2 (row (blk (tl t) b) r) (col (hd t) e)) := by
  rw [rows_at]
  blk_ext [iblk, idx2 t, row, blk, col]
  all_goals first | omega | (simp only [hd, tl]; omega) | (simp only [hd, tl, Fin.isValue, Fin.val_ofNat]; omega)

theorem p3 (t : Fin cfg0.N) (r e : Fin 128) :
    View.ld (iblk m c 3 t) r0_2 (ix2 r e) = V m c main_arg1 (ix2 (row (prevB (blk (tl t) 0)) r) (col (hd t) e)) := by
  rw [full_at]
  blk_ext [iblk, idx3 t, row, blk, col, prevB]
  all_goals first | omega | (simp only [hd, tl]; omega) | (simp only [hd, tl, Fin.isValue, Fin.val_ofNat]; omega)

theorem p4 (t : Fin cfg0.N) (b : Fin 16) (r e : Fin 128) :
    rows (iblk m c 4 t) b (ix2 r e) = V m c main_arg2 (ix2 (row (blk (tl t) b) r) (colV (hd t) e)) := by
  rw [rows_at]
  blk_ext [iblk, idx4 t, row, blk, colV]
  all_goals first | omega | (simp only [hd, tl]; omega) | (simp only [hd, tl, Fin.isValue, Fin.val_ofNat]; omega)

theorem p5 (t : Fin cfg0.N) (r e : Fin 128) :
    View.ld (iblk m c 5 t) r0_2 (ix2 r e) = V m c main_arg2 (ix2 (row (prevB (blk (tl t) 0)) r) (colV (hd t) e)) := by
  rw [full_at]
  blk_ext [iblk, idx5 t, row, blk, colV, prevB]
  all_goals first | omega | (simp only [hd, tl]; omega) | (simp only [hd, tl, Fin.isValue, Fin.val_ofNat]; omega)

theorem p6 (t : Fin cfg0.N) (b : Fin 16) (r e : Fin 128) :
    rows (iblk m c 6 t) b (ix2 r e) = V m c main_arg7 (ix2 (row (blk (tl t) b) r) (col (hd t) e)) := by
  rw [rows_at]
  blk_ext [iblk, idx6 t, row, blk, col]
  all_goals first | omega | (simp only [hd, tl]; omega) | (simp only [hd, tl, Fin.isValue, Fin.val_ofNat]; omega)

theorem p7 (t : Fin cfg0.N) (r e : Fin 128) :
    View.ld (iblk m c 7 t) r0_2 (ix2 r e) = V m c main_arg7 (ix2 (row (nextB (blk (tl t) 15)) r) (col (hd t) e)) := by
  rw [full_at]
  blk_ext [iblk, idx7 t, row, blk, col, nextB]
  all_goals first | omega | (simp only [hd, tl]; omega) | (simp only [hd, tl, Fin.isValue, Fin.val_ofNat]; omega)

omit m c in
theorem g8 (X : FVec Ideal S8192x1024 .f32) (t : Fin cfg0.N) (b : Fin 16) (r e : Fin 128) :
    (win0_8.blk t).view.read (Elt Ideal) X (ix2 ⟨b.val * 128 + r.val, by omega⟩ e) = X (ix2 (row (blk (tl t) b) r) (col (hd t) e)) := by
  blk_ext [idx8 t, row, blk, col]
  all_goals first | omega | (simp only [hd, tl]; omega) | (simp only [hd, tl, Fin.isValue, Fin.val_ofNat]; omega)

omit m c in
theorem g9 (X : FVec Ideal S8192x1024 .f32) (t : Fin cfg0.N) (r e : Fin 128) :
    (win0_9.blk t).view.read (Elt Ideal) X (ix2 r e) = X (ix2 (row (nextB (blk (tl t) 15)) r) (col (hd t) e)) := by
  blk_ext [idx9 t, row, blk, col, nextB]
  all_goals first | omega | (simp only [hd, tl]; omega) | (simp only [hd, tl, Fin.isValue, Fin.val_ofNat]; omega)

theorem p8 (t : Fin cfg0.N) (b : Fin 16) (r e : Fin 128) :
    rows (iblk m c 8 t) b (ix2 r e) = V m c main_v96 (ix2 (row (blk (tl t) b) r) (col (hd t) e)) :=
  (rows_at _ b r e).trans (g8 (V m c main_v96) t b r e)

theorem p9 (t : Fin cfg0.N) (r e : Fin 128) :
    View.ld (iblk m c 9 t) r0_2 (ix2 r e) = V m c main_v96 (ix2 (row (nextB (blk (tl t) 15)) r) (col (hd t) e)) :=
  (full_at _ r e).trans (g9 (V m c main_v96) t r e)

theorem p10 (t : Fin cfg0.N) (b : Fin 16) (r e : Fin 128) :
    rows (iblk m c 10 t) b (ix2 r e) = V m c main_v99 (ix2 (row (blk (tl t) b) r) (col (hd t) e)) := by
  rw [rows_at]
  blk_ext [iblk, idx10 t, row, blk, col]
  all_goals first | omega | (simp only [hd, tl]; omega) | (simp only [hd, tl, Fin.isValue, Fin.val_ofNat]; omega)

theorem p11 (t : Fin cfg0.N) (r e : Fin 128) :
    View.ld (iblk m c 11 t) r0_2 (ix2 r e) = V m c main_v99 (ix2 (row (nextB (blk (tl t) 15)) r) (col (hd t) e)) := by
  rw [full_at]
  blk_ext [iblk, idx11 t, row, blk, col, nextB]
  all_goals first | omega | (simp only [hd, tl]; omega) | (simp only [hd, tl, Fin.isValue, Fin.val_ofNat]; omega)

theorem p13 (t : Fin cfg0.N) (b : Fin 16) (r e : Fin 128) :
    rows (iblk m c 13 t) b (ix2 r e) = V m c main_arg8 (ix2 (row (blk (tl t) b) r) (col (hd t) e)) := by
  rw [rows_at]
  blk_ext [iblk, idx13 t, row, blk, col]
  all_goals first | omega | (simp only [hd, tl]; omega) | (simp only [hd, tl, Fin.isValue, Fin.val_ofNat]; omega)

theorem p14 (t : Fin cfg0.N) (b : Fin 16) (r e : Fin 128) :
    rows (iblk m c 14 t) b (ix2 r e) = V m c main_arg9 (ix2 (row (blk (tl t) b) r) (col (hd t) e)) := by
  rw [rows_at]
  blk_ext [iblk, idx14 t, row, blk, col]
  all_goals first | omega | (simp only [hd, tl]; omega) | (simp only [hd, tl, Fin.isValue, Fin.val_ofNat]; omega)

theorem p15 (t : Fin cfg0.N) (b : Fin 16) (r e : Fin 128) :
    rows (iblk m c 15 t) b (ix2 r e) = V m c main_arg10 (ix2 (row (blk (tl t) b) r) (col (hd t) e)) := by
  rw [rows_at]
  blk_ext [iblk, idx15 t, row, blk, col]
  all_goals first | omega | (simp only [hd, tl]; omega) | (simp only [hd, tl, Fin.isValue, Fin.val_ofNat]; omega)

theorem p12 (t : Fin cfg0.N) :
    iblk m c 12 t (ix3 0 0 0) = V m c main_v110 (ix3 (hd t) 0 0) := by
  blk_ext [iblk, idx12 t]
  all_goals first | omega | (simp only [hd, tl]; omega) | (simp only [hd, tl, Fin.isValue, Fin.val_ofNat]; omega)

theorem canon_at (D : Fin 16 → Sq Ideal) (b : Fin 16) (r e : Fin 128) :
    View.canon (stacked D) (ix2 ⟨b.val * 128 + r.val, by omega⟩ e) = D b (ix2 r e) := by
  have piece (k : Fin 16) (x : S128x128.Idx) (h0 : b.val * 128 + r.val = k.val * 128 + (x 0).val) (h1 : e.val = (x 1).val) : D k x = D b (ix2 r e) := by
    have hx : (x 0).val < 128 := (x 0).isLt
    obtain rfl : k = b := by apply Fin.ext; omega
    congr 1
    refine (eq_ix2 x).trans ?_
    congr 1 <;> apply Fin.ext
    · show (x 0).val = r.val; omega
    · exact h1.symm
  canon_tiles x h
  all_goals (refine piece _ x ?_ h1; refine Eq.trans h0 ?_; first | rfl | (simp only [Fin.isValue, Fin.val_ofNat]; omega) | omega)

theorem out16 (G : S8192x1024.Idx → EReal)
    (hG : ∀ t b r e, dqB (grid0.coords t) (iblk m c 0 t) (iblk m c 2 t) (iblk m c 3 t) (iblk m c 4 t) (iblk m c 5 t) (iblk m c 6 t) (iblk m c 8 t) (iblk m c 10 t) (iblk m c 12 t) (iblk m c 13 t) b (ix2 r e)
      = G (ix2 (row (blk (tl t) b) r) (col (hd t) e))) : (dats m 0 c).arrAt 16 cfg0.N = G := by
  refine (dats m 0 c).arrAt_eq_of_covers 16 _ (by decide +kernel) fun t hf y => ?_
  blk_simp
  rw [after0_16, out16_eq]
  obtain ⟨a, e, rfl⟩ : ∃ (a : Fin 2048) (e : Fin 128), y = ix2 a e := ⟨y 0, y 1, eq_ix2 y⟩
  obtain ⟨b, r, rfl⟩ : ∃ (b : Fin 16) (r : Fin 128), a = ⟨b.val * 128 + r.val, by omega⟩ :=
    ⟨⟨a.val / 128, by omega⟩, ⟨a.val % 128, by omega⟩, Fin.ext (by show a.val = a.val / 128 * 128 + a.val % 128; omega)⟩
  refine (canon_at _ b r e).trans ((hG t b r e).trans (congrArg G ?_))
  blk_ext [idx16 t, row, blk, col]
  all_goals first | omega | (simp only [hd, tl]; omega)

theorem out17 (G : S8192x1024.Idx → EReal)
    (hG : ∀ t b r e, dkB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) b (ix2 r e)
      = G (ix2 (row (blk (tl t) b) r) (col (hd t) e))) : (dats m 0 c).arrAt 17 cfg0.N = G := by
  refine (dats m 0 c).arrAt_eq_of_covers 17 _ (by decide +kernel) fun t hf y => ?_
  blk_simp
  rw [after0_17, out17_eq]
  obtain ⟨a, e, rfl⟩ : ∃ (a : Fin 2048) (e : Fin 128), y = ix2 a e := ⟨y 0, y 1, eq_ix2 y⟩
  obtain ⟨b, r, rfl⟩ : ∃ (b : Fin 16) (r : Fin 128), a = ⟨b.val * 128 + r.val, by omega⟩ :=
    ⟨⟨a.val / 128, by omega⟩, ⟨a.val % 128, by omega⟩, Fin.ext (by show a.val = a.val / 128 * 128 + a.val % 128; omega)⟩
  refine (canon_at _ b r e).trans ((hG t b r e).trans (congrArg G ?_))
  blk_ext [idx17 t, row, blk, col]
  all_goals first | omega | (simp only [hd, tl]; omega)

theorem out18 (G : S8192x1024.Idx → EReal)
    (hG : ∀ t b r e, dvB (grid0.coords t) (iblk m c 0 t) (iblk m c 1 t) (iblk m c 2 t) (iblk m c 3 t) (iblk m c 6 t) (iblk m c 7 t) (iblk m c 8 t) (iblk m c 9 t) (iblk m c 12 t) (iblk m c 15 t) b (ix2 r e)
      = G (ix2 (row (blk (tl t) b) r) (col (hd t) e))) : (dats m 0 c).arrAt 18 cfg0.N = G := by
  refine (dats m 0 c).arrAt_eq_of_covers 18 _ (by decide +kernel) fun t hf y => ?_
  blk_simp
  rw [after0_18, out18_eq]
  obtain ⟨a, e, rfl⟩ : ∃ (a : Fin 2048) (e : Fin 128), y = ix2 a e := ⟨y 0, y 1, eq_ix2 y⟩
  obtain ⟨b, r, rfl⟩ : ∃ (b : Fin 16) (r : Fin 128), a = ⟨b.val * 128 + r.val, by omega⟩ :=
    ⟨⟨a.val / 128, by omega⟩, ⟨a.val % 128, by omega⟩, Fin.ext (by show a.val = a.val / 128 * 128 + a.val % 128; omega)⟩
  refine (canon_at _ b r e).trans ((hG t b r e).trans (congrArg G ?_))
  blk_ext [idx18 t, row, blk, col]
  all_goals first | omega | (simp only [hd, tl]; omega)

end Cert.Arr

end
-- ==== Proof.Host.lean ====
/-
  What the kernel's host lines hand the call, by the reference's own intermediate arrays: both programs compute the first
  pattern's scores, its softmax and the mixture's weights by the same lines, so the arrays are the same terms.
-/
module

public import proofs.«01_k».proof.Proof.Gen.KernelIdeal.Frame
public import proofs.«01_k».proof.Proof.Gen.ReferenceIdeal.Run

@[expose] public section

set_option maxRecDepth 16384

noncomputable section

namespace Cert.HostK

open Cert.KernelIdeal Cert.KernelIdeal.Gen Idealize.ShloMosaic Idealize.ShloMosaic.StableHlo

variable {F : FTy → Type} [FloatOps F] [Named F]
variable (W : Valuation τ sig (Elt F)) (V0 : Valuation Cert.ReferenceIdeal.τ Cert.ReferenceIdeal.sig (Elt F))

/-! The last stretch of host lines, cut where an array is used more than once. -/
abbrev opsA : List (HloOp τ sig (Elt F)) := List.take 9 (hostOps0_4)
abbrev opsB : List (HloOp τ sig (Elt F)) := List.take 9 (List.drop 9 hostOps0_4)
abbrev opsN1 : List (HloOp τ sig (Elt F)) := List.take 1 (List.drop 18 hostOps0_4)
abbrev opsC : List (HloOp τ sig (Elt F)) := List.take 15 (List.drop 19 hostOps0_4)
abbrev opsD1 : List (HloOp τ sig (Elt F)) := List.take 3 (List.drop 34 hostOps0_4)
abbrev opsN2 : List (HloOp τ sig (Elt F)) := List.take 1 (List.drop 37 hostOps0_4)
abbrev opsD2 : List (HloOp τ sig (Elt F)) := List.take 4 (List.drop 38 hostOps0_4)
abbrev opsE1 : List (HloOp τ sig (Elt F)) := List.take 3 (List.drop 42 hostOps0_4)
abbrev opsN3 : List (HloOp τ sig (Elt F)) := List.take 1 (List.drop 45 hostOps0_4)
abbrev opsE2 : List (HloOp τ sig (Elt F)) := List.drop 46 hostOps0_4

/-- Three blocks on a new leading axis. -/
def cat3 (x y z : FVec F S1x8x8192 .f32) : FVec F S3x8x8192 .f32 :=
  concatenate S3x8x8192 0 [⟨S1x8x8192, x⟩, ⟨S1x8x8192, y⟩, ⟨S1x8x8192, z⟩] concatenates_S1x8x8192_S1x8x8192_S1x8x8192_S3x8x8192_d0
def cat4 (x y z : FVec F S1x8x8192x128 .f32) : FVec F S3x8x8192x128 .f32 :=
  concatenate S3x8x8192x128 0 [⟨S1x8x8192x128, x⟩, ⟨S1x8x8192x128, y⟩, ⟨S1x8x8192x128, z⟩]
    concatenates_S1x8x8192x128_S1x8x8192x128_S1x8x8192x128_S3x8x8192x128_d0

set_option maxHeartbeats 4000000 in
theorem scores (h0 : W (Proc.devRef .tc main_arg0) = V0 (Proc.devRef .tc Cert.ReferenceIdeal.main_arg0))
    (h1 : W (Proc.devRef .tc main_arg1) = V0 (Proc.devRef .tc Cert.ReferenceIdeal.main_arg1)) :
    after hostOps0_3 (after hostOps0_2 (after hostOps0_1 (after hostOps0 W))) (Proc.devRef .tc main_v40)
      = Cert.ReferenceIdeal.Value.res_main_v40_0 V0 := by
  simp only [hostOps0, hostOps0_1, hostOps0_2, hostOps0_3, TRef.binary, TRef.nullary, TRef.ternary, TRef.unary, TRef.toBuf, TRef.ofBuf, cast_eq]
  after_results_simp
  rw [h0, h1]
  rfl

/-- The first pattern's output. -/
def ownOut : FVec F S8x8192x128 .f32 := Host.divf (Cert.ReferenceIdeal.Value.res_main_v53 V0) (broadcastInDim S8x8192x128 ![0, 1, 2] bcast_S8x8192x1_S8x8192x128_0_1_2 (Cert.ReferenceIdeal.Value.res_main_v52 V0))

/-- The first pattern's log-sum. -/
def lrowArr : FVec F S8x8192 .f32 :=
  shapeCast S8x8192 (addf (Cert.ReferenceIdeal.Value.res_main_v47 V0) (Host.log (Cert.ReferenceIdeal.Value.res_main_v52 V0))) shapeCasts_S8x8192x1_S8x8192

/-- The three patterns' log-sums, stacked. -/
theorem cat3_eq : cat3 (broadcastInDim S1x8x8192 ![1, 2] bcast_S8x8192_S1x8x8192_1_2 (lrowArr V0 : FVec F S8x8192 .f32)) (broadcastInDim S1x8x8192 ![1, 2] bcast_S8x8192_S1x8x8192_1_2 (V0 (Proc.devRef .tc Cert.ReferenceIdeal.main_arg4) : FVec F S8x8192 .f32)) (broadcastInDim S1x8x8192 ![1, 2] bcast_S8x8192_S1x8x8192_1_2 (V0 (Proc.devRef .tc Cert.ReferenceIdeal.main_arg6) : FVec F S8x8192 .f32)) = Cert.ReferenceIdeal.Value.res_main_v65 V0 := rfl

/-- The three patterns' outputs, stacked. -/
theorem cat4_eq : cat4 (broadcastInDim S1x8x8192x128 ![1, 2, 3] bcast_S8x8192x128_S1x8x8192x128_1_2_3 (ownOut V0 : FVec F S8x8192x128 .f32)) (broadcastInDim S1x8x8192x128 ![1, 2, 3] bcast_S8x8192x128_S1x8x8192x128_1_2_3 (V0 (Proc.devRef .tc Cert.ReferenceIdeal.main_arg3) : FVec F S8x8192x128 .f32)) (broadcastInDim S1x8x8192x128 ![1, 2, 3] bcast_S8x8192x128_S1x8x8192x128_1_2_3 (V0 (Proc.devRef .tc Cert.ReferenceIdeal.main_arg5) : FVec F S8x8192x128 .f32)) = Cert.ReferenceIdeal.Value.res_main_v100 V0 := rfl

/-- The three patterns' mixture. -/
def mixed : FVec F S8x8192x128 .f32 :=
  Host.reduceAdd (mulf (broadcastInDim S3x8x8192x128 ![0, 1, 2, 3] bcast_S3x8x8192x1_S3x8x8192x128_0_1_2_3 (Cert.ReferenceIdeal.Value.res_main_v96 V0))
    (Cert.ReferenceIdeal.Value.res_main_v100 V0)) (constant S_ .f32 0x00000000#32) reducesTo_S3x8x8192x128_S8x8192x128_d0 h_S_

/-- The joint log-sum of every row. -/
def lseRow : FVec F S8x8192 .f32 :=
  addf (Cert.ReferenceIdeal.Value.res_main_v68 V0) (Host.log (Host.reduceAdd (Host.exp (subf (Cert.ReferenceIdeal.Value.res_main_v65 V0)
    (broadcastInDim S3x8x8192 ![0, 1, 2] bcast_S1x8x8192_S3x8x8192_0_1_2 (broadcastInDim S1x8x8192 ![1, 2] bcast_S8x8192_S1x8x8192_1_2
      (Cert.ReferenceIdeal.Value.res_main_v68 V0))))) (constant S_ .f32 0x00000000#32) reducesTo_S3x8x8192_S8x8192_d0 h_S_))

/-- The joint log-sum as the call takes it, one copy per lane. -/
def lseArr : FVec F S8192x1024 .f32 :=
  shapeCast S8192x1024 (broadcastInDim S8192x8x128 ![0, 1, 2] bcast_S8192x8x1_S8192x8x128_0_1_2 (broadcastInDim S8192x8x1 ![0, 1] bcast_S8192x8_S8192x8x1_0_1
    (transpose S8192x8 [1, 0] (lseRow V0) transposes_S8x8192_S8192x8_1_0))) shapeCasts_S8192x8x128_S8192x1024

/-- The output's product with its gradient, one copy per lane. -/
def ddArr : FVec F S8192x1024 .f32 :=
  shapeCast S8192x1024 (broadcastInDim S8192x8x128 ![0, 1, 2] bcast_S8192x8x1_S8192x8x128_0_1_2 (broadcastInDim S8192x8x1 ![0, 1] bcast_S8192x8_S8192x8x1_0_1
    (Host.reduceAdd (mulf (shapeCast S8192x8x128 (V0 (Proc.devRef .tc Cert.ReferenceIdeal.main_arg7)) shapeCasts_S8192x1024_S8192x8x128 : FVec F S8192x8x128 .f32)
      (transpose S8192x8x128 [1, 0, 2] (mixed V0) transposes_S8x8192x128_S8192x8x128_1_0_2)) (constant S_ .f32 0x00000000#32) reducesTo_S8192x8x128_S8192x8_d2 h_S_)))
    shapeCasts_S8192x8x128_S8192x1024

/-- The heads' slopes. -/
def slopeArr : FVec F S8x1x128 .f32 :=
  broadcastInDim S8x1x128 ![0, 1, 2] bcast_S8x1x1_S8x1x128_0_1_2 (broadcastInDim S8x1x1 ![0] bcast_S8_S8x1x1_0
    (Host.powf (broadcastInDim S8 ![] bcast_S_S8 (constant S_ .f32 0x40000000#32)) (Host.divf (mulf (broadcastInDim S8 ![] bcast_S_S8 (constant S_ .f32 0xC1000000#32))
      (addf (sitofp .f32 (iotaInDim S8 32 0)) (broadcastInDim S8 ![] bcast_S_S8 (constant S_ .f32 0x3F800000#32)))) (broadcastInDim S8 ![] bcast_S_S8 (constant S_ .f32 0x41000000#32)))))

set_option maxHeartbeats 4000000 in
theorem values (h2 : W (Proc.devRef .tc main_arg2) = V0 (Proc.devRef .tc Cert.ReferenceIdeal.main_arg2)) :
    after hostOps0_3 (after hostOps0_2 (after hostOps0_1 (after hostOps0 W))) (Proc.devRef .tc main_v3) = Cert.ReferenceIdeal.Value.res_main_v3 V0 := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp
  rw [h2]
  rfl

set_option maxHeartbeats 4000000 in
theorem s_arg3  :
    after hostOps0_3 (after hostOps0_2 (after hostOps0_1 (after hostOps0 W))) (Proc.devRef .tc main_arg3) = W (Proc.devRef .tc main_arg3) := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem s_arg4  :
    after hostOps0_3 (after hostOps0_2 (after hostOps0_1 (after hostOps0 W))) (Proc.devRef .tc main_arg4) = W (Proc.devRef .tc main_arg4) := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem s_arg5  :
    after hostOps0_3 (after hostOps0_2 (after hostOps0_1 (after hostOps0 W))) (Proc.devRef .tc main_arg5) = W (Proc.devRef .tc main_arg5) := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem s_arg6  :
    after hostOps0_3 (after hostOps0_2 (after hostOps0_1 (after hostOps0 W))) (Proc.devRef .tc main_arg6) = W (Proc.devRef .tc main_arg6) := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem s_arg7  :
    after hostOps0_3 (after hostOps0_2 (after hostOps0_1 (after hostOps0 W))) (Proc.devRef .tc main_arg7) = W (Proc.devRef .tc main_arg7) := by
  simp only [hostOps0, hostOps0_1, hostOps0_2, hostOps0_3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem a42 (h0 : W (Proc.devRef .tc main_v40) = Cert.ReferenceIdeal.Value.res_main_v40_0 V0) :
    after opsA W (Proc.devRef .tc main_v42) = Cert.ReferenceIdeal.Value.res_main_v47 V0 := by
  simp only [opsA, hostOps0_4, List.take_succ_cons, List.take_zero, List.drop_succ_cons, List.drop_zero, TRef.binary, TRef.nullary, TRef.ternary, TRef.unary, TRef.toBuf, TRef.ofBuf, cast_eq]
  after_results_simp
  rw [h0]
  rfl

set_option maxHeartbeats 4000000 in
theorem a45 (h0 : W (Proc.devRef .tc main_v40) = Cert.ReferenceIdeal.Value.res_main_v40_0 V0) :
    after opsA W (Proc.devRef .tc main_v45) = Cert.ReferenceIdeal.Value.res_main_v50 V0 := by
  simp only [opsA, hostOps0_4, List.take_succ_cons, List.take_zero, List.drop_succ_cons, List.drop_zero, TRef.binary, TRef.nullary, TRef.ternary, TRef.unary, TRef.toBuf, TRef.ofBuf, cast_eq]
  after_results_simp
  rw [h0]
  rfl

set_option maxHeartbeats 4000000 in
theorem a47 (h0 : W (Proc.devRef .tc main_v40) = Cert.ReferenceIdeal.Value.res_main_v40_0 V0) :
    after opsA W (Proc.devRef .tc main_v47) = Cert.ReferenceIdeal.Value.res_main_v52 V0 := by
  simp only [opsA, hostOps0_4, List.take_succ_cons, List.take_zero, List.drop_succ_cons, List.drop_zero, TRef.binary, TRef.nullary, TRef.ternary, TRef.unary, TRef.toBuf, TRef.ofBuf, cast_eq]
  after_results_simp
  rw [h0]
  rfl

set_option maxHeartbeats 4000000 in
theorem A_v3  :
    after opsA W (Proc.devRef .tc main_v3) = W (Proc.devRef .tc main_v3) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem A_arg3  :
    after opsA W (Proc.devRef .tc main_arg3) = W (Proc.devRef .tc main_arg3) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem A_arg4  :
    after opsA W (Proc.devRef .tc main_arg4) = W (Proc.devRef .tc main_arg4) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem A_arg5  :
    after opsA W (Proc.devRef .tc main_arg5) = W (Proc.devRef .tc main_arg5) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem A_arg6  :
    after opsA W (Proc.devRef .tc main_arg6) = W (Proc.devRef .tc main_arg6) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem A_arg7  :
    after opsA W (Proc.devRef .tc main_arg7) = W (Proc.devRef .tc main_arg7) := by
  simp only [opsA, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem b50 (h0 : W (Proc.devRef .tc main_v45) = Cert.ReferenceIdeal.Value.res_main_v50 V0) (h1 : W (Proc.devRef .tc main_v47) = Cert.ReferenceIdeal.Value.res_main_v52 V0) (h2 : W (Proc.devRef .tc main_v3) = Cert.ReferenceIdeal.Value.res_main_v3 V0) :
    after opsB W (Proc.devRef .tc main_v50) = ownOut V0 := by
  simp only [opsB, hostOps0_4, List.take_succ_cons, List.take_zero, List.drop_succ_cons, List.drop_zero, TRef.binary, TRef.nullary, TRef.ternary, TRef.unary, TRef.toBuf, TRef.ofBuf, cast_eq]
  after_results_simp
  rw [h0, h1, h2]
  rfl

set_option maxHeartbeats 4000000 in
theorem b53 (h0 : W (Proc.devRef .tc main_v42) = Cert.ReferenceIdeal.Value.res_main_v47 V0) (h1 : W (Proc.devRef .tc main_v47) = Cert.ReferenceIdeal.Value.res_main_v52 V0) :
    after opsB W (Proc.devRef .tc main_v53) = lrowArr V0 := by
  simp only [opsB, hostOps0_4, List.take_succ_cons, List.take_zero, List.drop_succ_cons, List.drop_zero, TRef.binary, TRef.nullary, TRef.ternary, TRef.unary, TRef.toBuf, TRef.ofBuf, cast_eq]
  after_results_simp
  rw [h0, h1]
  rfl

set_option maxHeartbeats 4000000 in
theorem b54 (h0 : W (Proc.devRef .tc main_v42) = Cert.ReferenceIdeal.Value.res_main_v47 V0) (h1 : W (Proc.devRef .tc main_v47) = Cert.ReferenceIdeal.Value.res_main_v52 V0) :
    after opsB W (Proc.devRef .tc main_v54) = broadcastInDim S1x8x8192 ![1, 2] bcast_S8x8192_S1x8x8192_1_2 (lrowArr V0 : FVec F S8x8192 .f32) := by
  simp only [opsB, hostOps0_4, List.take_succ_cons, List.take_zero, List.drop_succ_cons, List.drop_zero, TRef.binary, TRef.nullary, TRef.ternary, TRef.unary, TRef.toBuf, TRef.ofBuf, cast_eq]
  after_results_simp
  rw [h0, h1]
  rfl

set_option maxHeartbeats 4000000 in
theorem b55 (h4 : W (Proc.devRef .tc main_arg4) = V0 (Proc.devRef .tc Cert.ReferenceIdeal.main_arg4)) :
    after opsB W (Proc.devRef .tc main_v55) = broadcastInDim S1x8x8192 ![1, 2] bcast_S8x8192_S1x8x8192_1_2 (V0 (Proc.devRef .tc Cert.ReferenceIdeal.main_arg4) : FVec F S8x8192 .f32) := by
  simp only [opsB, hostOps0_4, List.take_succ_cons, List.take_zero, List.drop_succ_cons, List.drop_zero, TRef.binary, TRef.nullary, TRef.ternary, TRef.unary, TRef.toBuf, TRef.ofBuf, cast_eq]
  after_results_simp
  rw [h4]

set_option maxHeartbeats 4000000 in
theorem b56 (h4 : W (Proc.devRef .tc main_arg6) = V0 (Proc.devRef .tc Cert.ReferenceIdeal.main_arg6)) :
    after opsB W (Proc.devRef .tc main_v56) = broadcastInDim S1x8x8192 ![1, 2] bcast_S8x8192_S1x8x8192_1_2 (V0 (Proc.devRef .tc Cert.ReferenceIdeal.main_arg6) : FVec F S8x8192 .f32) := by
  simp only [opsB, hostOps0_4, List.take_succ_cons, List.take_zero, List.drop_succ_cons, List.drop_zero, TRef.binary, TRef.nullary, TRef.ternary, TRef.unary, TRef.toBuf, TRef.ofBuf, cast_eq]
  after_results_simp
  rw [h4]

set_option maxHeartbeats 4000000 in
theorem B_arg3  :
    after opsB W (Proc.devRef .tc main_arg3) = W (Proc.devRef .tc main_arg3) := by
  simp only [opsB, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem B_arg4  :
    after opsB W (Proc.devRef .tc main_arg4) = W (Proc.devRef .tc main_arg4) := by
  simp only [opsB, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem B_arg5  :
    after opsB W (Proc.devRef .tc main_arg5) = W (Proc.devRef .tc main_arg5) := by
  simp only [opsB, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem B_arg6  :
    after opsB W (Proc.devRef .tc main_arg6) = W (Proc.devRef .tc main_arg6) := by
  simp only [opsB, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem B_arg7  :
    after opsB W (Proc.devRef .tc main_arg7) = W (Proc.devRef .tc main_arg7) := by
  simp only [opsB, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem n57  :
    after opsN1 W (Proc.devRef .tc main_v57) = cat3 (W (Proc.devRef .tc main_v54)) (W (Proc.devRef .tc main_v55)) (W (Proc.devRef .tc main_v56)) := by
  simp only [opsN1, hostOps0_4, List.take_succ_cons, List.take_zero, List.drop_succ_cons, List.drop_zero, TRef.binary, TRef.nullary, TRef.ternary, TRef.unary, TRef.toBuf, TRef.ofBuf, cast_eq]
  after_results_simp
  rfl

set_option maxHeartbeats 4000000 in
theorem N1_v50  :
    after opsN1 W (Proc.devRef .tc main_v50) = W (Proc.devRef .tc main_v50) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_v53  :
    after opsN1 W (Proc.devRef .tc main_v53) = W (Proc.devRef .tc main_v53) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_arg3  :
    after opsN1 W (Proc.devRef .tc main_arg3) = W (Proc.devRef .tc main_arg3) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_arg4  :
    after opsN1 W (Proc.devRef .tc main_arg4) = W (Proc.devRef .tc main_arg4) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_arg5  :
    after opsN1 W (Proc.devRef .tc main_arg5) = W (Proc.devRef .tc main_arg5) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_arg6  :
    after opsN1 W (Proc.devRef .tc main_arg6) = W (Proc.devRef .tc main_arg6) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N1_arg7  :
    after opsN1 W (Proc.devRef .tc main_arg7) = W (Proc.devRef .tc main_arg7) := by
  simp only [opsN1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem c69 (h0 : W (Proc.devRef .tc main_v57) = Cert.ReferenceIdeal.Value.res_main_v65 V0) :
    after opsC W (Proc.devRef .tc main_v69) = Cert.ReferenceIdeal.Value.res_main_v96 V0 := by
  simp only [opsC, hostOps0_4, List.take_succ_cons, List.take_zero, List.drop_succ_cons, List.drop_zero, TRef.binary, TRef.nullary, TRef.ternary, TRef.unary, TRef.toBuf, TRef.ofBuf, cast_eq]
  after_results_simp
  rw [h0]
  rfl

set_option maxHeartbeats 4000000 in
theorem C_v50  :
    after opsC W (Proc.devRef .tc main_v50) = W (Proc.devRef .tc main_v50) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_v53  :
    after opsC W (Proc.devRef .tc main_v53) = W (Proc.devRef .tc main_v53) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_arg3  :
    after opsC W (Proc.devRef .tc main_arg3) = W (Proc.devRef .tc main_arg3) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_arg4  :
    after opsC W (Proc.devRef .tc main_arg4) = W (Proc.devRef .tc main_arg4) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_arg5  :
    after opsC W (Proc.devRef .tc main_arg5) = W (Proc.devRef .tc main_arg5) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_arg6  :
    after opsC W (Proc.devRef .tc main_arg6) = W (Proc.devRef .tc main_arg6) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem C_arg7  :
    after opsC W (Proc.devRef .tc main_arg7) = W (Proc.devRef .tc main_arg7) := by
  simp only [opsC, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem d70 (h0 : W (Proc.devRef .tc main_v50) = ownOut V0) :
    after opsD1 W (Proc.devRef .tc main_v70) = broadcastInDim S1x8x8192x128 ![1, 2, 3] bcast_S8x8192x128_S1x8x8192x128_1_2_3 (ownOut V0 : FVec F S8x8192x128 .f32) := by
  simp only [opsD1, hostOps0_4, List.take_succ_cons, List.take_zero, List.drop_succ_cons, List.drop_zero, TRef.binary, TRef.nullary, TRef.ternary, TRef.unary, TRef.toBuf, TRef.ofBuf, cast_eq]
  after_results_simp
  rw [h0]

set_option maxHeartbeats 4000000 in
theorem d71 (h0 : W (Proc.devRef .tc main_arg3) = V0 (Proc.devRef .tc Cert.ReferenceIdeal.main_arg3)) :
    after opsD1 W (Proc.devRef .tc main_v71) = broadcastInDim S1x8x8192x128 ![1, 2, 3] bcast_S8x8192x128_S1x8x8192x128_1_2_3 (V0 (Proc.devRef .tc Cert.ReferenceIdeal.main_arg3) : FVec F S8x8192x128 .f32) := by
  simp only [opsD1, hostOps0_4, List.take_succ_cons, List.take_zero, List.drop_succ_cons, List.drop_zero, TRef.binary, TRef.nullary, TRef.ternary, TRef.unary, TRef.toBuf, TRef.ofBuf, cast_eq]
  after_results_simp
  rw [h0]

set_option maxHeartbeats 4000000 in
theorem d72 (h0 : W (Proc.devRef .tc main_arg5) = V0 (Proc.devRef .tc Cert.ReferenceIdeal.main_arg5)) :
    after opsD1 W (Proc.devRef .tc main_v72) = broadcastInDim S1x8x8192x128 ![1, 2, 3] bcast_S8x8192x128_S1x8x8192x128_1_2_3 (V0 (Proc.devRef .tc Cert.ReferenceIdeal.main_arg5) : FVec F S8x8192x128 .f32) := by
  simp only [opsD1, hostOps0_4, List.take_succ_cons, List.take_zero, List.drop_succ_cons, List.drop_zero, TRef.binary, TRef.nullary, TRef.ternary, TRef.unary, TRef.toBuf, TRef.ofBuf, cast_eq]
  after_results_simp
  rw [h0]

set_option maxHeartbeats 4000000 in
theorem D1_v53  :
    after opsD1 W (Proc.devRef .tc main_v53) = W (Proc.devRef .tc main_v53) := by
  simp only [opsD1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D1_v69  :
    after opsD1 W (Proc.devRef .tc main_v69) = W (Proc.devRef .tc main_v69) := by
  simp only [opsD1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D1_arg4  :
    after opsD1 W (Proc.devRef .tc main_arg4) = W (Proc.devRef .tc main_arg4) := by
  simp only [opsD1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D1_arg6  :
    after opsD1 W (Proc.devRef .tc main_arg6) = W (Proc.devRef .tc main_arg6) := by
  simp only [opsD1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D1_arg7  :
    after opsD1 W (Proc.devRef .tc main_arg7) = W (Proc.devRef .tc main_arg7) := by
  simp only [opsD1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem n73  :
    after opsN2 W (Proc.devRef .tc main_v73) = cat4 (W (Proc.devRef .tc main_v70)) (W (Proc.devRef .tc main_v71)) (W (Proc.devRef .tc main_v72)) := by
  simp only [opsN2, hostOps0_4, List.take_succ_cons, List.take_zero, List.drop_succ_cons, List.drop_zero, TRef.binary, TRef.nullary, TRef.ternary, TRef.unary, TRef.toBuf, TRef.ofBuf, cast_eq]
  after_results_simp
  rfl

set_option maxHeartbeats 4000000 in
theorem N2_v53  :
    after opsN2 W (Proc.devRef .tc main_v53) = W (Proc.devRef .tc main_v53) := by
  simp only [opsN2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N2_v69  :
    after opsN2 W (Proc.devRef .tc main_v69) = W (Proc.devRef .tc main_v69) := by
  simp only [opsN2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N2_arg4  :
    after opsN2 W (Proc.devRef .tc main_arg4) = W (Proc.devRef .tc main_arg4) := by
  simp only [opsN2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N2_arg6  :
    after opsN2 W (Proc.devRef .tc main_arg6) = W (Proc.devRef .tc main_arg6) := by
  simp only [opsN2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N2_arg7  :
    after opsN2 W (Proc.devRef .tc main_arg7) = W (Proc.devRef .tc main_arg7) := by
  simp only [opsN2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem d76 (h0 : W (Proc.devRef .tc main_v69) = Cert.ReferenceIdeal.Value.res_main_v96 V0) (h1 : W (Proc.devRef .tc main_v73) = Cert.ReferenceIdeal.Value.res_main_v100 V0) :
    after opsD2 W (Proc.devRef .tc main_v76) = mixed V0 := by
  simp only [opsD2, hostOps0_4, List.take_succ_cons, List.take_zero, List.drop_succ_cons, List.drop_zero, TRef.binary, TRef.nullary, TRef.ternary, TRef.unary, TRef.toBuf, TRef.ofBuf, cast_eq]
  after_results_simp
  rw [h0, h1]
  rfl

set_option maxHeartbeats 4000000 in
theorem D2_v53  :
    after opsD2 W (Proc.devRef .tc main_v53) = W (Proc.devRef .tc main_v53) := by
  simp only [opsD2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D2_arg4  :
    after opsD2 W (Proc.devRef .tc main_arg4) = W (Proc.devRef .tc main_arg4) := by
  simp only [opsD2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D2_arg6  :
    after opsD2 W (Proc.devRef .tc main_arg6) = W (Proc.devRef .tc main_arg6) := by
  simp only [opsD2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem D2_arg7  :
    after opsD2 W (Proc.devRef .tc main_arg7) = W (Proc.devRef .tc main_arg7) := by
  simp only [opsD2, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem e77 (h0 : W (Proc.devRef .tc main_v53) = lrowArr V0) :
    after opsE1 W (Proc.devRef .tc main_v77) = broadcastInDim S1x8x8192 ![1, 2] bcast_S8x8192_S1x8x8192_1_2 (lrowArr V0 : FVec F S8x8192 .f32) := by
  simp only [opsE1, hostOps0_4, List.take_succ_cons, List.take_zero, List.drop_succ_cons, List.drop_zero, TRef.binary, TRef.nullary, TRef.ternary, TRef.unary, TRef.toBuf, TRef.ofBuf, cast_eq]
  after_results_simp
  rw [h0]

set_option maxHeartbeats 4000000 in
theorem e78 (h4 : W (Proc.devRef .tc main_arg4) = V0 (Proc.devRef .tc Cert.ReferenceIdeal.main_arg4)) :
    after opsE1 W (Proc.devRef .tc main_v78) = broadcastInDim S1x8x8192 ![1, 2] bcast_S8x8192_S1x8x8192_1_2 (V0 (Proc.devRef .tc Cert.ReferenceIdeal.main_arg4) : FVec F S8x8192 .f32) := by
  simp only [opsE1, hostOps0_4, List.take_succ_cons, List.take_zero, List.drop_succ_cons, List.drop_zero, TRef.binary, TRef.nullary, TRef.ternary, TRef.unary, TRef.toBuf, TRef.ofBuf, cast_eq]
  after_results_simp
  rw [h4]

set_option maxHeartbeats 4000000 in
theorem e79 (h4 : W (Proc.devRef .tc main_arg6) = V0 (Proc.devRef .tc Cert.ReferenceIdeal.main_arg6)) :
    after opsE1 W (Proc.devRef .tc main_v79) = broadcastInDim S1x8x8192 ![1, 2] bcast_S8x8192_S1x8x8192_1_2 (V0 (Proc.devRef .tc Cert.ReferenceIdeal.main_arg6) : FVec F S8x8192 .f32) := by
  simp only [opsE1, hostOps0_4, List.take_succ_cons, List.take_zero, List.drop_succ_cons, List.drop_zero, TRef.binary, TRef.nullary, TRef.ternary, TRef.unary, TRef.toBuf, TRef.ofBuf, cast_eq]
  after_results_simp
  rw [h4]

set_option maxHeartbeats 4000000 in
theorem E1_v76  :
    after opsE1 W (Proc.devRef .tc main_v76) = W (Proc.devRef .tc main_v76) := by
  simp only [opsE1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem E1_arg7  :
    after opsE1 W (Proc.devRef .tc main_arg7) = W (Proc.devRef .tc main_arg7) := by
  simp only [opsE1, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem n80  :
    after opsN3 W (Proc.devRef .tc main_v80) = cat3 (W (Proc.devRef .tc main_v77)) (W (Proc.devRef .tc main_v78)) (W (Proc.devRef .tc main_v79)) := by
  simp only [opsN3, hostOps0_4, List.take_succ_cons, List.take_zero, List.drop_succ_cons, List.drop_zero, TRef.binary, TRef.nullary, TRef.ternary, TRef.unary, TRef.toBuf, TRef.ofBuf, cast_eq]
  after_results_simp
  rfl

set_option maxHeartbeats 4000000 in
theorem N3_v76  :
    after opsN3 W (Proc.devRef .tc main_v76) = W (Proc.devRef .tc main_v76) := by
  simp only [opsN3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem N3_arg7  :
    after opsN3 W (Proc.devRef .tc main_arg7) = W (Proc.devRef .tc main_arg7) := by
  simp only [opsN3, hostOps0_4, List.take_succ_cons, List.take_zero, List.drop_succ_cons, List.drop_zero, TRef.binary, TRef.nullary, TRef.ternary, TRef.unary, TRef.toBuf, TRef.ofBuf, cast_eq]
  after_results_simp

set_option maxHeartbeats 4000000 in
theorem e96 (h0 : W (Proc.devRef .tc main_v80) = Cert.ReferenceIdeal.Value.res_main_v65 V0) :
    after opsE2 W (Proc.devRef .tc main_v96) = lseArr V0 := by
  simp only [opsE2, hostOps0_4, List.take_succ_cons, List.take_zero, List.drop_succ_cons, List.drop_zero, TRef.binary, TRef.nullary, TRef.ternary, TRef.unary, TRef.toBuf, TRef.ofBuf, cast_eq]
  after_results_simp
  rw [h0]
  rfl

set_option maxHeartbeats 4000000 in
theorem e99 (h0 : W (Proc.devRef .tc main_v76) = mixed V0) (h7 : W (Proc.devRef .tc main_arg7) = V0 (Proc.devRef .tc Cert.ReferenceIdeal.main_arg7)) :
    after opsE2 W (Proc.devRef .tc main_v99) = ddArr V0 := by
  simp only [opsE2, hostOps0_4, List.take_succ_cons, List.take_zero, List.drop_succ_cons, List.drop_zero, TRef.binary, TRef.nullary, TRef.ternary, TRef.unary, TRef.toBuf, TRef.ofBuf, cast_eq]
  after_results_simp
  rw [h0, h7]
  rfl

set_option maxHeartbeats 4000000 in
theorem e110  :
    after opsE2 W (Proc.devRef .tc main_v110) = slopeArr := by
  simp only [opsE2, hostOps0_4, List.take_succ_cons, List.take_zero, List.drop_succ_cons, List.drop_zero, TRef.binary, TRef.nullary, TRef.ternary, TRef.unary, TRef.toBuf, TRef.ofBuf, cast_eq]
  after_results_simp
  rfl

end Cert.HostK

end
-- ==== Proof.HostV.lean ====
/-
  The three arrays the kernel's host lines make for the call, as the call finds them.
-/
module

public import proofs.«01_k».proof.Proof.Host

@[expose] public section

set_option maxRecDepth 16384

noncomputable section

namespace Cert.HostK

open Cert.KernelIdeal Cert.KernelIdeal.Gen Idealize.ShloMosaic Idealize.ShloMosaic.StableHlo

variable {F : FTy → Type} [FloatOps F] [Named F]
variable (W : Valuation τ sig (Elt F)) (V0 : Valuation Cert.ReferenceIdeal.τ Cert.ReferenceIdeal.sig (Elt F))

/-- The valuations after each stretch. -/
def W0 := after hostOps0_3 (after hostOps0_2 (after hostOps0_1 (after hostOps0 W)))
def W1 := after opsA (W0 W)
def W2 := after opsB (W1 W)
def W3 := after opsN1 (W2 W)
def W4 := after opsC (W3 W)
def W5 := after opsD1 (W4 W)
def W6 := after opsN2 (W5 W)
def W7 := after opsD2 (W6 W)
def W8 := after opsE1 (W7 W)
def W9 := after opsN3 (W8 W)
def W10 := after opsE2 (W9 W)

theorem drop_cut {α : Type*} (l : List α) (a b : ℕ) : List.drop a l = List.take b (List.drop a l) ++ List.drop (a + b) l := by
  rw [← List.drop_drop, List.take_append_drop]

/-- A list of operations run in ten pieces. -/
theorem after_cut (l : List (HloOp τ sig (Elt F))) : after l W
    = after (List.drop 46 l) (after (List.take 1 (List.drop 45 l)) (after (List.take 3 (List.drop 42 l)) (after (List.take 4 (List.drop 38 l))
      (after (List.take 1 (List.drop 37 l)) (after (List.take 3 (List.drop 34 l)) (after (List.take 15 (List.drop 19 l))
        (after (List.take 1 (List.drop 18 l)) (after (List.take 9 (List.drop 9 l)) (after (List.take 9 l) W))))))))) := by
  have e : l = List.take 9 l ++ (List.take 9 (List.drop 9 l) ++ (List.take 1 (List.drop 18 l) ++ (List.take 15 (List.drop 19 l)
      ++ (List.take 3 (List.drop 34 l) ++ (List.take 1 (List.drop 37 l) ++ (List.take 4 (List.drop 38 l) ++ (List.take 3 (List.drop 42 l)
      ++ (List.take 1 (List.drop 45 l) ++ List.drop 46 l)))))))) := by
    rw [← drop_cut l 45 1, ← drop_cut l 42 3, ← drop_cut l 38 4, ← drop_cut l 37 1, ← drop_cut l 34 3, ← drop_cut l 19 15,
      ← drop_cut l 18 1, ← drop_cut l 9 9, List.take_append_drop]
  conv_lhs => rw [e]
  simp only [StableHlo.after_append]

theorem after_five (a b c d e : List (HloOp τ sig (Elt F))) :
    after (List.flatten [a, b, c, d, e]) W = after e (after d (after c (after b (after a W)))) := by
  simp only [List.flatten_cons, List.flatten_nil, List.append_nil, StableHlo.after_append]

theorem after_all : after (List.flatten [hostOps0, hostOps0_1, hostOps0_2, hostOps0_3, hostOps0_4]) W = W10 W :=
  (after_five W hostOps0 hostOps0_1 hostOps0_2 hostOps0_3 hostOps0_4).trans (after_cut (W0 W) hostOps0_4)

/-- The arguments the host lines read are the reference's. -/
def Args : Prop :=
  W (Proc.devRef .tc main_arg0) = V0 (Proc.devRef .tc Cert.ReferenceIdeal.main_arg0)
    ∧ W (Proc.devRef .tc main_arg1) = V0 (Proc.devRef .tc Cert.ReferenceIdeal.main_arg1)
    ∧ W (Proc.devRef .tc main_arg2) = V0 (Proc.devRef .tc Cert.ReferenceIdeal.main_arg2)
    ∧ W (Proc.devRef .tc main_arg3) = V0 (Proc.devRef .tc Cert.ReferenceIdeal.main_arg3)
    ∧ W (Proc.devRef .tc main_arg4) = V0 (Proc.devRef .tc Cert.ReferenceIdeal.main_arg4)
    ∧ W (Proc.devRef .tc main_arg5) = V0 (Proc.devRef .tc Cert.ReferenceIdeal.main_arg5)
    ∧ W (Proc.devRef .tc main_arg6) = V0 (Proc.devRef .tc Cert.ReferenceIdeal.main_arg6)
    ∧ W (Proc.devRef .tc main_arg7) = V0 (Proc.devRef .tc Cert.ReferenceIdeal.main_arg7)

theorem Args.a0 {W : Valuation τ sig (Elt F)} {V0 : Valuation Cert.ReferenceIdeal.τ Cert.ReferenceIdeal.sig (Elt F)} (H : Args W V0) : W (Proc.devRef .tc main_arg0) = V0 (Proc.devRef .tc Cert.ReferenceIdeal.main_arg0) := H.1
theorem Args.a1 {W : Valuation τ sig (Elt F)} {V0 : Valuation Cert.ReferenceIdeal.τ Cert.ReferenceIdeal.sig (Elt F)} (H : Args W V0) : W (Proc.devRef .tc main_arg1) = V0 (Proc.devRef .tc Cert.ReferenceIdeal.main_arg1) := H.2.1
theorem Args.a2 {W : Valuation τ sig (Elt F)} {V0 : Valuation Cert.ReferenceIdeal.τ Cert.ReferenceIdeal.sig (Elt F)} (H : Args W V0) : W (Proc.devRef .tc main_arg2) = V0 (Proc.devRef .tc Cert.ReferenceIdeal.main_arg2) := H.2.2.1
theorem Args.a3 {W : Valuation τ sig (Elt F)} {V0 : Valuation Cert.ReferenceIdeal.τ Cert.ReferenceIdeal.sig (Elt F)} (H : Args W V0) : W (Proc.devRef .tc main_arg3) = V0 (Proc.devRef .tc Cert.ReferenceIdeal.main_arg3) := H.2.2.2.1
theorem Args.a4 {W : Valuation τ sig (Elt F)} {V0 : Valuation Cert.ReferenceIdeal.τ Cert.ReferenceIdeal.sig (Elt F)} (H : Args W V0) : W (Proc.devRef .tc main_arg4) = V0 (Proc.devRef .tc Cert.ReferenceIdeal.main_arg4) := H.2.2.2.2.1
theorem Args.a5 {W : Valuation τ sig (Elt F)} {V0 : Valuation Cert.ReferenceIdeal.τ Cert.ReferenceIdeal.sig (Elt F)} (H : Args W V0) : W (Proc.devRef .tc main_arg5) = V0 (Proc.devRef .tc Cert.ReferenceIdeal.main_arg5) := H.2.2.2.2.2.1
theorem Args.a6 {W : Valuation τ sig (Elt F)} {V0 : Valuation Cert.ReferenceIdeal.τ Cert.ReferenceIdeal.sig (Elt F)} (H : Args W V0) : W (Proc.devRef .tc main_arg6) = V0 (Proc.devRef .tc Cert.ReferenceIdeal.main_arg6) := H.2.2.2.2.2.2.1
theorem Args.a7 {W : Valuation τ sig (Elt F)} {V0 : Valuation Cert.ReferenceIdeal.τ Cert.ReferenceIdeal.sig (Elt F)} (H : Args W V0) : W (Proc.devRef .tc main_arg7) = V0 (Proc.devRef .tc Cert.ReferenceIdeal.main_arg7) := H.2.2.2.2.2.2.2

variable {W V0} (H : Args W V0)
include H

theorem w0_3 : W0 W (Proc.devRef .tc main_arg3) = V0 (Proc.devRef .tc Cert.ReferenceIdeal.main_arg3) := (s_arg3 W).trans H.a3
theorem w0_4 : W0 W (Proc.devRef .tc main_arg4) = V0 (Proc.devRef .tc Cert.ReferenceIdeal.main_arg4) := (s_arg4 W).trans H.a4
theorem w0_5 : W0 W (Proc.devRef .tc main_arg5) = V0 (Proc.devRef .tc Cert.ReferenceIdeal.main_arg5) := (s_arg5 W).trans H.a5
theorem w0_6 : W0 W (Proc.devRef .tc main_arg6) = V0 (Proc.devRef .tc Cert.ReferenceIdeal.main_arg6) := (s_arg6 W).trans H.a6
theorem w0_7 : W0 W (Proc.devRef .tc main_arg7) = V0 (Proc.devRef .tc Cert.ReferenceIdeal.main_arg7) := (s_arg7 W).trans H.a7
theorem w0_v3 : W0 W (Proc.devRef .tc main_v3) = Cert.ReferenceIdeal.Value.res_main_v3 V0 := values W V0 H.a2
theorem w0_v40 : W0 W (Proc.devRef .tc main_v40) = Cert.ReferenceIdeal.Value.res_main_v40_0 V0 := scores W V0 H.a0 H.a1
theorem w1_3 : W1 W (Proc.devRef .tc main_arg3) = V0 (Proc.devRef .tc Cert.ReferenceIdeal.main_arg3) := (A_arg3 (W0 W)).trans (w0_3 H)
theorem w1_4 : W1 W (Proc.devRef .tc main_arg4) = V0 (Proc.devRef .tc Cert.ReferenceIdeal.main_arg4) := (A_arg4 (W0 W)).trans (w0_4 H)
theorem w1_5 : W1 W (Proc.devRef .tc main_arg5) = V0 (Proc.devRef .tc Cert.ReferenceIdeal.main_arg5) := (A_arg5 (W0 W)).trans (w0_5 H)
theorem w1_6 : W1 W (Proc.devRef .tc main_arg6) = V0 (Proc.devRef .tc Cert.ReferenceIdeal.main_arg6) := (A_arg6 (W0 W)).trans (w0_6 H)
theorem w1_7 : W1 W (Proc.devRef .tc main_arg7) = V0 (Proc.devRef .tc Cert.ReferenceIdeal.main_arg7) := (A_arg7 (W0 W)).trans (w0_7 H)
theorem w1_v3 : W1 W (Proc.devRef .tc main_v3) = Cert.ReferenceIdeal.Value.res_main_v3 V0 := (A_v3 (W0 W)).trans (w0_v3 H)
theorem w1_v42 : W1 W (Proc.devRef .tc main_v42) = Cert.ReferenceIdeal.Value.res_main_v47 V0 := a42 (W0 W) V0 (w0_v40 H)
theorem w1_v45 : W1 W (Proc.devRef .tc main_v45) = Cert.ReferenceIdeal.Value.res_main_v50 V0 := a45 (W0 W) V0 (w0_v40 H)
theorem w1_v47 : W1 W (Proc.devRef .tc main_v47) = Cert.ReferenceIdeal.Value.res_main_v52 V0 := a47 (W0 W) V0 (w0_v40 H)
theorem w2_3 : W2 W (Proc.devRef .tc main_arg3) = V0 (Proc.devRef .tc Cert.ReferenceIdeal.main_arg3) := (B_arg3 (W1 W)).trans (w1_3 H)
theorem w2_4 : W2 W (Proc.devRef .tc main_arg4) = V0 (Proc.devRef .tc Cert.ReferenceIdeal.main_arg4) := (B_arg4 (W1 W)).trans (w1_4 H)
theorem w2_5 : W2 W (Proc.devRef .tc main_arg5) = V0 (Proc.devRef .tc Cert.ReferenceIdeal.main_arg5) := (B_arg5 (W1 W)).trans (w1_5 H)
theorem w2_6 : W2 W (Proc.devRef .tc main_arg6) = V0 (Proc.devRef .tc Cert.ReferenceIdeal.main_arg6) := (B_arg6 (W1 W)).trans (w1_6 H)
theorem w2_7 : W2 W (Proc.devRef .tc main_arg7) = V0 (Proc.devRef .tc Cert.ReferenceIdeal.main_arg7) := (B_arg7 (W1 W)).trans (w1_7 H)
theorem w2_v50 : W2 W (Proc.devRef .tc main_v50) = ownOut V0 := b50 (W1 W) V0 (w1_v45 H) (w1_v47 H) (w1_v3 H)
theorem w2_v53 : W2 W (Proc.devRef .tc main_v53) = lrowArr V0 := b53 (W1 W) V0 (w1_v42 H) (w1_v47 H)
theorem w2_v54 : W2 W (Proc.devRef .tc main_v54) = broadcastInDim S1x8x8192 ![1, 2] bcast_S8x8192_S1x8x8192_1_2 (lrowArr V0 : FVec F S8x8192 .f32) := b54 (W1 W) V0 (w1_v42 H) (w1_v47 H)
theorem w2_v55 : W2 W (Proc.devRef .tc main_v55) = broadcastInDim S1x8x8192 ![1, 2] bcast_S8x8192_S1x8x8192_1_2 (V0 (Proc.devRef .tc Cert.ReferenceIdeal.main_arg4) : FVec F S8x8192 .f32) := b55 (W1 W) V0 (w1_4 H)
theorem w2_v56 : W2 W (Proc.devRef .tc main_v56) = broadcastInDim S1x8x8192 ![1, 2] bcast_S8x8192_S1x8x8192_1_2 (V0 (Proc.devRef .tc Cert.ReferenceIdeal.main_arg6) : FVec F S8x8192 .f32) := b56 (W1 W) V0 (w1_6 H)
theorem w3_3 : W3 W (Proc.devRef .tc main_arg3) = V0 (Proc.devRef .tc Cert.ReferenceIdeal.main_arg3) := (N1_arg3 (W2 W)).trans (w2_3 H)
theorem w3_4 : W3 W (Proc.devRef .tc main_arg4) = V0 (Proc.devRef .tc Cert.ReferenceIdeal.main_arg4) := (N1_arg4 (W2 W)).trans (w2_4 H)
theorem w3_5 : W3 W (Proc.devRef .tc main_arg5) = V0 (Proc.devRef .tc Cert.ReferenceIdeal.main_arg5) := (N1_arg5 (W2 W)).trans (w2_5 H)
theorem w3_6 : W3 W (Proc.devRef .tc main_arg6) = V0 (Proc.devRef .tc Cert.ReferenceIdeal.main_arg6) := (N1_arg6 (W2 W)).trans (w2_6 H)
theorem w3_7 : W3 W (Proc.devRef .tc main_arg7) = V0 (Proc.devRef .tc Cert.ReferenceIdeal.main_arg7) := (N1_arg7 (W2 W)).trans (w2_7 H)
theorem w3_v57 : W3 W (Proc.devRef .tc main_v57) = Cert.ReferenceIdeal.Value.res_main_v65 V0 := by
  refine (n57 (W2 W)).trans ?_
  rw [w2_v54 H, w2_v55 H, w2_v56 H]; exact cat3_eq V0
theorem w3_v50 : W3 W (Proc.devRef .tc main_v50) = ownOut V0 := (N1_v50 (W2 W)).trans (w2_v50 H)
theorem w3_v53 : W3 W (Proc.devRef .tc main_v53) = lrowArr V0 := (N1_v53 (W2 W)).trans (w2_v53 H)
theorem w4_3 : W4 W (Proc.devRef .tc main_arg3) = V0 (Proc.devRef .tc Cert.ReferenceIdeal.main_arg3) := (C_arg3 (W3 W)).trans (w3_3 H)
theorem w4_4 : W4 W (Proc.devRef .tc main_arg4) = V0 (Proc.devRef .tc Cert.ReferenceIdeal.main_arg4) := (C_arg4 (W3 W)).trans (w3_4 H)
theorem w4_5 : W4 W (Proc.devRef .tc main_arg5) = V0 (Proc.devRef .tc Cert.ReferenceIdeal.main_arg5) := (C_arg5 (W3 W)).trans (w3_5 H)
theorem w4_6 : W4 W (Proc.devRef .tc main_arg6) = V0 (Proc.devRef .tc Cert.ReferenceIdeal.main_arg6) := (C_arg6 (W3 W)).trans (w3_6 H)
theorem w4_7 : W4 W (Proc.devRef .tc main_arg7) = V0 (Proc.devRef .tc Cert.ReferenceIdeal.main_arg7) := (C_arg7 (W3 W)).trans (w3_7 H)
theorem w4_v69 : W4 W (Proc.devRef .tc main_v69) = Cert.ReferenceIdeal.Value.res_main_v96 V0 := c69 (W3 W) V0 (w3_v57 H)
theorem w4_v50 : W4 W (Proc.devRef .tc main_v50) = ownOut V0 := (C_v50 (W3 W)).trans (w3_v50 H)
theorem w4_v53 : W4 W (Proc.devRef .tc main_v53) = lrowArr V0 := (C_v53 (W3 W)).trans (w3_v53 H)
theorem w5_4 : W5 W (Proc.devRef .tc main_arg4) = V0 (Proc.devRef .tc Cert.ReferenceIdeal.main_arg4) := (D1_arg4 (W4 W)).trans (w4_4 H)
theorem w5_6 : W5 W (Proc.devRef .tc main_arg6) = V0 (Proc.devRef .tc Cert.ReferenceIdeal.main_arg6) := (D1_arg6 (W4 W)).trans (w4_6 H)
theorem w5_7 : W5 W (Proc.devRef .tc main_arg7) = V0 (Proc.devRef .tc Cert.ReferenceIdeal.main_arg7) := (D1_arg7 (W4 W)).trans (w4_7 H)
theorem w5_v70 : W5 W (Proc.devRef .tc main_v70) = broadcastInDim S1x8x8192x128 ![1, 2, 3] bcast_S8x8192x128_S1x8x8192x128_1_2_3 (ownOut V0 : FVec F S8x8192x128 .f32) := d70 (W4 W) V0 (w4_v50 H)
theorem w5_v71 : W5 W (Proc.devRef .tc main_v71) = broadcastInDim S1x8x8192x128 ![1, 2, 3] bcast_S8x8192x128_S1x8x8192x128_1_2_3 (V0 (Proc.devRef .tc Cert.ReferenceIdeal.main_arg3) : FVec F S8x8192x128 .f32) := d71 (W4 W) V0 (w4_3 H)
theorem w5_v72 : W5 W (Proc.devRef .tc main_v72) = broadcastInDim S1x8x8192x128 ![1, 2, 3] bcast_S8x8192x128_S1x8x8192x128_1_2_3 (V0 (Proc.devRef .tc Cert.ReferenceIdeal.main_arg5) : FVec F S8x8192x128 .f32) := d72 (W4 W) V0 (w4_5 H)
theorem w5_v69 : W5 W (Proc.devRef .tc main_v69) = Cert.ReferenceIdeal.Value.res_main_v96 V0 := (D1_v69 (W4 W)).trans (w4_v69 H)
theorem w5_v53 : W5 W (Proc.devRef .tc main_v53) = lrowArr V0 := (D1_v53 (W4 W)).trans (w4_v53 H)
theorem w6_4 : W6 W (Proc.devRef .tc main_arg4) = V0 (Proc.devRef .tc Cert.ReferenceIdeal.main_arg4) := (N2_arg4 (W5 W)).trans (w5_4 H)
theorem w6_6 : W6 W (Proc.devRef .tc main_arg6) = V0 (Proc.devRef .tc Cert.ReferenceIdeal.main_arg6) := (N2_arg6 (W5 W)).trans (w5_6 H)
theorem w6_7 : W6 W (Proc.devRef .tc main_arg7) = V0 (Proc.devRef .tc Cert.ReferenceIdeal.main_arg7) := (N2_arg7 (W5 W)).trans (w5_7 H)
theorem w6_v73 : W6 W (Proc.devRef .tc main_v73) = Cert.ReferenceIdeal.Value.res_main_v100 V0 := by
  refine (n73 (W5 W)).trans ?_
  rw [w5_v70 H, w5_v71 H, w5_v72 H]; exact cat4_eq V0
theorem w6_v69 : W6 W (Proc.devRef .tc main_v69) = Cert.ReferenceIdeal.Value.res_main_v96 V0 := (N2_v69 (W5 W)).trans (w5_v69 H)
theorem w6_v53 : W6 W (Proc.devRef .tc main_v53) = lrowArr V0 := (N2_v53 (W5 W)).trans (w5_v53 H)
theorem w7_4 : W7 W (Proc.devRef .tc main_arg4) = V0 (Proc.devRef .tc Cert.ReferenceIdeal.main_arg4) := (D2_arg4 (W6 W)).trans (w6_4 H)
theorem w7_6 : W7 W (Proc.devRef .tc main_arg6) = V0 (Proc.devRef .tc Cert.ReferenceIdeal.main_arg6) := (D2_arg6 (W6 W)).trans (w6_6 H)
theorem w7_7 : W7 W (Proc.devRef .tc main_arg7) = V0 (Proc.devRef .tc Cert.ReferenceIdeal.main_arg7) := (D2_arg7 (W6 W)).trans (w6_7 H)
theorem w7_v76 : W7 W (Proc.devRef .tc main_v76) = mixed V0 := d76 (W6 W) V0 (w6_v69 H) (w6_v73 H)
theorem w7_v53 : W7 W (Proc.devRef .tc main_v53) = lrowArr V0 := (D2_v53 (W6 W)).trans (w6_v53 H)
theorem w8_7 : W8 W (Proc.devRef .tc main_arg7) = V0 (Proc.devRef .tc Cert.ReferenceIdeal.main_arg7) := (E1_arg7 (W7 W)).trans (w7_7 H)
theorem w8_v76 : W8 W (Proc.devRef .tc main_v76) = mixed V0 := (E1_v76 (W7 W)).trans (w7_v76 H)
theorem w8_v77 : W8 W (Proc.devRef .tc main_v77) = broadcastInDim S1x8x8192 ![1, 2] bcast_S8x8192_S1x8x8192_1_2 (lrowArr V0 : FVec F S8x8192 .f32) := e77 (W7 W) V0 (w7_v53 H)
theorem w8_v78 : W8 W (Proc.devRef .tc main_v78) = broadcastInDim S1x8x8192 ![1, 2] bcast_S8x8192_S1x8x8192_1_2 (V0 (Proc.devRef .tc Cert.ReferenceIdeal.main_arg4) : FVec F S8x8192 .f32) := e78 (W7 W) V0 (w7_4 H)
theorem w8_v79 : W8 W (Proc.devRef .tc main_v79) = broadcastInDim S1x8x8192 ![1, 2] bcast_S8x8192_S1x8x8192_1_2 (V0 (Proc.devRef .tc Cert.ReferenceIdeal.main_arg6) : FVec F S8x8192 .f32) := e79 (W7 W) V0 (w7_6 H)
theorem w9_7 : W9 W (Proc.devRef .tc main_arg7) = V0 (Proc.devRef .tc Cert.ReferenceIdeal.main_arg7) := (N3_arg7 (W8 W)).trans (w8_7 H)
theorem w9_v76 : W9 W (Proc.devRef .tc main_v76) = mixed V0 := (N3_v76 (W8 W)).trans (w8_v76 H)
theorem w9_v80 : W9 W (Proc.devRef .tc main_v80) = Cert.ReferenceIdeal.Value.res_main_v65 V0 := by
  refine (n80 (W8 W)).trans ?_
  rw [w8_v77 H, w8_v78 H, w8_v79 H]; exact cat3_eq V0

/-- The joint log-sums the call is handed. -/
theorem lse_eq : after (List.flatten [hostOps0, hostOps0_1, hostOps0_2, hostOps0_3, hostOps0_4]) W (Proc.devRef .tc main_v96) = lseArr V0 :=
  (congrFun (after_all W) _).trans (e96 (W9 W) V0 (w9_v80 H))
/-- The output's product with its gradient. -/
theorem dd_eq : after (List.flatten [hostOps0, hostOps0_1, hostOps0_2, hostOps0_3, hostOps0_4]) W (Proc.devRef .tc main_v99) = ddArr V0 :=
  (congrFun (after_all W) _).trans (e99 (W9 W) V0 (w9_v76 H) (w9_7 H))

omit H in
/-- The slopes. -/
theorem slope_eq : after (List.flatten [hostOps0, hostOps0_1, hostOps0_2, hostOps0_3, hostOps0_4]) W (Proc.devRef .tc main_v110) = slopeArr :=
  (congrFun (after_all W) _).trans (e110 (W9 W))

end Cert.HostK

end
-- ==== Proof.HostRead.lean ====
/-
  The three arrays the kernel's host lines make, read at one index.
-/
module

public import proofs.«01_k».proof.Proof.Host
public import proofs.«01_k».proof.Proof.RefVal
public import Idealize.ShloMosaic.Lib.Tactic.CleanTypes

@[expose] public section

set_option maxRecDepth 8192

noncomputable section

namespace Cert.HostRead

open Cert.KernelIdeal Cert.KernelIdeal.Gen Cert.RefRead Cert.RefVal Idealize.ShloMosaic

theorem spread_at (x : FVec Ideal S8192x8 .f32) (h : Fin 8) (i : Fin 8192) (e : Fin 128) :
    shapeCast S8192x1024 (broadcastInDim S8192x8x128 ![0, 1, 2] bcast_S8192x8x1_S8192x8x128_0_1_2
      (broadcastInDim S8192x8x1 ![0, 1] bcast_S8192x8_S8192x8x1_0_1 x)) shapeCasts_S8192x8x128_S8192x1024 (ix2 i (col h e)) = x (ix2 i h) := by
  unfold col; pointwise

theorem turn_at (x : FVec Ideal S8x8192 .f32) (h : Fin 8) (i : Fin 8192) :
    transpose S8192x8 [1, 0] x transposes_S8x8192_S8192x8_1_0 (ix2 i h) = x (ix2 h i) := by
  pointwise

theorem joint_at (a : FVec Ideal S8x8192 .f32) (x : FVec Ideal S3x8x8192 .f32) (h : Fin 8) (i : Fin 8192) :
    addf a (Host.log (Host.reduceAdd (Host.exp (subf x
      (broadcastInDim S3x8x8192 ![0, 1, 2] bcast_S1x8x8192_S3x8x8192_0_1_2 (broadcastInDim S1x8x8192 ![1, 2] bcast_S8x8192_S1x8x8192_1_2 a))))
      (constant S_ .f32 0x00000000#32) reducesTo_S3x8x8192_S8x8192_d0 h_S_)) (ix2 h i)
    = a (ix2 h i) + Ideal.log (∑ p, Ideal.exp (x (ix3 p h i) - a (ix2 h i))) := by
  pointwise

theorem rowsum_at (g : FVec Ideal S8192x1024 .f32) (x : FVec Ideal S8x8192x128 .f32) (h : Fin 8) (i : Fin 8192) :
    Host.reduceAdd (mulf (shapeCast S8192x8x128 g shapeCasts_S8192x1024_S8192x8x128 : FVec Ideal S8192x8x128 .f32)
      (transpose S8192x8x128 [1, 0, 2] x transposes_S8x8192x128_S8192x8x128_1_0_2)) (constant S_ .f32 0x00000000#32)
      reducesTo_S8192x8x128_S8192x8_d2 h_S_ (ix2 i h) = ∑ e, g (ix2 i (col h e)) * x (ix3 h i e) := by
  unfold col; pointwise

theorem mix_at (w : FVec Ideal S3x8x8192x1 .f32) (x : FVec Ideal S3x8x8192x128 .f32) (h : Fin 8) (i : Fin 8192) (e : Fin 128) :
    Host.reduceAdd (mulf (broadcastInDim S3x8x8192x128 ![0, 1, 2, 3] bcast_S3x8x8192x1_S3x8x8192x128_0_1_2_3 w) x)
      (constant S_ .f32 0x00000000#32) reducesTo_S3x8x8192x128_S8x8192x128_d0 h_S_ (ix3 h i e)
    = ∑ p, w (ix4 p h i 0) * x (ix4 p h i e) := by
  pointwise

variable {D : Data} {V0 : Valuation Cert.ReferenceIdeal.τ Cert.ReferenceIdeal.sig (Elt Ideal)}

/-- The joint log-sum at a row and lane. -/
def lseAt (V0 : Valuation Cert.ReferenceIdeal.τ Cert.ReferenceIdeal.sig (Elt Ideal)) (h : Fin 8) (i : Fin 8192) (e : Fin 128) : EReal :=
  HostK.lseArr (F := Ideal) V0 (ix2 i (col h e))
/-- The output's product with its gradient at a row and lane. -/
def ddAt (V0 : Valuation Cert.ReferenceIdeal.τ Cert.ReferenceIdeal.sig (Elt Ideal)) (h : Fin 8) (i : Fin 8192) (e : Fin 128) : EReal :=
  HostK.ddArr (F := Ideal) V0 (ix2 i (col h e))
/-- A slope at a lane. -/
def slopeAt (h : Fin 8) (e : Fin 128) : EReal := HostK.slopeArr (F := Ideal) (ix3 h 0 e)

theorem lse_at (H : Holds V0 D) (h : Fin 8) (i : Fin 8192) (e : Fin 128) : lseAt V0 h i e = (lse D h i : EReal) := by
  have e1 : lseAt V0 h i e = T68 V0 h i + Ideal.log (∑ p, Ideal.exp (T65 V0 p h i - T68 V0 h i)) :=
    (spread_at _ h i e).trans ((turn_at _ h i).trans (joint_at _ _ h i))
  rw [e1]
  simp only [e68 h i H, e65 h i H, sub_cc, Ideal.exp_coe]
  rw [← coe_sum, Ideal.log_coe, if_neg (not_le.mpr ?_), ← EReal.coe_add]
  · rfl
  · exact Row.tot_pos (valid i) (score D h i) (mx D h i) (D.l4 h i) (D.l16 h i) (M D h i)

theorem dd_at (H : Holds V0 D) (h : Fin 8) (i : Fin 8192) (e : Fin 128) : ddAt V0 h i e = (dd D h i : EReal) := by
  have e1 : ddAt V0 h i e = ∑ x, inG V0 i h x * HostK.mixed (F := Ideal) V0 (ix3 h i x) :=
    (spread_at _ h i e).trans (rowsum_at _ _ h i)
  have e2 (x : Fin 128) : HostK.mixed (F := Ideal) V0 (ix3 h i x) = ∑ p, T96 V0 p h i * T100 V0 p h i x := mix_at _ _ h i x
  rw [e1]
  simp only [e2, e96 h i H, e100 h i H, H.g, ← EReal.coe_mul, ← coe_sum]
  rfl

theorem slope_at (h : Fin 8) (e : Fin 128) : slopeAt h e = (sl h : EReal) := by
  refine Eq.trans ?_ (sl_eq h)
  unfold slopeAt HostK.slopeArr slopeE; pointwise
  first | rfl | skip

end Cert.HostRead

end
-- ==== Proof.Equation.lean ====
/-
  The kernel's three result arrays are the reference's, on finite arguments.
-/
module

public import proofs.«01_k».proof.Proof.Arrays
public import proofs.«01_k».proof.Proof.HostV
public import proofs.«01_k».proof.Proof.HostRead

@[expose] public section

set_option maxRecDepth 8192

noncomputable section

namespace Cert.Equation

open Cert.RefRead Cert.RefVal Cert.Window Cert.BlockVal Idealize.ShloMosaic

theorem glue {a b x y s : EReal} (h1 : a = s + x) (h2 : x = y) (h3 : b = s + y) : a = b := by rw [h1, h2, h3]

section Reference

open Cert.ReferenceIdeal Cert.ReferenceIdeal.Gen Cert.ReferenceIdeal.Value

theorem dq_at (a : FVec Ideal S8192x1024 .f32) (x : FVec Ideal S8x8192x8192 .f32) (y : FVec Ideal S8192x8x128 .f32) (h : Fin 8) (i : Fin 8192) (e : Fin 128) :
    addf a (shapeCast S8192x1024 (transpose S8192x8x128 [1, 0, 2] (Host.dotGeneral (φ₁ := .f32) (φ₂ := .f32) dot_S8x8192x8192_S8192x8x128_S8x8192x128_2_0_1_2_0_1 none x y) transposes_S8x8192x128_S8192x8x128_1_0_2) shapeCasts_S8192x8x128_S8192x1024) (ix2 i (col h e))
    = (a (ix2 i (col h e)) + ∑ j, (x (ix3 h i j) : EReal) * (y (ix3 j h e) : EReal) : EReal) := by
  unfold col; pointwise

theorem dk_at (a : FVec Ideal S8192x1024 .f32) (x : FVec Ideal S8x8192x8192 .f32) (y : FVec Ideal S8192x8x128 .f32) (h : Fin 8) (i : Fin 8192) (e : Fin 128) :
    addf a (shapeCast S8192x1024 (transpose S8192x8x128 [1, 0, 2] (Host.dotGeneral (φ₁ := .f32) (φ₂ := .f32) dot_S8x8192x8192_S8192x8x128_S8x8192x128_1_0_2_2_0_1 none x y) transposes_S8x8192x128_S8192x8x128_1_0_2) shapeCasts_S8192x8x128_S8192x1024) (ix2 i (col h e))
    = (a (ix2 i (col h e)) + ∑ j, (x (ix3 h j i) : EReal) * (y (ix3 j h e) : EReal) : EReal) := by
  unfold col; pointwise

theorem dv_at (a : FVec Ideal S8192x1024 .f32) (x : FVec Ideal S8x8192x128 .f32) (y : FVec Ideal S8x8192x8192 .f32) (h : Fin 8) (i : Fin 8192) (e : Fin 128) :
    addf a (shapeCast S8192x1024 (transpose S8192x8x128 [2, 0, 1] (Host.dotGeneral (φ₁ := .f32) (φ₂ := .f32) dot_S8x8192x128_S8x8192x8192_S8x128x8192_1_1_2_2_0_0 none x y) transposes_S8x128x8192_S8192x8x128_2_0_1) shapeCasts_S8192x8x128_S8192x1024) (ix2 i (col h e))
    = (a (ix2 i (col h e)) + ∑ j, (x (ix3 h j e) : EReal) * (y (ix3 h j i) : EReal) : EReal) := by
  unfold col; pointwise

variable (V0 : Valuation τ sig (Elt Ideal))

/-- The reference's results. -/
def dqR : FVec Ideal S8192x1024 .f32 :=
  addf (V0 (Proc.devRef .tc main_arg8)) (shapeCast _ (transpose S8192x8x128 [1, 0, 2] (Host.dotGeneral (φ₁ := .f32) (φ₂ := .f32) dot_S8x8192x8192_S8192x8x128_S8x8192x128_2_0_1_2_0_1 none (res_main_v170 V0) (res_main_v2 V0)) transposes_S8x8192x128_S8192x8x128_1_0_2) shapeCasts_S8192x8x128_S8192x1024)
def dkR : FVec Ideal S8192x1024 .f32 :=
  addf (V0 (Proc.devRef .tc main_arg9)) (shapeCast _ (transpose S8192x8x128 [1, 0, 2] (Host.dotGeneral (φ₁ := .f32) (φ₂ := .f32) dot_S8x8192x8192_S8192x8x128_S8x8192x128_1_0_2_2_0_1 none (res_main_v170 V0) (res_main_v1 V0)) transposes_S8x8192x128_S8192x8x128_1_0_2) shapeCasts_S8192x8x128_S8192x1024)
def dvR : FVec Ideal S8192x1024 .f32 :=
  addf (V0 (Proc.devRef .tc main_arg10)) (shapeCast _ (transpose S8192x8x128 [2, 0, 1] (Host.dotGeneral (φ₁ := .f32) (φ₂ := .f32) dot_S8x8192x128_S8x8192x8192_S8x128x8192_1_1_2_2_0_0 none (res_main_v151 V0) (res_main_v50 V0)) transposes_S8x128x8192_S8192x8x128_2_0_1) shapeCasts_S8192x8x128_S8192x1024)

variable {V0} {D : Data} (H : Holds V0 D) (h : Fin 8) (i : Fin 8192) (e : Fin 128)
include H

theorem dqR_at : (dqR V0 (ix2 i (col h e)) : EReal) = ((∑ j, w D h i j * sc * D.k j h e : ℝ) : EReal) + inA8 V0 i h e := by
  have e1 : (dqR V0 (ix2 i (col h e)) : EReal) = inA8 V0 i h e + ∑ j, T170 V0 h i j * T2 V0 j h e := dq_at _ _ _ h i e
  rw [e1, add_comm]
  simp only [e170 h i H, r2, H.k, ← EReal.coe_mul, ← coe_sum]; rfl

theorem dkR_at : (dkR V0 (ix2 i (col h e)) : EReal) = ((∑ j, w D h j i * sc * D.q j h e : ℝ) : EReal) + inA9 V0 i h e := by
  have e1 : (dkR V0 (ix2 i (col h e)) : EReal) = inA9 V0 i h e + ∑ j, T170 V0 h j i * T1 V0 j h e := dk_at _ _ _ h i e
  rw [e1, add_comm]
  simp only [e170 h _ H, r1, H.q, ← EReal.coe_mul, ← coe_sum]; rfl

theorem dvR_at : (dvR V0 (ix2 i (col h e)) : EReal) = ((∑ j, prob D h j i * D.g j h e : ℝ) : EReal) + inA10 V0 i h e := by
  have e1 : (dvR V0 (ix2 i (col h e)) : EReal) = inA10 V0 i h e + ∑ j, T151 V0 h j e * T50 V0 h j i := dv_at _ _ _ h i e
  rw [e1, add_comm]
  simp only [e151_50 h _ H, ← coe_sum]

end Reference

open Cert.KernelIdeal Cert.KernelIdeal.Gen Cert.Arr

variable {m : (ℓ : Loc nD τ sig) → Buf (Elt Ideal) ℓ} {c : Dev nD}
variable {V0 : Valuation Cert.ReferenceIdeal.τ Cert.ReferenceIdeal.sig (Elt Ideal)} {D : Data}
variable (H : Holds V0 D) (A : HostK.Args (F := Ideal) (fun b => m (c, b)) V0)
include H A

theorem lse_in (h : Fin 8) (i : Fin 8192) (e : Fin 128) : V m c main_v96 (ix2 i (col h e)) = (lse D h i : EReal) :=
  (congrFun (HostK.lse_eq (F := Ideal) (H := A)) (ix2 i (col h e))).trans (HostRead.lse_at H h i e)
theorem dd_in (h : Fin 8) (i : Fin 8192) (e : Fin 128) : V m c main_v99 (ix2 i (col h e)) = (dd D h i : EReal) :=
  (congrFun (HostK.dd_eq (F := Ideal) (H := A)) (ix2 i (col h e))).trans (HostRead.dd_at H h i e)
omit H A in
theorem sl_in (h : Fin 8) : V m c main_v110 (ix3 h 0 0) = (sl h : EReal) :=
  (congrFun (HostK.slope_eq (F := Ideal) (W := fun b => m (c, b))) (ix3 h 0 0)).trans (HostRead.slope_at h 0)

theorem q_in (h : Fin 8) (i : Fin 8192) (e : Fin 128) : V m c main_arg0 (ix2 i (col h e)) = (D.q i h e : EReal) :=
  (congrFun ((V_main_arg0 m c).trans A.1) (ix2 i (col h e))).trans (H.q i h e)
theorem k_in (h : Fin 8) (i : Fin 8192) (e : Fin 128) : V m c main_arg1 (ix2 i (col h e)) = (D.k i h e : EReal) :=
  (congrFun ((V_main_arg1 m c).trans A.2.1) (ix2 i (col h e))).trans (H.k i h e)
theorem v_in (h : Fin 8) (i : Fin 8192) (e : Fin 128) : V m c main_arg2 (ix2 i (colV h e)) = (D.v i h e : EReal) :=
  (congrFun ((V_main_arg2 m c).trans A.2.2.1) (ix2 i (colV h e))).trans (H.v i h e)
theorem g_in (h : Fin 8) (i : Fin 8192) (e : Fin 128) : V m c main_arg7 (ix2 i (col h e)) = (D.g i h e : EReal) :=
  (congrFun ((V_main_arg7 m c).trans A.2.2.2.2.2.2.2) (ix2 i (col h e))).trans (H.g i h e)

/-- Every grid point's windows hold the real numbers. -/
theorem point (t : Fin cfg0.N) : Point D (hd t) (tl t) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t) where
  at_t := rfl
  q b r e := (p0 m c t b r e).trans (q_in H A _ _ _)
  qx r e := (p1 m c t r e).trans (q_in H A _ _ _)
  k b r e := (p2 m c t b r e).trans (k_in H A _ _ _)
  kp r e := (p3 m c t r e).trans (k_in H A _ _ _)
  v b r e := (p4 m c t b r e).trans (v_in H A _ _ _)
  vp r e := (p5 m c t r e).trans (v_in H A _ _ _)
  g b r e := (p6 m c t b r e).trans (g_in H A _ _ _)
  gx r e := (p7 m c t r e).trans (g_in H A _ _ _)
  l b r := (p8 m c t b r 0).trans (lse_in H A _ _ _)
  lx r := (p9 m c t r 0).trans (lse_in H A _ _ _)
  d b r := (p10 m c t b r 0).trans (dd_in H A _ _ _)
  dx r := (p11 m c t r 0).trans (dd_in H A _ _ _)
  s := (p12 m c t).trans (sl_in _)

omit H A in
theorem inA8_in (h8 : m ((c.tc : Thread nD τ).loc main_arg8) = V0 (Proc.devRef .tc Cert.ReferenceIdeal.main_arg8)) (t : Fin cfg0.N) (b : Fin 16) (r e : Fin 128) :
    Block.rows (iblk m c 13 t) b (ix2 r e) = inA8 V0 (row (blk (tl t) b) r) (hd t) e :=
  (p13 m c t b r e).trans (congrFun ((V_main_arg8 m c).trans h8) _)

theorem dq_eq (h8 : m ((c.tc : Thread nD τ).loc main_arg8) = V0 (Proc.devRef .tc Cert.ReferenceIdeal.main_arg8)) :
    (dats m 0 c).arrAt 16 cfg0.N = dqR V0 := by
  refine out16 m c (dqR V0) fun t b r e => ?_
  exact glue (dqB_real (point H A t) (iblk m c 13 t) b r e) ((inA8_in (h8) t b r e)) (dqR_at H (hd t) (row (blk (tl t) b) r) e)

omit H A in
theorem inA9_in (h9 : m ((c.tc : Thread nD τ).loc main_arg9) = V0 (Proc.devRef .tc Cert.ReferenceIdeal.main_arg9)) (t : Fin cfg0.N) (b : Fin 16) (r e : Fin 128) :
    Block.rows (iblk m c 14 t) b (ix2 r e) = inA9 V0 (row (blk (tl t) b) r) (hd t) e :=
  (p14 m c t b r e).trans (congrFun ((V_main_arg9 m c).trans h9) _)

theorem dk_eq (h9 : m ((c.tc : Thread nD τ).loc main_arg9) = V0 (Proc.devRef .tc Cert.ReferenceIdeal.main_arg9)) :
    (dats m 0 c).arrAt 17 cfg0.N = dkR V0 := by
  refine out17 m c (dkR V0) fun t b r e => ?_
  exact glue (dkB_real (point H A t) (iblk m c 14 t) b r e) ((inA9_in (h9) t b r e)) (dkR_at H (hd t) (row (blk (tl t) b) r) e)

omit H A in
theorem inA10_in (h10 : m ((c.tc : Thread nD τ).loc main_arg10) = V0 (Proc.devRef .tc Cert.ReferenceIdeal.main_arg10)) (t : Fin cfg0.N) (b : Fin 16) (r e : Fin 128) :
    Block.rows (iblk m c 15 t) b (ix2 r e) = inA10 V0 (row (blk (tl t) b) r) (hd t) e :=
  (p15 m c t b r e).trans (congrFun ((V_main_arg10 m c).trans h10) _)

theorem dv_eq (h10 : m ((c.tc : Thread nD τ).loc main_arg10) = V0 (Proc.devRef .tc Cert.ReferenceIdeal.main_arg10)) :
    (dats m 0 c).arrAt 18 cfg0.N = dvR V0 := by
  refine out18 m c (dvR V0) fun t b r e => ?_
  exact glue (dvB_real (point H A t) (iblk m c 15 t) b r e) ((inA10_in (h10) t b r e)) (dvR_at H (hd t) (row (blk (tl t) b) r) e)

end Cert.Equation

end
-- ==== Proof.Finite.lean ====
/-
  The precondition read: every entry it names is a real number.
-/
module

public import proofs.«01_k».proof.Proof.RefVal
public import proofs.«01_k».proof.Pre_finite_inputs
public import Idealize.ShloMosaic.Lib.Pointwise

@[expose] public section

noncomputable section

namespace Cert.Finite

open Cert.Pre_finite_inputs Idealize.ShloMosaic

/-- The side conditions of the precondition's operations. -/
theorem facts : Cert.Pre_finite_inputs.Facts where
  slices_S8192x4096_S8192x1024_0_2048 := by decide
  bcast_S_S8192x1024 := by decide
  bcast_S_S8x8192x128 := by decide
  bcast_S_S8x8192 := by decide

/-- A value whose magnitude is below infinity is a real number. -/
theorem real_of_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine (EReal.coe_toReal hlt.1.ne ?_).symm
  rintro rfl
  simp at hlt

theorem entry {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (j : s.Idx) :
    (x j : EReal) = (((x j : EReal).toReal : ℝ) : EReal) :=
  real_of_lt _ (congrFun h j)

/-- The projection's value lanes. -/
theorem slice_at (hs : S8192x4096.Slices ![0, 2048] S8192x1024) (x : FVec Ideal S8192x4096 .f32) (i : Fin 8192) (a : Fin 1024) :
    extractStridedSlice S8192x1024 ![0, 2048] x hs (ix2 i a) = x (ix2 i ⟨2048 + a.val, by omega⟩) := by
  pointwise

open Cert.RefRead Cert.RefVal in
/-- Arguments that meet the precondition are real numbers wherever the kernel reads them. -/
theorem holds [Cert.Pre_finite_inputs.Facts] (a0 a1 : FVec Ideal S8192x1024 .f32) (a2 : FVec Ideal S8192x4096 .f32) (a3 : FVec Ideal S8x8192x128 .f32)
    (a4 : FVec Ideal S8x8192 .f32) (a5 : FVec Ideal S8x8192x128 .f32) (a6 : FVec Ideal S8x8192 .f32) (a7 a8 a9 a10 : FVec Ideal S8192x1024 .f32)
    (V0 : Valuation Cert.ReferenceIdeal.τ Cert.ReferenceIdeal.sig (Elt Ideal))
    (e0 : V0 (Proc.devRef .tc Cert.ReferenceIdeal.main_arg0) = a0) (e1 : V0 (Proc.devRef .tc Cert.ReferenceIdeal.main_arg1) = a1)
    (e2 : V0 (Proc.devRef .tc Cert.ReferenceIdeal.main_arg2) = a2) (e3 : V0 (Proc.devRef .tc Cert.ReferenceIdeal.main_arg3) = a3)
    (e4 : V0 (Proc.devRef .tc Cert.ReferenceIdeal.main_arg4) = a4) (e5 : V0 (Proc.devRef .tc Cert.ReferenceIdeal.main_arg5) = a5)
    (e6 : V0 (Proc.devRef .tc Cert.ReferenceIdeal.main_arg6) = a6) (e7 : V0 (Proc.devRef .tc Cert.ReferenceIdeal.main_arg7) = a7)
    (h0 : (fn (F := Ideal) a0 a1 a2 a3 a4 a5 a6 a7 a8 a9 a10).1 = fun _ => 1#1)
    (h1 : (fn (F := Ideal) a0 a1 a2 a3 a4 a5 a6 a7 a8 a9 a10).2.1 = fun _ => 1#1)
    (h2 : (fn (F := Ideal) a0 a1 a2 a3 a4 a5 a6 a7 a8 a9 a10).2.2.1 = fun _ => 1#1)
    (h3 : (fn (F := Ideal) a0 a1 a2 a3 a4 a5 a6 a7 a8 a9 a10).2.2.2.1 = fun _ => 1#1)
    (h4 : (fn (F := Ideal) a0 a1 a2 a3 a4 a5 a6 a7 a8 a9 a10).2.2.2.2.1 = fun _ => 1#1)
    (h5 : (fn (F := Ideal) a0 a1 a2 a3 a4 a5 a6 a7 a8 a9 a10).2.2.2.2.2.1 = fun _ => 1#1)
    (h6 : (fn (F := Ideal) a0 a1 a2 a3 a4 a5 a6 a7 a8 a9 a10).2.2.2.2.2.2.1 = fun _ => 1#1)
    (h7 : (fn (F := Ideal) a0 a1 a2 a3 a4 a5 a6 a7 a8 a9 a10).2.2.2.2.2.2.2 = fun _ => 1#1) :
    ∃ D : Data, Holds V0 D := by
  subst e0 e1 e2 e3 e4 e5 e6 e7
  refine ⟨⟨fun i h e => (inQ V0 i h e).toReal, fun i h e => (inK V0 i h e).toReal, fun i h e => (inV V0 i h e).toReal,
    fun i h e => (inG V0 i h e).toReal, fun h i e => (inO4 V0 h i e).toReal, fun h i e => (inO16 V0 h i e).toReal,
    fun h i => (inL4 V0 h i).toReal, fun h i => (inL16 V0 h i).toReal⟩, ?_⟩
  exact {
    q := fun i h e => entry Facts.bcast_S_S8192x1024 _ h0 _
    k := fun i h e => entry Facts.bcast_S_S8192x1024 _ h1 _
    v := fun i h e => by
      have e1 := entry Facts.bcast_S_S8192x1024 _ h2 (ix2 i (col h e))
      beta_reduce at e1
      have e2 := slice_at Facts.slices_S8192x4096_S8192x1024_0_2048 (V0 (Proc.devRef .tc Cert.ReferenceIdeal.main_arg2)) i (col h e)
      rw [e2] at e1
      exact e1
    g := fun i h e => entry Facts.bcast_S_S8192x1024 _ h7 _
    o4 := fun h i e => entry Facts.bcast_S_S8x8192x128 _ h3 _
    o16 := fun h i e => entry Facts.bcast_S_S8x8192x128 _ h5 _
    l4 := fun h i => entry Facts.bcast_S_S8x8192 _ h4 _
    l16 := fun h i => entry Facts.bcast_S_S8x8192 _ h6 _ }

end Cert.Finite

end
-- ==== Proof.Tiles.lean ====
/-
  A sum over 8192 terms taken as four consecutive sums of 2048.
-/
module

public import Idealize.ShloMosaic.Lib.Pipeline.ValueKit
public import Idealize.ShloMosaic.PureOps
public import Mathlib.Data.EReal.Basic
public import Mathlib.Algebra.BigOperators.Fin

@[expose] public section

noncomputable section

namespace Cert.Tiles

/-- Place `k` of block `b`, the blocks `w` wide. -/
def at' {n w N : ℕ} (h : N = n * w) (b : Fin n) (k : Fin w) : Fin N := ⟨b.val * w + k.val, by
  subst h
  calc b.val * w + k.val < b.val * w + w := Nat.add_lt_add_left k.isLt _
    _ = (b.val + 1) * w := (Nat.succ_mul _ _).symm
    _ ≤ n * w := Nat.mul_le_mul_right _ b.isLt⟩

/-- A sum is the sum over the blocks of each block's sum. -/
theorem sum_blocks {n w N : ℕ} (h : N = n * w) (f : Fin N → EReal) : ∑ b : Fin n, ∑ k : Fin w, f (at' h b k) = ∑ x, f x := by
  subst h
  rw [← Fintype.sum_prod_type']
  refine Fintype.sum_equiv finProdFinEquiv _ _ fun p => congrArg f (Fin.ext ?_)
  show p.1.val * w + p.2.val = p.2.val + w * p.1.val
  rw [Nat.mul_comm w, Nat.add_comm]

/-- Row, column or inner place `k` of the `b`-th block of 2048 among 8192. -/
def at4 (b : Fin 4) (k : Fin 2048) : Fin 8192 := at' rfl b k

/-- Four sums, each added to what came before. -/
theorem sum4 (f : Fin 8192 → EReal) :
    0 + ∑ k, f (at4 0 k) + ∑ k, f (at4 1 k) + ∑ k, f (at4 2 k) + ∑ k, f (at4 3 k) = ∑ x, f x := by
  rw [← sum_blocks (n := 4) (w := 2048) rfl f, Fin.sum_univ_four, zero_add]; rfl

end Cert.Tiles

end
-- ==== Proof.Act.lean ====
/-
  The MLP's first product with its activation, and the second product's gradient in its argument: region 0 leaves
  `r = max (h2 · w1) 0` and `act = r²`, region 1 reads `r` back and leaves `(dff · w2ᵀ) (2 r)`. The reference
  differentiates `relu` as zero where its argument is not positive; there `r` is zero too.
-/
module

public import proofs.«01_k».proof.Defs
public import proofs.«01_k».proof.Proof.Tiles
public import proofs.«01_k».proof.Proof.Gen.ActIdeal.Frame
public import proofs.«01_k».proof.Proof.Gen.ActRefIdeal.Run
public import Idealize.ShloMosaic.Lib.Pipeline.ValueKit

@[expose] public section

set_option maxRecDepth 16384

noncomputable section

namespace Cert.ActV

open Cert.ActIdeal Cert.ActIdeal.Gen Cert.Tiles Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- The first weight with its shards side by side. -/
def whole (W : S8x2048x1024.Idx → EReal) : Cert.ActRefIdeal.S2048x8192.Idx → EReal := fun i =>
  W (ix3 ⟨(i 1).val / 1024, by have := (i 1).isLt; have : (i 1).val < 8192 := this; omega⟩ (i 0) ⟨(i 1).val % 1024, Nat.mod_lt _ (by decide)⟩)

/-- The first product. -/
def pre (A : S8192x2048.Idx → EReal) (W : S8x2048x1024.Idx → EReal) : S8192x8192.Idx → EReal := fun i => ∑ x, A (ix2 (i 0) x) * whole W (ix2 x (i 1))
def relu (A : S8192x2048.Idx → EReal) (W : S8x2048x1024.Idx → EReal) : S8192x8192.Idx → EReal := fun i => max (pre A W i) 0
def act (A : S8192x2048.Idx → EReal) (W : S8x2048x1024.Idx → EReal) : S8192x8192.Idx → EReal := fun i => relu A W i * relu A W i
/-- The second product's gradient in the activation. -/
def back (G W2 : S8192x2048.Idx → EReal) : S8192x8192.Idx → EReal := fun i => ∑ x, G (ix2 (i 0) x) * W2 (ix2 (i 1) x)
/-- The gradient in the first product. -/
def grad (A : S8192x2048.Idx → EReal) (W : S8x2048x1024.Idx → EReal) (W2 G : S8192x2048.Idx → EReal) : S8192x8192.Idx → EReal :=
  fun i => back G W2 i * (Ideal.ofBits .f32 0x40000000#32 * relu A W i)

theorem out2 (x : Vec Ideal S1024x2048 .bf16) (w : Vec Ideal S1x2048x1024 .bf16) (i j : Fin 1024) :
    (out0_2 x w (ix2 i j) : EReal) = max (∑ k, (x (ix2 i k) : EReal) * w (ix3 0 k j)) 0 := by
  unfold out0_2
  rw [View.canon_unit_zero hz, View.ld_unit_zero (S := S1024x2048) hz, View.ld_unit_zero (S := S1x2048x1024) hz3]
  unfold k0_pay2 k0_pay1
  pointwise

theorem out3 (x : Vec Ideal S1024x2048 .bf16) (w : Vec Ideal S1x2048x1024 .bf16) (i j : Fin 1024) :
    (out0_3 x w (ix2 i j) : EReal) = max (∑ k, (x (ix2 i k) : EReal) * w (ix3 0 k j)) 0 * max (∑ k, (x (ix2 i k) : EReal) * w (ix3 0 k j)) 0 := by
  unfold out0_3
  rw [View.canon_unit_zero hz, View.ld_unit_zero (S := S1024x2048) hz, View.ld_unit_zero (S := S1x2048x1024) hz3]
  unfold k0_pay3 k0_pay1
  pointwise

theorem out1 (x y : Vec Ideal S1024x2048 .bf16) (r : Vec Ideal S1024x1024 .bf16) (i j : Fin 1024) :
    (out1_3 x y r (ix2 i j) : EReal) = (∑ k, (x (ix2 i k) : EReal) * y (ix2 j k)) * (Ideal.ofBits .f32 0x40000000#32 * r (ix2 i j)) := by
  unfold out1_3
  rw [View.canon_unit_zero hz, View.ld_unit_zero (S := S1024x2048) hz, View.ld_unit_zero (S := S1024x2048) hz, View.ld_unit_zero (S := S1024x1024) hz]
  unfold k1_pay1
  pointwise

theorem idx00 : ∀ t : Fin grid0.N, win0_0.index t = ![t.val / 8, 0] := by decide +kernel
theorem idx01 : ∀ t : Fin grid0.N, win0_1.index t = ![t.val % 8, 0, 0] := by decide +kernel
theorem idx02 : ∀ t : Fin grid0.N, win0_2.index t = ![t.val / 8, t.val % 8] := by decide +kernel
theorem idx03 : ∀ t : Fin grid0.N, win0_3.index t = ![t.val / 8, t.val % 8] := by decide +kernel
theorem idx10 : ∀ t : Fin grid1.N, win1_0.index t = ![t.val / 8, 0] := by decide +kernel
theorem idx11 : ∀ t : Fin grid1.N, win1_1.index t = ![t.val % 8, 0] := by decide +kernel
theorem idx12 : ∀ t : Fin grid1.N, win1_2.index t = ![t.val / 8, t.val % 8] := by decide +kernel
theorem idx13 : ∀ t : Fin grid1.N, win1_3.index t = ![t.val / 8, t.val % 8] := by decide +kernel

section Blocks
variable (V : (c : Dev nD) → (b : Ref sig .tc) → Buf (Elt Ideal) ((c.tc : Thread nD τ).loc b)) (c : Dev nD)

theorem h2_at (t : Fin cfg0.N) (r : Fin 1024) (k : Fin 2048) (R : Fin 8192) (hR : t.val / 8 * 1024 + r.val = R.val) :
    iblk0 V c 0 t (ix2 r k) = V c main_arg0 (ix2 R k) := by
  blk_ext [iblk0, idx00 t]
  all_goals omega

theorem w1_at (t : Fin cfg0.N) (k : Fin 2048) (j : Fin 1024) (J : Fin 8192) (hJ : t.val % 8 * 1024 + j.val = J.val) :
    (iblk0 V c 1 t (ix3 0 k j) : EReal) = whole (V c main_arg1) (ix2 k J) := by
  unfold whole
  blk_ext [iblk0, idx01 t]
  all_goals first | omega | (show _ = J.val / 1024; omega) | (show _ = J.val % 1024; omega)

theorem dff_at (t : Fin cfg1.N) (r : Fin 1024) (k : Fin 2048) (R : Fin 8192) (hR : t.val / 8 * 1024 + r.val = R.val) :
    iblk1 V c 0 t (ix2 r k) = V c main_arg3 (ix2 R k) := by
  blk_ext [iblk1, idx10 t]
  all_goals omega

theorem w2_at (t : Fin cfg1.N) (r : Fin 1024) (k : Fin 2048) (R : Fin 8192) (hR : t.val % 8 * 1024 + r.val = R.val) :
    iblk1 V c 1 t (ix2 r k) = V c main_arg2 (ix2 R k) := by
  blk_ext [iblk1, idx11 t]
  all_goals omega

theorem r_at (t : Fin cfg1.N) (r j : Fin 1024) (R J : Fin 8192) (hR : t.val / 8 * 1024 + r.val = R.val) (hJ : t.val % 8 * 1024 + j.val = J.val) :
    iblk1 V c 2 t (ix2 r j) = V c main_v0_0 (ix2 R J) := by
  blk_ext [iblk1, idx12 t]
  all_goals omega

/-- The inner sum of a block of region 0. -/
theorem sum0 (t : Fin cfg0.N) (x : Vec Ideal S1024x2048 .bf16) (w : Vec Ideal S1x2048x1024 .bf16) (hx : x = iblk0 V c 0 t) (hw : w = iblk0 V c 1 t)
    (r j : Fin 1024) (R J : Fin 8192) (hR : t.val / 8 * 1024 + r.val = R.val) (hJ : t.val % 8 * 1024 + j.val = J.val) :
    (∑ k, (x (ix2 r k) : EReal) * w (ix3 0 k j)) = pre (V c main_arg0) (V c main_arg1) (ix2 R J) := by
  subst hx hw
  exact Finset.sum_congr rfl fun k _ => congrArg₂ (fun u v : EReal => u * v) (h2_at V c t r k R hR) (w1_at V c t k j J hJ)

/-- What region 0 leaves in `r`. -/
theorem relu_array : (dat0 V c).arrAt 2 cfg0.N = relu (V c main_arg0) (V c main_arg1) := by
  refine (dat0 V c).arrAt_eq_of_covers 2 _ (by decide +kernel) fun t hf y => ?_
  have hN : t.val < 64 := lt_of_lt_of_eq t.isLt N_0
  blk_simp
  rw [after0_2]
  obtain ⟨r, j, rfl⟩ : ∃ (r : Fin 1024) (j : Fin 1024), y = ix2 r j := ⟨y 0, y 1, eq_ix2 y⟩
  refine (out2 _ _ r j).trans ?_
  rw [sum0 V c t _ _ rfl rfl r j ⟨t.val / 8 * 1024 + r.val, by omega⟩ ⟨t.val % 8 * 1024 + j.val, by omega⟩ rfl rfl]
  refine congrArg (relu (V c main_arg0) (V c main_arg1)) ?_
  blk_ext [idx02 t]
  all_goals omega

/-- What region 0 leaves in `act`. -/
theorem act_array : (dat0 V c).arrAt 3 cfg0.N = act (V c main_arg0) (V c main_arg1) := by
  refine (dat0 V c).arrAt_eq_of_covers 3 _ (by decide +kernel) fun t hf y => ?_
  have hN : t.val < 64 := lt_of_lt_of_eq t.isLt N_0
  blk_simp
  rw [after0_3]
  obtain ⟨r, j, rfl⟩ : ∃ (r : Fin 1024) (j : Fin 1024), y = ix2 r j := ⟨y 0, y 1, eq_ix2 y⟩
  refine (out3 _ _ r j).trans ?_
  rw [sum0 V c t _ _ rfl rfl r j ⟨t.val / 8 * 1024 + r.val, by omega⟩ ⟨t.val % 8 * 1024 + j.val, by omega⟩ rfl rfl]
  refine congrArg (act (V c main_arg0) (V c main_arg1)) ?_
  blk_ext [idx03 t]
  all_goals omega

/-- What region 1 leaves, over the `r` it reads. -/
theorem grad_array : (dat1 V c).arrAt 3 cfg1.N
    = fun i : S8192x8192.Idx => back (V c main_arg3) (V c main_arg2) i * (Ideal.ofBits .f32 0x40000000#32 * (V c main_v0_0 i : EReal)) := by
  refine (dat1 V c).arrAt_eq_of_covers 3 _ (by decide +kernel) fun t hf y => ?_
  have hN : t.val < 64 := lt_of_lt_of_eq t.isLt N_1
  blk_simp
  rw [after1_3]
  obtain ⟨r, j, rfl⟩ : ∃ (r : Fin 1024) (j : Fin 1024), y = ix2 r j := ⟨y 0, y 1, eq_ix2 y⟩
  refine (out1 _ _ _ r j).trans ?_
  rw [r_at V c t r j ⟨t.val / 8 * 1024 + r.val, by omega⟩ ⟨t.val % 8 * 1024 + j.val, by omega⟩ rfl rfl]
  refine (congrArg (fun u : EReal => u * _) (Finset.sum_congr rfl fun k _ => congrArg₂ (fun u v : EReal => u * v)
    (dff_at V c t r k ⟨t.val / 8 * 1024 + r.val, by omega⟩ rfl) (w2_at V c t j k ⟨t.val % 8 * 1024 + j.val, by omega⟩ rfl))).trans ?_
  refine congrArg (fun i : S8192x8192.Idx => back (V c main_arg3) (V c main_arg2) i * (Ideal.ofBits .f32 0x40000000#32 * (V c main_v0_0 i : EReal))) (a₁ := ix2 _ _) ?_
  blk_ext [idx13 t]
  all_goals omega

end Blocks

/-- Where its argument is not positive `relu` is zero, and so is the gradient. -/
theorem gate (g k a : EReal) : (if 0 < a then g * (k * max a 0) else 0) = g * (k * max a 0) := by
  split
  · rfl
  · rw [max_eq_right (not_lt.mp ‹_›), mul_zero, mul_zero]

theorem select_bool {α : Type} (p : Prop) [Decidable p] (a b : α) : Scalar.select (BitVec.ofBool (decide p)) a b = if p then a else b := by
  unfold Scalar.select; by_cases h : p <;> simp [h]

section Reference
open Cert.ActRefIdeal (dot_S8192x2048_S2048x8192_S8192x8192_1_0_0_1_n_n dot_S8192x2048_S8192x2048_S8192x8192_1_1_0_0_n_n S2048x8192 S2048x8x1024)
variable (A : FVec Ideal S8192x2048 .bf16) (W : FVec Ideal S8x2048x1024 .bf16) (hA hW : FTy.bits .bf16 < FTy.bits .f32)

theorem pre_ref (hT hS) : Host.dotGeneral (φ₁ := .f32) (φ₂ := .f32) dot_S8192x2048_S2048x8192_S8192x8192_1_0_0_1_n_n none
    (extf .f32 A hA) (shapeCast S2048x8192 (transpose S2048x8x1024 [1, 0, 2] (extf .f32 W hW) hT) hS) = pre A W := by
  funext i
  obtain ⟨r, s, j, rfl⟩ : ∃ (r : Fin 8192) (s : Fin 8) (j : Fin 1024), i = ix2 r (at' rfl s j) := by
    have h1 : (i 1).val < 8192 := (i 1).isLt
    refine ⟨i 0, ⟨(i 1).val / 1024, by omega⟩, ⟨(i 1).val % 1024, by omega⟩, ?_⟩
    refine (eq_ix2 i).trans (congrArg (ix2 (i 0)) (Fin.ext ?_))
    show (i 1).val = (i 1).val / 1024 * 1024 + (i 1).val % 1024
    omega
  have e : ∀ x : Fin 2048, whole W (ix2 x (at' rfl s j)) = W (ix3 s x j) := fun x => by
    have := j.isLt
    unfold whole
    refine congrArg W ?_
    refine congrArg₂ (fun u v => ix3 u x v) (Fin.ext ?_) (Fin.ext ?_)
    · show (s.val * 1024 + j.val) / 1024 = s.val; omega
    · show (s.val * 1024 + j.val) % 1024 = j.val; omega
  refine Eq.trans (b := ∑ x, (A (ix2 r x) : EReal) * W (ix3 s x j)) ?_ (Finset.sum_congr rfl fun x _ => congrArg ((A (ix2 r x) : EReal) * ·) (e x).symm)
  unfold at'
  pointwise

theorem back_ref (G W2 : FVec Ideal S8192x2048 .bf16) (hG hW2 : FTy.bits .bf16 < FTy.bits .f32) :
    Host.dotGeneral (φ₁ := .f32) (φ₂ := .f32) dot_S8192x2048_S8192x2048_S8192x8192_1_1_0_0_n_n none (extf .f32 G hG) (extf .f32 W2 hW2) = back G W2 := by
  funext i
  obtain ⟨r, j, rfl⟩ : ∃ (r : Fin 8192) (j : Fin 8192), i = ix2 r j := ⟨i 0, i 1, eq_ix2 i⟩
  unfold back
  pointwise

end Reference

open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic Idealize.ShloMosaic.Rounds

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at every buffer: what the two regions leave, the launch set up as in the frame. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

end Run

section Result
variable (m : (ℓ : Loc nD τ sig) → Buf (Elt Ideal) ℓ) (ρ : Dev nD → PrngReg) (c : Dev nD)

/-- Region 1 leaves `act` as region 0 left it. -/
theorem act_final : W2 m ρ c (Proc.devRef .tc main_v0_1) = act (m ((c.tc : Thread nD τ).loc main_arg0)) (m ((c.tc : Thread nD τ).loc main_arg1)) :=
  (W2_of m ρ c main_v0_1 (by decide)).trans ((W1_arr m ρ c 3).trans (act_array (V0 m ρ) c))

theorem grad_final : W2 m ρ c (Proc.devRef .tc main_v1) = grad (m ((c.tc : Thread nD τ).loc main_arg0)) (m ((c.tc : Thread nD τ).loc main_arg1))
    (m ((c.tc : Thread nD τ).loc main_arg2)) (m ((c.tc : Thread nD τ).loc main_arg3)) := by
  refine (W2_arr m ρ c 3).trans ((grad_array (V1 m ρ) c).trans ?_)
  have e0 : V1 m ρ c main_v0_0 = relu (m ((c.tc : Thread nD τ).loc main_arg0)) (m ((c.tc : Thread nD τ).loc main_arg1)) :=
    (W1_arr m ρ c 2).trans (relu_array (V0 m ρ) c)
  have e2 : V1 m ρ c main_arg2 = m ((c.tc : Thread nD τ).loc main_arg2) := W1_args m ρ c main_arg2 (by decide)
  have e3 : V1 m ρ c main_arg3 = m ((c.tc : Thread nD τ).loc main_arg3) := W1_args m ρ c main_arg3 (by decide)
  rw [e0, e2, e3]
  rfl

end Result

/-- The reference's two results. -/
theorem act_ref (A : FVec Ideal S8192x8192 .f32) (hb hh) :
    (truncf .bf16 (mulf (maximumf A (broadcastInDim S8192x8192 ![] hb (constant (F := Ideal) Cert.ActRefIdeal.S_ .f32 0x00000000#32)))
      (maximumf A (broadcastInDim S8192x8192 ![] hb (constant (F := Ideal) Cert.ActRefIdeal.S_ .f32 0x00000000#32)))) hh : FVec Ideal S8192x8192 .bf16)
    = fun i => (max (A i) 0 * max (A i) 0 : EReal) := by
  funext i
  obtain ⟨r, j, rfl⟩ : ∃ (r : Fin 8192) (j : Fin 8192), i = ix2 r j := ⟨i 0, i 1, eq_ix2 i⟩
  pointwise

theorem grad_ref (A B : FVec Ideal S8192x8192 .f32) (hb hh) :
    (truncf .bf16 (select (cmpf .ogt A (broadcastInDim S8192x8192 ![] hb (constant (F := Ideal) Cert.ActRefIdeal.S_ .f32 0x00000000#32)))
      (mulf B (mulf (broadcastInDim S8192x8192 ![] hb (constant (F := Ideal) Cert.ActRefIdeal.S_ .f32 0x40000000#32))
        (maximumf A (broadcastInDim S8192x8192 ![] hb (constant (F := Ideal) Cert.ActRefIdeal.S_ .f32 0x00000000#32)))))
      (broadcastInDim S8192x8192 ![] hb (constant (F := Ideal) Cert.ActRefIdeal.S_ .f32 0x00000000#32))) hh : FVec Ideal S8192x8192 .bf16)
    = fun i => (B i * (Ideal.ofBits .f32 0x40000000#32 * max (A i) 0) : EReal) := by
  funext i
  refine Eq.trans ?_ (gate (B i) _ (A i))
  obtain ⟨r, j, rfl⟩ : ∃ (r : Fin 8192) (j : Fin 8192), i = ix2 r j := ⟨i 0, i 1, eq_ix2 i⟩
  rw [← select_bool]
  pointwise

/-- The activation and the gradient are the reference's. -/
theorem algebraic : Cert.algebraic_ActIdeal_ActRefIdeal (hActIdeal := facts) (hActRefIdeal := Cert.ActRefIdeal.Gen.facts) := by
  intro m ρ m' ρ' _ hag
  refine ⟨fun c => act (m ((c.tc : Thread nD τ).loc main_arg0)) (m ((c.tc : Thread nD τ).loc main_arg1)),
    fun c => grad (m ((c.tc : Thread nD τ).loc main_arg0)) (m ((c.tc : Thread nD τ).loc main_arg1))
      (m ((c.tc : Thread nD τ).loc main_arg2)) (m ((c.tc : Thread nD τ).loc main_arg3)), ?_, ?_⟩
  · exact (θ_run Cert.ActIdeal.defs _ _).mono (fun r h c =>
      ⟨(h c _ (mem_uc main_v0_1 (by decide))).trans (act_final m ρ c), (h c _ (mem_uc main_v1 (by decide))).trans (grad_final m ρ c),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c)⟩)
      (run_all (F := Ideal) m ρ)
  · refine (θ_run Cert.ActRefIdeal.defs _ _).mono (fun r h c => ⟨(h c).1.trans ?_, (h c).2.1.trans ?_, (h c).2.2⟩) (Cert.ActRefIdeal.Value.run (F := Ideal) m' ρ')
    · rw [pre_ref, (hag c).1, (hag c).2.1]
      exact act_ref _ _ _
    · rw [pre_ref, back_ref, (hag c).1, (hag c).2.1, (hag c).2.2.1, (hag c).2.2.2]
      exact grad_ref _ _ _ _

end Cert.ActV

end
-- ==== Proof.Ff2.lean ====
/-
  The MLP's second product, `act · w2`: four blocks of the inner axis are accumulated in scratch, and the block written
  out after the fourth is the whole product's.
-/
module

public import proofs.«01_k».proof.Defs
public import proofs.«01_k».proof.Proof.Tiles
public import proofs.«01_k».proof.Proof.Gen.Ff2Ideal.Value
public import proofs.«01_k».proof.Proof.Gen.Ff2RefIdeal.Run
public import Idealize.ShloMosaic.Lib.Pipeline.ValueKit

@[expose] public section

set_option maxRecDepth 16384

noncomputable section

namespace Cert.Ff2V

open Cert.Ff2Ideal Cert.Ff2Ideal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (x : Vec F S1024x2048 .bf16) (y : Vec F S2048x1024 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x2048) hz,
    View.ld_unit_zero (S := S2048x1024) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x2048) hz,
    View.ld_unit_zero (S := S2048x1024) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x : Vec Ideal S1024x2048 .bf16) (y : Vec Ideal S2048x1024 .bf16) (i j : Fin 1024) :
    (k0_pay2 s x y (ix2 i j) : EReal) = s (ix2 i j) + ∑ k, (x (ix2 i k) : EReal) * y (ix2 k j) := by
  unfold k0_pay2; pointwise

theorem idx0 : ∀ t : Fin grid0.N, win0_0.index t = ![t.val / 8, t.val % 4] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 8192) (K : Fin 8192)
    (hR : t.val / 8 * 1024 + r.val = R.val) (hK : t.val % 4 * 2048 + k.val = K.val) :
    iblk m c 0 t (ix2 r k) = V m c main_arg0 (ix2 R K) := by
  blk_ext [iblk, idx0 t]
  all_goals omega

theorem y_at (t : Fin cfg0.N) (k : Fin 2048) (j : Fin 1024) (K : Fin 8192) (J : Fin 2048)
    (hK : t.val % 4 * 2048 + k.val = K.val) (hJ : t.val / 4 % 2 * 1024 + j.val = J.val) :
    iblk m c 1 t (ix2 k j) = V m c main_arg1 (ix2 K J) := by
  blk_ext [iblk, idx1 t]
  all_goals omega

/-- After a run of four points the block written is the fold over the four blocks of the inner axis. -/
theorem outs (t : Fin cfg0.N) (h : t.val % 4 = 3) : (outsAt0 m c t.val t.isLt).1
    = k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3)) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x8192.Idx → EReal := V m c main_arg0
def Y : S8192x2048.Idx → EReal := V m c main_arg1

/-- The product of two matrices. -/
def prod (A : S8192x8192.Idx → EReal) (B : S8192x2048.Idx → EReal) : S8192x2048.Idx → EReal := fun i => ∑ x, A (ix2 (i 0) x) * B (ix2 x (i 1))

/-- Point `n` of a run adds its block of the inner axis to what the scratch held. -/
theorem step (s : Vec Ideal S1024x1024 .f32) (t : Fin cfg0.N) (h : t.val % 4 = 3) (n : Fin 4) (r j : Fin 1024) (R : Fin 8192) (J : Fin 2048)
    (hR : t.val / 8 * 1024 + r.val = R.val) (hJ : t.val / 4 % 2 * 1024 + j.val = J.val) :
    (k0_pay2 s (iblk m c 0 (run t n)) (iblk m c 1 (run t n)) (ix2 r j) : EReal)
    = s (ix2 r j) + ∑ k, X m c (ix2 R (at4 n k)) * Y m c (ix2 (at4 n k) J) := by
  have hn : (run t n).val / 8 = t.val / 8 ∧ (run t n).val / 4 % 2 = t.val / 4 % 2 ∧ (run t n).val % 4 = n.val := by
    have := n.isLt
    show (t.val - (3 - n.val)) / 8 = t.val / 8 ∧ (t.val - (3 - n.val)) / 4 % 2 = t.val / 4 % 2 ∧ (t.val - (3 - n.val)) % 4 = n.val
    omega
  have hR' : (run t n).val / 8 * 1024 + r.val = R.val := by rw [hn.1]; exact hR
  have hJ' : (run t n).val / 4 % 2 * 1024 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r j : Fin 1024) (R : Fin 8192) (J : Fin 2048)
    (hR : t.val / 8 * 1024 + r.val = R.val) (hJ : t.val / 4 % 2 * 1024 + j.val = J.val) :
    ((outsAt0 m c t.val t.isLt).1 (ix2 r j) : EReal) = prod (X m c) (Y m c) (ix2 R J) := by
  rw [outs m c t h, step m c _ t h 3 r j R J hR hJ, step m c _ t h 2 r j R J hR hJ, step m c _ t h 1 r j R J hR hJ,
    step m c _ t h 0 r j R J hR hJ, pay1_at]
  exact sum4 fun x => X m c (ix2 R x) * Y m c (ix2 x J)

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 64 := lt_of_lt_of_eq t.isLt N_0
  blk_simp
  rw [after0_2]
  obtain ⟨r, j, rfl⟩ : ∃ (r : Fin 1024) (j : Fin 1024), y = ix2 r j := ⟨y 0, y 1, eq_ix2 y⟩
  refine (entry m c t h r j ⟨t.val / 8 * 1024 + r.val, by omega⟩ ⟨t.val / 4 % 2 * 1024 + j.val, by omega⟩ rfl rfl).trans (congrArg (prod (X m c) (Y m c)) ?_)
  blk_ext [idx2 t]
  all_goals omega

/-- What the reference computes. -/
theorem ref_at (A : FVec Ideal S8192x8192 .bf16) (B : FVec Ideal S8192x2048 .bf16) (hA hB : FTy.bits .bf16 < FTy.bits .f32) :
    Host.dotGeneral (φ₁ := .f32) (φ₂ := .f32) Cert.Ff2RefIdeal.dot_S8192x8192_S8192x2048_S8192x2048_1_0_0_1_n_n none
      (extf .f32 A hA) (extf .f32 B hB) = prod A B := by
  funext i
  obtain ⟨r, j, rfl⟩ : ∃ (r : Fin 8192) (j : Fin 2048), i = ix2 r j := ⟨i 0, i 1, eq_ix2 i⟩
  unfold prod
  pointwise

open Idealize.SL.Sem in
/-- The kernel's product is the reference's. -/
theorem algebraic : Cert.algebraic_Ff2Ideal_Ff2RefIdeal (hFf2Ideal := facts) (hFf2RefIdeal := Cert.Ff2RefIdeal.Gen.facts) := by
  intro m ρ m' ρ' _ hag
  refine ⟨fun c => prod (X m c) (Y m c), ?_, ?_⟩
  · exact (θ_run Cert.Ff2Ideal.defs _ _).mono (fun r h c => ⟨(h c).1.trans (array m c), (h c).2⟩) (Cert.Ff2Ideal.Value.run_blocks (F := Ideal) m ρ)
  · refine (θ_run Cert.Ff2RefIdeal.defs _ _).mono (fun r h c => ⟨(h c).1.trans ?_, (h c).2⟩) (Cert.Ff2RefIdeal.Value.run (F := Ideal) m' ρ')
    refine (ref_at _ _ _ _).trans ?_
    rw [(hag c).1, (hag c).2]
    exact congrArg₂ prod (V_main_arg0 m c).symm (V_main_arg1 m c).symm

end Cert.Ff2V

end
-- ==== Proof.Ff2Dw.lean ====
/-
  The gradient of the MLP's second weight, `actᵀ · dff`: four blocks of the tokens are accumulated in scratch, and the
  block written out after the fourth is the whole product's.
-/
module

public import proofs.«01_k».proof.Defs
public import proofs.«01_k».proof.Proof.Tiles
public import proofs.«01_k».proof.Proof.Gen.Ff2DwIdeal.Value
public import proofs.«01_k».proof.Proof.Gen.Ff2DwRefIdeal.Run
public import Idealize.ShloMosaic.Lib.Pipeline.ValueKit

@[expose] public section

set_option maxRecDepth 16384

noncomputable section

namespace Cert.Ff2DwV

open Cert.Ff2DwIdeal Cert.Ff2DwIdeal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (x : Vec F S2048x1024 .bf16) (y : Vec F S2048x1024 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread,
    View.ld_unit_zero (S := S2048x1024) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread,
    View.ld_unit_zero (S := S2048x1024) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x y : Vec Ideal S2048x1024 .bf16) (i j : Fin 1024) :
    (k0_pay2 s x y (ix2 i j) : EReal) = s (ix2 i j) + ∑ k, (x (ix2 k i) : EReal) * y (ix2 k j) := by
  unfold k0_pay2; pointwise

theorem pay3_at (s : Vec Ideal S1024x1024 .f32) (i j : Fin 1024) : (k0_pay3 s (ix2 i j) : EReal) = s (ix2 i j) := by
  unfold k0_pay3; pointwise

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 8192) (K : Fin 8192)
    (hR : t.val / 8 * 1024 + r.val = R.val) (hK : t.val % 4 * 2048 + k.val = K.val) :
    iblk m c 0 t (ix2 k r) = V m c main_arg0 (ix2 K R) := by
  blk_ext [iblk, idx0 t]
  all_goals omega

theorem y_at (t : Fin cfg0.N) (k : Fin 2048) (j : Fin 1024) (K : Fin 8192) (J : Fin 2048)
    (hK : t.val % 4 * 2048 + k.val = K.val) (hJ : t.val / 4 % 2 * 1024 + j.val = J.val) :
    iblk m c 1 t (ix2 k j) = V m c main_arg1 (ix2 K J) := by
  blk_ext [iblk, idx1 t]
  all_goals omega

/-- After a run of four points the block written is the fold over the four blocks of the inner axis. -/
theorem outs (t : Fin cfg0.N) (h : t.val % 4 = 3) : (outsAt0 m c t.val t.isLt).1
    = k0_pay3 (k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3))) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x8192.Idx → EReal := V m c main_arg0
def Y : S8192x2048.Idx → EReal := V m c main_arg1

/-- The product of two matrices. -/
def prod (A : S8192x8192.Idx → EReal) (B : S8192x2048.Idx → EReal) : S8192x2048.Idx → EReal := fun i => ∑ x, A (ix2 x (i 0)) * B (ix2 x (i 1))

/-- Point `n` of a run adds its block of the inner axis to what the scratch held. -/
theorem step (s : Vec Ideal S1024x1024 .f32) (t : Fin cfg0.N) (h : t.val % 4 = 3) (n : Fin 4) (r j : Fin 1024) (R : Fin 8192) (J : Fin 2048)
    (hR : t.val / 8 * 1024 + r.val = R.val) (hJ : t.val / 4 % 2 * 1024 + j.val = J.val) :
    (k0_pay2 s (iblk m c 0 (run t n)) (iblk m c 1 (run t n)) (ix2 r j) : EReal)
    = s (ix2 r j) + ∑ k, X m c (ix2 (at4 n k) R) * Y m c (ix2 (at4 n k) J) := by
  have hn : (run t n).val / 8 = t.val / 8 ∧ (run t n).val / 4 % 2 = t.val / 4 % 2 ∧ (run t n).val % 4 = n.val := by
    have := n.isLt
    show (t.val - (3 - n.val)) / 8 = t.val / 8 ∧ (t.val - (3 - n.val)) / 4 % 2 = t.val / 4 % 2 ∧ (t.val - (3 - n.val)) % 4 = n.val
    omega
  have hR' : (run t n).val / 8 * 1024 + r.val = R.val := by rw [hn.1]; exact hR
  have hJ' : (run t n).val / 4 % 2 * 1024 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r j : Fin 1024) (R : Fin 8192) (J : Fin 2048)
    (hR : t.val / 8 * 1024 + r.val = R.val) (hJ : t.val / 4 % 2 * 1024 + j.val = J.val) :
    ((outsAt0 m c t.val t.isLt).1 (ix2 r j) : EReal) = prod (X m c) (Y m c) (ix2 R J) := by
  rw [outs m c t h, pay3_at, step m c _ t h 3 r j R J hR hJ, step m c _ t h 2 r j R J hR hJ, step m c _ t h 1 r j R J hR hJ,
    step m c _ t h 0 r j R J hR hJ, pay1_at]
  exact sum4 fun x => X m c (ix2 x R) * Y m c (ix2 x J)

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 64 := lt_of_lt_of_eq t.isLt N_0
  blk_simp
  rw [after0_2]
  obtain ⟨r, j, rfl⟩ : ∃ (r : Fin 1024) (j : Fin 1024), y = ix2 r j := ⟨y 0, y 1, eq_ix2 y⟩
  refine (entry m c t h r j ⟨t.val / 8 * 1024 + r.val, by omega⟩ ⟨t.val / 4 % 2 * 1024 + j.val, by omega⟩ rfl rfl).trans (congrArg (prod (X m c) (Y m c)) ?_)
  blk_ext [idx2 t]
  all_goals omega

/-- What the reference computes. -/
theorem ref_at (A : FVec Ideal S8192x8192 .bf16) (B : FVec Ideal S8192x2048 .bf16) (hA hB : FTy.bits .bf16 < FTy.bits .f32)
    (hT) :
    truncf .bf16 (transpose S8192x2048 [1, 0] (Host.dotGeneral (φ₁ := .f32) (φ₂ := .f32) Cert.Ff2DwRefIdeal.dot_S8192x2048_S8192x8192_S2048x8192_0_0_1_1_n_n none
      (extf .f32 B hB) (extf .f32 A hA)) hT) hA = prod A B := by
  funext i
  obtain ⟨r, j, rfl⟩ : ∃ (r : Fin 8192) (j : Fin 2048), i = ix2 r j := ⟨i 0, i 1, eq_ix2 i⟩
  refine Eq.trans (b := ∑ x, (B (ix2 x j) : EReal) * A (ix2 x r)) ?_ (Finset.sum_congr rfl fun x _ => mul_comm _ _)
  pointwise

open Idealize.SL.Sem in
/-- The kernel's gradient is the reference's. -/
theorem algebraic : Cert.algebraic_Ff2DwIdeal_Ff2DwRefIdeal (hFf2DwIdeal := facts) (hFf2DwRefIdeal := Cert.Ff2DwRefIdeal.Gen.facts) := by
  intro m ρ m' ρ' _ hag
  refine ⟨fun c => prod (X m c) (Y m c), ?_, ?_⟩
  · exact (θ_run Cert.Ff2DwIdeal.defs _ _).mono (fun r h c => ⟨(h c).1.trans (array m c), (h c).2⟩) (Cert.Ff2DwIdeal.Value.run_blocks (F := Ideal) m ρ)
  · refine (θ_run Cert.Ff2DwRefIdeal.defs _ _).mono (fun r h c => ⟨(h c).1.trans ?_, (h c).2⟩) (Cert.Ff2DwRefIdeal.Value.run (F := Ideal) m' ρ')
    refine (ref_at _ _ _ _ _).trans ?_
    rw [(hag c).1, (hag c).2.1]
    exact congrArg₂ prod (V_main_arg0 m c).symm (V_main_arg1 m c).symm

end Cert.Ff2DwV

end
-- ==== Proof.Ff1Dx.lean ====
/-
  The gradient of the MLP's input, `da · w1ᵀ`: four blocks of the inner axis are accumulated in scratch, and the block
  written out after the fourth is the whole product's.
-/
module

public import proofs.«01_k».proof.Defs
public import proofs.«01_k».proof.Proof.Tiles
public import proofs.«01_k».proof.Proof.Gen.Ff1DxIdeal.Value
public import proofs.«01_k».proof.Proof.Gen.Ff1DxRefIdeal.Run
public import Idealize.ShloMosaic.Lib.Pipeline.ValueKit

@[expose] public section

set_option maxRecDepth 16384

noncomputable section

namespace Cert.Ff1DxV

open Cert.Ff1DxIdeal Cert.Ff1DxIdeal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S1024x2048 .bf16) (h3 : a3.IsWhole) (a4 : Memref sig .tc .vmem S1024x2048 .bf16) (h4 : a4.IsWhole)
    (a5 : Memref sig .tc .vmem S1024x1024 .f32) (h5 : a5.IsWhole) (a6 : Memref sig .tc .vmem S1024x1024 .f32) (h6 : a6.IsWhole)
    (x : Vec F S1024x2048 .bf16) (y : Vec F S1024x2048 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x2048) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x y : Vec Ideal S1024x2048 .bf16) (i j : Fin 1024) :
    (k0_pay2 s x y (ix2 i j) : EReal) = s (ix2 i j) + ∑ k, (x (ix2 i k) : EReal) * y (ix2 j k) := by
  unfold k0_pay2; pointwise

theorem idx0 : ∀ t : Fin grid0.N, win0_0.index t = ![t.val / 8, t.val % 4] := by decide +kernel
theorem idx1 : ∀ t : Fin grid0.N, win0_1.index t = ![t.val / 4 % 2, t.val % 4] := by decide +kernel
theorem idx2 : ∀ t : Fin grid0.N, win0_2.index t = ![t.val / 8, t.val / 4 % 2] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 8192) (K : Fin 8192)
    (hR : t.val / 8 * 1024 + r.val = R.val) (hK : t.val % 4 * 2048 + k.val = K.val) :
    iblk m c 0 t (ix2 r k) = V m c main_arg0 (ix2 R K) := by
  blk_ext [iblk, idx0 t]
  all_goals omega

theorem y_at (t : Fin cfg0.N) (k : Fin 2048) (j : Fin 1024) (K : Fin 8192) (J : Fin 2048)
    (hK : t.val % 4 * 2048 + k.val = K.val) (hJ : t.val / 4 % 2 * 1024 + j.val = J.val) :
    iblk m c 1 t (ix2 j k) = V m c main_v1 (ix2 J K) := by
  blk_ext [iblk, idx1 t]
  all_goals omega

/-- After a run of four points the block written is the fold over the four blocks of the inner axis. -/
theorem outs (t : Fin cfg0.N) (h : t.val % 4 = 3) : (outsAt0 m c t.val t.isLt).1
    = k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3)) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x8192.Idx → EReal := V m c main_arg0
def Y : S2048x8192.Idx → EReal := V m c main_v1

/-- The product of two matrices. -/
def prod (A : S8192x8192.Idx → EReal) (B : S2048x8192.Idx → EReal) : S8192x2048.Idx → EReal := fun i => ∑ x, A (ix2 (i 0) x) * B (ix2 (i 1) x)

/-- Point `n` of a run adds its block of the inner axis to what the scratch held. -/
theorem step (s : Vec Ideal S1024x1024 .f32) (t : Fin cfg0.N) (h : t.val % 4 = 3) (n : Fin 4) (r j : Fin 1024) (R : Fin 8192) (J : Fin 2048)
    (hR : t.val / 8 * 1024 + r.val = R.val) (hJ : t.val / 4 % 2 * 1024 + j.val = J.val) :
    (k0_pay2 s (iblk m c 0 (run t n)) (iblk m c 1 (run t n)) (ix2 r j) : EReal)
    = s (ix2 r j) + ∑ k, X m c (ix2 R (at4 n k)) * Y m c (ix2 J (at4 n k)) := by
  have hn : (run t n).val / 8 = t.val / 8 ∧ (run t n).val / 4 % 2 = t.val / 4 % 2 ∧ (run t n).val % 4 = n.val := by
    have := n.isLt
    show (t.val - (3 - n.val)) / 8 = t.val / 8 ∧ (t.val - (3 - n.val)) / 4 % 2 = t.val / 4 % 2 ∧ (t.val - (3 - n.val)) % 4 = n.val
    omega
  have hR' : (run t n).val / 8 * 1024 + r.val = R.val := by rw [hn.1]; exact hR
  have hJ' : (run t n).val / 4 % 2 * 1024 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r j : Fin 1024) (R : Fin 8192) (J : Fin 2048)
    (hR : t.val / 8 * 1024 + r.val = R.val) (hJ : t.val / 4 % 2 * 1024 + j.val = J.val) :
    ((outsAt0 m c t.val t.isLt).1 (ix2 r j) : EReal) = prod (X m c) (Y m c) (ix2 R J) := by
  rw [outs m c t h, step m c _ t h 3 r j R J hR hJ, step m c _ t h 2 r j R J hR hJ, step m c _ t h 1 r j R J hR hJ,
    step m c _ t h 0 r j R J hR hJ, pay1_at]
  exact sum4 fun x => X m c (ix2 R x) * Y m c (ix2 J x)

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 64 := lt_of_lt_of_eq t.isLt N_0
  blk_simp
  rw [after0_2]
  obtain ⟨r, j, rfl⟩ : ∃ (r : Fin 1024) (j : Fin 1024), y = ix2 r j := ⟨y 0, y 1, eq_ix2 y⟩
  refine (entry m c t h r j ⟨t.val / 8 * 1024 + r.val, by omega⟩ ⟨t.val / 4 % 2 * 1024 + j.val, by omega⟩ rfl rfl).trans (congrArg (prod (X m c) (Y m c)) ?_)
  blk_ext [idx2 t]
  all_goals omega

/-- The weight with its shards side by side, which kernel and reference both read. -/
def whole (W : FVec Ideal S8x2048x1024 .bf16) : S2048x8192.Idx → EReal :=
  shapeCast S2048x8192 (transpose S2048x8x1024 [1, 0, 2] W transposes_S8x2048x1024_S2048x8x1024_1_0_2) shapeCasts_S2048x8x1024_S2048x8192

theorem Y_eq : Y m c = whole (m ((c.tc : Thread nD τ).loc main_arg1)) := by
  unfold Y whole V
  after_results <;> rfl

/-- What the reference computes. -/
theorem ref_at (A : FVec Ideal S8192x8192 .bf16) (W : FVec Ideal S8x2048x1024 .bf16) (hA hW : FTy.bits .bf16 < FTy.bits .f32) (hT hS) :
    Host.dotGeneral (φ₁ := .f32) (φ₂ := .f32) Cert.Ff1DxRefIdeal.dot_S8192x8192_S2048x8192_S8192x2048_1_1_0_0_n_n none
      (extf .f32 A hA) (shapeCast S2048x8192 (transpose S2048x8x1024 [1, 0, 2] (extf .f32 W hW) hT) hS) = prod A (whole W) := by
  funext i
  obtain ⟨r, j, rfl⟩ : ∃ (r : Fin 8192) (j : Fin 2048), i = ix2 r j := ⟨i 0, i 1, eq_ix2 i⟩
  show _ = ∑ x, (A (ix2 r x) : EReal) * whole W (ix2 j x)
  have e : whole W = (shapeCast S2048x8192 (transpose S2048x8x1024 [1, 0, 2] (extf .f32 W hW) hT) hS : FVec Ideal S2048x8192 .f32) := rfl
  rw [e]
  generalize (shapeCast S2048x8192 (transpose S2048x8x1024 [1, 0, 2] (extf .f32 W hW) hT) hS : FVec Ideal S2048x8192 .f32) = B
  pointwise

open Idealize.SL.Sem in
/-- The kernel's gradient is the reference's. -/
theorem algebraic : Cert.algebraic_Ff1DxIdeal_Ff1DxRefIdeal (hFf1DxIdeal := facts) (hFf1DxRefIdeal := Cert.Ff1DxRefIdeal.Gen.facts) := by
  intro m ρ m' ρ' _ hag
  refine ⟨fun c => prod (X m c) (Y m c), ?_, ?_⟩
  · exact (θ_run Cert.Ff1DxIdeal.defs _ _).mono (fun r h c => ⟨(h c).1.trans (array m c), (h c).2⟩) (Cert.Ff1DxIdeal.Value.run_blocks (F := Ideal) m ρ)
  · refine (θ_run Cert.Ff1DxRefIdeal.defs _ _).mono (fun r h c => ⟨(h c).1.trans ?_, (h c).2⟩) (Cert.Ff1DxRefIdeal.Value.run (F := Ideal) m' ρ')
    refine (ref_at _ _ _ _ _ _).trans ?_
    rw [(hag c).1, (hag c).2]
    exact congrArg₂ prod (V_main_arg0 m c).symm (Y_eq m c).symm

end Cert.Ff1DxV

end
-- ==== Proof.Ff1Dw.lean ====
/-
  The gradient of the MLP's first weight, `h2ᵀ · da`, laid out shard by shard: four blocks of the tokens are accumulated
  in scratch, and the block written out after the fourth is the whole product's.
-/
module

public import proofs.«01_k».proof.Defs
public import proofs.«01_k».proof.Proof.Tiles
public import proofs.«01_k».proof.Proof.Gen.Ff1DwIdeal.Value
public import proofs.«01_k».proof.Proof.Gen.Ff1DwRefIdeal.Run
public import Idealize.ShloMosaic.Lib.Pipeline.ValueKit

@[expose] public section

set_option maxRecDepth 16384

noncomputable section

namespace Cert.Ff1DwV

open Cert.Ff1DwIdeal Cert.Ff1DwIdeal.Gen Cert.Tiles Idealize.ShloMosaic

theorem hz : (![0, 0] : Fin 2 → Nat) = fun _ => 0 := funext fun a => by fin_cases a <;> rfl

theorem hz3 : (![0, 0, 0] : Fin 3 → Nat) = fun _ => 0 := funext fun a => by fin_cases a <;> rfl

section Cases
variable {F : FTy → Type} [FloatOps F] (c : Dev nD) (i : grid0.Coords)
    (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole)
    (x : Vec F S2048x1024 .bf16) (y : Vec F S2048x1024 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread,
    View.ld_unit_zero (S := S2048x1024) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3]
  simp only [View.readAt_eq_ld, h3.read_unread, h4.read_unread, h6.read_unread,
    View.ld_unit_zero (S := S2048x1024) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x y : Vec Ideal S2048x1024 .bf16) (i j : Fin 1024) :
    (k0_pay2 s x y (ix2 i j) : EReal) = s (ix2 i j) + ∑ k, (x (ix2 k i) : EReal) * y (ix2 k j) := by
  unfold k0_pay2; pointwise

theorem pay3_at (s : Vec Ideal S1024x1024 .f32) (i j : Fin 1024) : (k0_pay3 s (ix3 0 i j) : EReal) = s (ix2 i j) := by
  unfold k0_pay3; pointwise

theorem idx0 : ∀ t : Fin grid0.N, win0_0.index t = ![t.val % 4, t.val / 32] := by decide +kernel
theorem idx1 : ∀ t : Fin grid0.N, win0_1.index t = ![t.val % 4, t.val / 4 % 8] := by decide +kernel
theorem idx2 : ∀ t : Fin grid0.N, win0_2.index t = ![t.val / 4 % 8, t.val / 32, 0] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 2048) (K : Fin 8192)
    (hR : t.val / 32 * 1024 + r.val = R.val) (hK : t.val % 4 * 2048 + k.val = K.val) :
    iblk m c 0 t (ix2 k r) = V m c main_arg0 (ix2 K R) := by
  blk_ext [iblk, idx0 t]
  all_goals omega

theorem y_at (t : Fin cfg0.N) (k : Fin 2048) (j : Fin 1024) (K : Fin 8192) (J : Fin 8192)
    (hK : t.val % 4 * 2048 + k.val = K.val) (hJ : t.val / 4 % 8 * 1024 + j.val = J.val) :
    iblk m c 1 t (ix2 k j) = V m c main_arg1 (ix2 K J) := by
  blk_ext [iblk, idx1 t]
  all_goals omega

/-- After a run of four points the block written is the fold over the four blocks of the inner axis. -/
theorem outs (t : Fin cfg0.N) (h : t.val % 4 = 3) : (outsAt0 m c t.val t.isLt).1
    = k0_pay3 (k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3))) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x2048.Idx → EReal := V m c main_arg0
def Y : S8192x8192.Idx → EReal := V m c main_arg1

/-- Column `q` of shard `s`. -/
def col (s : Fin 8) (q : Fin 1024) : Fin 8192 := at' rfl s q

/-- The product of two matrices, its columns in eight shards. -/
def prod (A : S8192x2048.Idx → EReal) (B : S8192x8192.Idx → EReal) : S8x2048x1024.Idx → EReal :=
  fun i => ∑ x, A (ix2 x (i 1)) * B (ix2 x (col (i 0) (i 2)))

/-- Point `n` of a run adds its block of the inner axis to what the scratch held. -/
theorem step (s : Vec Ideal S1024x1024 .f32) (t : Fin cfg0.N) (h : t.val % 4 = 3) (n : Fin 4) (r j : Fin 1024) (R : Fin 2048) (J : Fin 8192)
    (hR : t.val / 32 * 1024 + r.val = R.val) (hJ : t.val / 4 % 8 * 1024 + j.val = J.val) :
    (k0_pay2 s (iblk m c 0 (run t n)) (iblk m c 1 (run t n)) (ix2 r j) : EReal)
    = s (ix2 r j) + ∑ k, X m c (ix2 (at4 n k) R) * Y m c (ix2 (at4 n k) J) := by
  have hn : (run t n).val / 32 = t.val / 32 ∧ (run t n).val / 4 % 8 = t.val / 4 % 8 ∧ (run t n).val % 4 = n.val := by
    have := n.isLt
    show (t.val - (3 - n.val)) / 32 = t.val / 32 ∧ (t.val - (3 - n.val)) / 4 % 8 = t.val / 4 % 8 ∧ (t.val - (3 - n.val)) % 4 = n.val
    omega
  have hR' : (run t n).val / 32 * 1024 + r.val = R.val := by rw [hn.1]; exact hR
  have hJ' : (run t n).val / 4 % 8 * 1024 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r j : Fin 1024) (R : Fin 2048) (Sh : Fin 8)
    (hR : t.val / 32 * 1024 + r.val = R.val) (hS : t.val / 4 % 8 = Sh.val) :
    ((outsAt0 m c t.val t.isLt).1 (ix3 0 r j) : EReal) = prod (X m c) (Y m c) (ix3 Sh R j) := by
  have hJ : t.val / 4 % 8 * 1024 + j.val = (col Sh j).val := by rw [hS]; rfl
  rw [outs m c t h, pay3_at, step m c _ t h 3 r j R (col Sh j) hR hJ, step m c _ t h 2 r j R (col Sh j) hR hJ, step m c _ t h 1 r j R (col Sh j) hR hJ,
    step m c _ t h 0 r j R (col Sh j) hR hJ, pay1_at]
  exact sum4 fun x => X m c (ix2 x R) * Y m c (ix2 x (col Sh j))

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 64 := lt_of_lt_of_eq t.isLt N_0
  blk_simp
  rw [after0_2]
  obtain ⟨z, r, j, rfl⟩ : ∃ (z : Fin 1) (r : Fin 1024) (j : Fin 1024), y = ix3 z r j := ⟨y 0, y 1, y 2, eq_ix3 y⟩
  obtain rfl : z = 0 := Subsingleton.elim _ _
  refine (entry m c t h r j ⟨t.val / 32 * 1024 + r.val, by omega⟩ ⟨t.val / 4 % 8, by omega⟩ rfl rfl).trans (congrArg (prod (X m c) (Y m c)) ?_)
  blk_ext [idx2 t]
  all_goals omega

/-- What the reference computes. -/
theorem ref_at (A : FVec Ideal S8192x2048 .bf16) (B : FVec Ideal S8192x8192 .bf16) (hA hB : FTy.bits .bf16 < FTy.bits .f32) (hT hS hT') :
    truncf .bf16 (transpose S8x2048x1024 [1, 0, 2] (shapeCast Cert.Ff1DwRefIdeal.S2048x8x1024 (transpose Cert.Ff1DwRefIdeal.S2048x8192 [1, 0]
      (Host.dotGeneral (φ₁ := .f32) (φ₂ := .f32) Cert.Ff1DwRefIdeal.dot_S8192x8192_S8192x2048_S8192x2048_0_0_1_1_n_n none
      (extf .f32 B hB) (extf .f32 A hA)) hT) hS) hT') hA = prod A B := by
  funext i
  obtain ⟨s, r, j, rfl⟩ : ∃ (s : Fin 8) (r : Fin 2048) (j : Fin 1024), i = ix3 s r j := ⟨i 0, i 1, i 2, eq_ix3 i⟩
  refine Eq.trans (b := ∑ x, (B (ix2 x (col s j)) : EReal) * A (ix2 x r)) ?_ (Finset.sum_congr rfl fun x _ => mul_comm _ _)
  unfold col at'
  pointwise

open Idealize.SL.Sem in
/-- The kernel's gradient is the reference's. -/
theorem algebraic : Cert.algebraic_Ff1DwIdeal_Ff1DwRefIdeal (hFf1DwIdeal := facts) (hFf1DwRefIdeal := Cert.Ff1DwRefIdeal.Gen.facts) := by
  intro m ρ m' ρ' _ hag
  refine ⟨fun c => prod (X m c) (Y m c), ?_, ?_⟩
  · exact (θ_run Cert.Ff1DwIdeal.defs _ _).mono (fun r h c => ⟨(h c).1.trans (array m c), (h c).2⟩) (Cert.Ff1DwIdeal.Value.run_blocks (F := Ideal) m ρ)
  · refine (θ_run Cert.Ff1DwRefIdeal.defs _ _).mono (fun r h c => ⟨(h c).1.trans ?_, (h c).2⟩) (Cert.Ff1DwRefIdeal.Value.run (F := Ideal) m' ρ')
    refine (ref_at _ _ _ _ _ _ _).trans ?_
    rw [(hag c).1, (hag c).2]
    exact congrArg₂ prod (V_main_arg0 m c).symm (V_main_arg1 m c).symm

end Cert.Ff1DwV

end
-- ==== Proof.Proj.lean ====
/-
  The three forward projections, one whole product each: `h · win` with the weight's eight shards side by side,
  `yg · wglu`, and `cat · wout`. No region reads what another leaves.
-/
module

public import proofs.«01_k».proof.Defs
public import proofs.«01_k».proof.Proof.Tiles
public import proofs.«01_k».proof.Proof.Gen.ProjIdeal.Frame
public import proofs.«01_k».proof.Proof.Gen.ProjRefIdeal.Run
public import Idealize.ShloMosaic.Lib.Pipeline.ValueKit

@[expose] public section

set_option maxRecDepth 16384

noncomputable section

namespace Cert.ProjV

open Cert.ProjIdeal Cert.ProjIdeal.Gen Cert.Tiles Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- The first weight with its shards side by side. -/
def whole (W : S8x2048x512.Idx → EReal) : Cert.ProjRefIdeal.S2048x4096.Idx → EReal := fun i =>
  W (ix3 ⟨(i 1).val / 512, by have := (i 1).isLt; have : (i 1).val < 4096 := this; omega⟩ (i 0) ⟨(i 1).val % 512, Nat.mod_lt _ (by decide)⟩)

/-- The three products. -/
def inProd (A : S8192x2048.Idx → EReal) (W : S8x2048x512.Idx → EReal) : S8192x4096.Idx → EReal := fun i => ∑ x, A (ix2 (i 0) x) * whole W (ix2 x (i 1))
def gluProd (A : S8192x1024.Idx → EReal) (B : S1024x1024.Idx → EReal) : S8192x1024.Idx → EReal := fun i => ∑ x, A (ix2 (i 0) x) * B (ix2 x (i 1))
def outProd (A : S8192x2048.Idx → EReal) (B : S2048x2048.Idx → EReal) : S8192x2048.Idx → EReal := fun i => ∑ x, A (ix2 (i 0) x) * B (ix2 x (i 1))

theorem out0 (x : Vec Ideal S1024x2048 .bf16) (w : Vec Ideal S1x2048x512 .bf16) (i : Fin 1024) (j : Fin 512) :
    (out0_2 x w (ix2 i j) : EReal) = ∑ k, (x (ix2 i k) : EReal) * w (ix3 0 k j) := by
  unfold out0_2
  rw [View.canon_unit_zero hz, View.ld_unit_zero (S := S1024x2048) hz, View.ld_unit_zero (S := S1x2048x512) hz3]
  unfold k0_pay1
  pointwise

theorem out1 (x : Vec Ideal S1024x1024 .f32) (w : Vec Ideal S1024x1024 .bf16) (i j : Fin 1024) :
    (out1_2 x w (ix2 i j) : EReal) = ∑ k, (x (ix2 i k) : EReal) * w (ix2 k j) := by
  unfold out1_2
  rw [View.canon_unit_zero hz, View.ld_unit_zero (S := S1024x1024) hz, View.ld_unit_zero (S := S1024x1024) hz]
  unfold k1_pay1
  pointwise

theorem out2 (x : Vec Ideal S1024x2048 .bf16) (w : Vec Ideal S2048x1024 .bf16) (i j : Fin 1024) :
    (out2_2 x w (ix2 i j) : EReal) = ∑ k, (x (ix2 i k) : EReal) * w (ix2 k j) := by
  unfold out2_2
  rw [View.canon_unit_zero hz, View.ld_unit_zero (S := S1024x2048) hz, View.ld_unit_zero (S := S2048x1024) hz]
  unfold k2_pay1
  pointwise

theorem idx00 : ∀ t : Fin grid0.N, win0_0.index t = ![t.val / 8, 0] := by decide +kernel
theorem idx01 : ∀ t : Fin grid0.N, win0_1.index t = ![t.val % 8, 0, 0] := by decide +kernel
theorem idx02 : ∀ t : Fin grid0.N, win0_2.index t = ![t.val / 8, t.val % 8] := by decide +kernel
theorem idx10 : ∀ t : Fin grid1.N, win1_0.index t = ![t.val, 0] := by decide +kernel
theorem idx11 : ∀ t : Fin grid1.N, win1_1.index t = ![0, 0] := by decide +kernel
theorem idx12 : ∀ t : Fin grid1.N, win1_2.index t = ![t.val, 0] := by decide +kernel
theorem idx20 : ∀ t : Fin grid2.N, win2_0.index t = ![t.val / 2, 0] := by decide +kernel
theorem idx21 : ∀ t : Fin grid2.N, win2_1.index t = ![0, t.val % 2] := by decide +kernel
theorem idx22 : ∀ t : Fin grid2.N, win2_2.index t = ![t.val / 2, t.val % 2] := by decide +kernel

section Blocks
variable (V : (c : Dev nD) → (b : Ref sig .tc) → Buf (Elt Ideal) ((c.tc : Thread nD τ).loc b)) (c : Dev nD)

theorem h_at (t : Fin cfg0.N) (r : Fin 1024) (k : Fin 2048) (R : Fin 8192) (hR : t.val / 8 * 1024 + r.val = R.val) :
    iblk0 V c 0 t (ix2 r k) = V c main_arg0 (ix2 R k) := by
  blk_ext [iblk0, idx00 t]
  all_goals omega

theorem win_at (t : Fin cfg0.N) (k : Fin 2048) (j : Fin 512) (J : Fin 4096) (hJ : t.val % 8 * 512 + j.val = J.val) :
    (iblk0 V c 1 t (ix3 0 k j) : EReal) = whole (V c main_arg1) (ix2 k J) := by
  unfold whole
  blk_ext [iblk0, idx01 t]
  all_goals first | omega | (show _ = J.val / 512; omega) | (show _ = J.val % 512; omega)

theorem yg_at (t : Fin cfg1.N) (r k : Fin 1024) (R : Fin 8192) (hR : t.val * 1024 + r.val = R.val) :
    iblk1 V c 0 t (ix2 r k) = V c main_arg2 (ix2 R k) := by
  blk_ext [iblk1, idx10 t]
  all_goals omega

theorem wglu_at (t : Fin cfg1.N) (k j : Fin 1024) : iblk1 V c 1 t (ix2 k j) = V c main_arg3 (ix2 k j) := by
  blk_ext [iblk1, idx11 t]
  all_goals omega

theorem cat_at (t : Fin cfg2.N) (r : Fin 1024) (k : Fin 2048) (R : Fin 8192) (hR : t.val / 2 * 1024 + r.val = R.val) :
    iblk2 V c 0 t (ix2 r k) = V c main_arg4 (ix2 R k) := by
  blk_ext [iblk2, idx20 t]
  all_goals omega

theorem wout_at (t : Fin cfg2.N) (k : Fin 2048) (j : Fin 1024) (J : Fin 2048) (hJ : t.val % 2 * 1024 + j.val = J.val) :
    iblk2 V c 1 t (ix2 k j) = V c main_arg5 (ix2 k J) := by
  blk_ext [iblk2, idx21 t]
  all_goals omega

/-- What each region leaves is its product. -/
theorem in_array : (dat0 V c).arrAt 2 cfg0.N = inProd (V c main_arg0) (V c main_arg1) := by
  refine (dat0 V c).arrAt_eq_of_covers 2 _ (by decide +kernel) fun t hf y => ?_
  have hN : t.val < 64 := lt_of_lt_of_eq t.isLt N_0
  blk_simp
  rw [after0_2]
  obtain ⟨r, j, rfl⟩ : ∃ (r : Fin 1024) (j : Fin 512), y = ix2 r j := ⟨y 0, y 1, eq_ix2 y⟩
  refine (out0 _ _ r j).trans ((Finset.sum_congr rfl fun k _ => congrArg₂ (fun u v : EReal => u * v)
    (h_at V c t r k ⟨t.val / 8 * 1024 + r.val, by omega⟩ rfl) (win_at V c t k j ⟨t.val % 8 * 512 + j.val, by omega⟩ rfl)).trans ?_)
  refine congrArg (inProd (V c main_arg0) (V c main_arg1)) (a₁ := ix2 _ _) ?_
  blk_ext [idx02 t]
  all_goals omega

theorem glu_array : (dat1 V c).arrAt 2 cfg1.N = gluProd (V c main_arg2) (V c main_arg3) := by
  refine (dat1 V c).arrAt_eq_of_covers 2 _ (by decide +kernel) fun t hf y => ?_
  have hN : t.val < 8 := lt_of_lt_of_eq t.isLt N_1
  blk_simp
  rw [after1_2]
  obtain ⟨r, j, rfl⟩ : ∃ (r j : Fin 1024), y = ix2 r j := ⟨y 0, y 1, eq_ix2 y⟩
  refine (out1 _ _ r j).trans ((Finset.sum_congr rfl fun k _ => congrArg₂ (fun u v : EReal => u * v)
    (yg_at V c t r k ⟨t.val * 1024 + r.val, by omega⟩ rfl) (wglu_at V c t k j)).trans ?_)
  refine congrArg (gluProd (V c main_arg2) (V c main_arg3)) (a₁ := ix2 _ _) ?_
  blk_ext [idx12 t]
  all_goals omega

theorem out_array : (dat2 V c).arrAt 2 cfg2.N = outProd (V c main_arg4) (V c main_arg5) := by
  refine (dat2 V c).arrAt_eq_of_covers 2 _ (by decide +kernel) fun t hf y => ?_
  have hN : t.val < 16 := lt_of_lt_of_eq t.isLt N_2
  blk_simp
  rw [after2_2]
  obtain ⟨r, j, rfl⟩ : ∃ (r j : Fin 1024), y = ix2 r j := ⟨y 0, y 1, eq_ix2 y⟩
  refine (out2 _ _ r j).trans ((Finset.sum_congr rfl fun k _ => congrArg₂ (fun u v : EReal => u * v)
    (cat_at V c t r k ⟨t.val / 2 * 1024 + r.val, by omega⟩ rfl) (wout_at V c t k j ⟨t.val % 2 * 1024 + j.val, by omega⟩ rfl)).trans ?_)
  refine congrArg (outProd (V c main_arg4) (V c main_arg5)) (a₁ := ix2 _ _) ?_
  blk_ext [idx22 t]
  all_goals omega

end Blocks

section Reference
open Cert.ProjRefIdeal (dot_S8192x2048_S2048x4096_S8192x4096_1_0_0_1_n_n dot_S8192x1024_S1024x1024_S8192x1024_1_0_0_1_n_n
  dot_S8192x2048_S2048x2048_S8192x2048_1_0_0_1_n_n S2048x4096 S2048x8x512)

theorem in_ref (A : FVec Ideal S8192x2048 .bf16) (W : FVec Ideal S8x2048x512 .bf16) (hA hW : FTy.bits .bf16 < FTy.bits .f32) (hT hS) :
    Host.dotGeneral (φ₁ := .f32) (φ₂ := .f32) dot_S8192x2048_S2048x4096_S8192x4096_1_0_0_1_n_n none
    (extf .f32 A hA) (shapeCast S2048x4096 (transpose S2048x8x512 [1, 0, 2] (extf .f32 W hW) hT) hS) = inProd A W := by
  funext i
  obtain ⟨r, s, j, rfl⟩ : ∃ (r : Fin 8192) (s : Fin 8) (j : Fin 512), i = ix2 r (at' rfl s j) := by
    have h1 : (i 1).val < 4096 := (i 1).isLt
    refine ⟨i 0, ⟨(i 1).val / 512, by omega⟩, ⟨(i 1).val % 512, by omega⟩, ?_⟩
    refine (eq_ix2 i).trans (congrArg (ix2 (i 0)) (Fin.ext ?_))
    show (i 1).val = (i 1).val / 512 * 512 + (i 1).val % 512
    omega
  have e : ∀ x : Fin 2048, whole W (ix2 x (at' rfl s j)) = W (ix3 s x j) := fun x => by
    have := j.isLt
    unfold whole
    refine congrArg W ?_
    refine congrArg₂ (fun u v => ix3 u x v) (Fin.ext ?_) (Fin.ext ?_)
    · show (s.val * 512 + j.val) / 512 = s.val; omega
    · show (s.val * 512 + j.val) % 512 = j.val; omega
  refine Eq.trans (b := ∑ x, (A (ix2 r x) : EReal) * W (ix3 s x j)) ?_ (Finset.sum_congr rfl fun x _ => congrArg ((A (ix2 r x) : EReal) * ·) (e x).symm)
  unfold at'
  pointwise

theorem glu_ref (A : FVec Ideal S8192x1024 .f32) (B : FVec Ideal S1024x1024 .bf16) (hB : FTy.bits .bf16 < FTy.bits .f32) :
    Host.dotGeneral (φ₁ := .f32) (φ₂ := .f32) dot_S8192x1024_S1024x1024_S8192x1024_1_0_0_1_n_n none A (extf .f32 B hB) = gluProd A B := by
  funext i
  obtain ⟨r, j, rfl⟩ : ∃ (r : Fin 8192) (j : Fin 1024), i = ix2 r j := ⟨i 0, i 1, eq_ix2 i⟩
  unfold gluProd
  pointwise

theorem out_ref (A : FVec Ideal S8192x2048 .bf16) (B : FVec Ideal S2048x2048 .bf16) (hA hB : FTy.bits .bf16 < FTy.bits .f32) :
    Host.dotGeneral (φ₁ := .f32) (φ₂ := .f32) dot_S8192x2048_S2048x2048_S8192x2048_1_0_0_1_n_n none (extf .f32 A hA) (extf .f32 B hB) = outProd A B := by
  funext i
  obtain ⟨r, j, rfl⟩ : ∃ (r : Fin 8192) (j : Fin 2048), i = ix2 r j := ⟨i 0, i 1, eq_ix2 i⟩
  unfold outProd
  pointwise

end Reference

open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic Idealize.ShloMosaic.Rounds

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at every buffer: what the three regions leave, the launch set up as in the frame. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

end Run

section Result
variable (m : (ℓ : Loc nD τ sig) → Buf (Elt Ideal) ℓ) (ρ : Dev nD → PrngReg) (c : Dev nD)

/-- A region's array is left alone by the regions after it, and its arguments by those before it. -/
theorem in_final : W3 m ρ c (Proc.devRef .tc main_v0) = inProd (m ((c.tc : Thread nD τ).loc main_arg0)) (m ((c.tc : Thread nD τ).loc main_arg1)) :=
  (W3_of m ρ c main_v0 (by decide)).trans ((W2_of m ρ c main_v0 (by decide)).trans ((W1_arr m ρ c 2).trans (in_array (V0 m ρ) c)))

theorem glu_final : W3 m ρ c (Proc.devRef .tc main_v1) = gluProd (m ((c.tc : Thread nD τ).loc main_arg2)) (m ((c.tc : Thread nD τ).loc main_arg3)) := by
  refine (W3_of m ρ c main_v1 (by decide)).trans ((W2_arr m ρ c 2).trans ((glu_array (V1 m ρ) c).trans ?_))
  exact congrArg₂ gluProd (W1_args m ρ c main_arg2 (by decide)) (W1_args m ρ c main_arg3 (by decide))

theorem out_final : W3 m ρ c (Proc.devRef .tc main_v2) = outProd (m ((c.tc : Thread nD τ).loc main_arg4)) (m ((c.tc : Thread nD τ).loc main_arg5)) := by
  refine (W3_arr m ρ c 2).trans ((out_array (V2 m ρ) c).trans ?_)
  exact congrArg₂ outProd (W2_args m ρ c main_arg4 (by decide)) (W2_args m ρ c main_arg5 (by decide))

end Result

/-- The three products are the reference's. -/
theorem algebraic : Cert.algebraic_ProjIdeal_ProjRefIdeal (hProjIdeal := facts) (hProjRefIdeal := Cert.ProjRefIdeal.Gen.facts) := by
  intro m ρ m' ρ' _ hag
  refine ⟨fun c => inProd (m ((c.tc : Thread nD τ).loc main_arg0)) (m ((c.tc : Thread nD τ).loc main_arg1)), fun c => gluProd (m ((c.tc : Thread nD τ).loc main_arg2)) (m ((c.tc : Thread nD τ).loc main_arg3)), fun c => outProd (m ((c.tc : Thread nD τ).loc main_arg4)) (m ((c.tc : Thread nD τ).loc main_arg5)), ?_, ?_⟩
  · exact (θ_run Cert.ProjIdeal.defs _ _).mono (fun r h c =>
      ⟨(h c _ (mem_uc main_v0 (by decide))).trans (in_final m ρ c), (h c _ (mem_uc main_v1 (by decide))).trans (glu_final m ρ c),
       (h c _ (mem_uc main_v2 (by decide))).trans (out_final m ρ c),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c),
       (h c _ (mem_uc main_arg4 (by decide))).trans (W3_main_arg4 m ρ c), (h c _ (mem_uc main_arg5 (by decide))).trans (W3_main_arg5 m ρ c)⟩)
      (run_all (F := Ideal) m ρ)
  · refine (θ_run Cert.ProjRefIdeal.defs _ _).mono (fun r h c => ⟨(h c).1.trans ?_, (h c).2.1.trans ?_, (h c).2.2.1.trans ?_, (h c).2.2.2⟩)
      (Cert.ProjRefIdeal.Value.run (F := Ideal) m' ρ')
    · rw [in_ref, (hag c).1, (hag c).2.1]
    · rw [glu_ref, (hag c).2.2.1, (hag c).2.2.2.1]
    · rw [out_ref, (hag c).2.2.2.2.1, (hag c).2.2.2.2.2]

end Cert.ProjV

end
-- ==== Proof.ProjDx.lean ====
/-
  The gradients of the two projections' inputs, one whole product each: `dmixed · woutᵀ` and `dz · wgluᵀ`.
  Neither region reads what the other leaves.
-/
module

public import proofs.«01_k».proof.Defs
public import proofs.«01_k».proof.Proof.Tiles
public import proofs.«01_k».proof.Proof.Gen.ProjDxIdeal.Frame
public import proofs.«01_k».proof.Proof.Gen.ProjDxRefIdeal.Run
public import Idealize.ShloMosaic.Lib.Pipeline.ValueKit

@[expose] public section

set_option maxRecDepth 16384

noncomputable section

namespace Cert.ProjDxV

open Cert.ProjDxIdeal Cert.ProjDxIdeal.Gen Cert.Tiles Idealize.ShloMosaic

theorem hz : (![0, 0] : Fin 2 → Nat) = fun _ => 0 := funext fun a => by fin_cases a <;> rfl

/-- The two products. -/
def outProd (A : S8192x2048.Idx → EReal) (B : S2048x2048.Idx → EReal) : S8192x2048.Idx → EReal := fun i => ∑ x, A (ix2 (i 0) x) * B (ix2 (i 1) x)
def gluProd (A : S8192x1024.Idx → EReal) (B : S1024x1024.Idx → EReal) : S8192x1024.Idx → EReal := fun i => ∑ x, A (ix2 (i 0) x) * B (ix2 (i 1) x)

theorem out0 (x w : Vec Ideal S1024x2048 .bf16) (i j : Fin 1024) :
    (out0_2 x w (ix2 i j) : EReal) = ∑ k, (x (ix2 i k) : EReal) * w (ix2 j k) := by
  unfold out0_2
  rw [View.canon_unit_zero hz, View.ld_unit_zero (S := S1024x2048) hz, View.ld_unit_zero (S := S1024x2048) hz]
  unfold k0_pay1
  pointwise

theorem out1 (x w : Vec Ideal S1024x1024 .bf16) (i j : Fin 1024) :
    (out1_2 x w (ix2 i j) : EReal) = ∑ k, (x (ix2 i k) : EReal) * w (ix2 j k) := by
  unfold out1_2
  rw [View.canon_unit_zero hz, View.ld_unit_zero (S := S1024x1024) hz, View.ld_unit_zero (S := S1024x1024) hz]
  unfold k1_pay1
  pointwise

theorem idx00 : ∀ t : Fin grid0.N, win0_0.index t = ![t.val / 2, 0] := by decide +kernel
theorem idx01 : ∀ t : Fin grid0.N, win0_1.index t = ![t.val % 2, 0] := by decide +kernel
theorem idx02 : ∀ t : Fin grid0.N, win0_2.index t = ![t.val / 2, t.val % 2] := by decide +kernel
theorem idx10 : ∀ t : Fin grid1.N, win1_0.index t = ![t.val, 0] := by decide +kernel
theorem idx11 : ∀ t : Fin grid1.N, win1_1.index t = ![0, 0] := by decide +kernel
theorem idx12 : ∀ t : Fin grid1.N, win1_2.index t = ![t.val, 0] := by decide +kernel

section Blocks
variable (V : (c : Dev nD) → (b : Ref sig .tc) → Buf (Elt Ideal) ((c.tc : Thread nD τ).loc b)) (c : Dev nD)

theorem dmixed_at (t : Fin cfg0.N) (r : Fin 1024) (k : Fin 2048) (R : Fin 8192) (hR : t.val / 2 * 1024 + r.val = R.val) :
    iblk0 V c 0 t (ix2 r k) = V c main_arg0 (ix2 R k) := by
  blk_ext [iblk0, idx00 t]
  all_goals omega

theorem wout_at (t : Fin cfg0.N) (j : Fin 1024) (k : Fin 2048) (J : Fin 2048) (hJ : t.val % 2 * 1024 + j.val = J.val) :
    iblk0 V c 1 t (ix2 j k) = V c main_arg1 (ix2 J k) := by
  blk_ext [iblk0, idx01 t]
  all_goals omega

theorem dz_at (t : Fin cfg1.N) (r k : Fin 1024) (R : Fin 8192) (hR : t.val * 1024 + r.val = R.val) :
    iblk1 V c 0 t (ix2 r k) = V c main_arg2 (ix2 R k) := by
  blk_ext [iblk1, idx10 t]
  all_goals omega

theorem wglu_at (t : Fin cfg1.N) (j k : Fin 1024) : iblk1 V c 1 t (ix2 j k) = V c main_arg3 (ix2 j k) := by
  blk_ext [iblk1, idx11 t]
  all_goals omega

/-- What each region leaves is its product. -/
theorem out_array : (dat0 V c).arrAt 2 cfg0.N = outProd (V c main_arg0) (V c main_arg1) := by
  refine (dat0 V c).arrAt_eq_of_covers 2 _ (by decide +kernel) fun t hf y => ?_
  have hN : t.val < 16 := lt_of_lt_of_eq t.isLt N_0
  blk_simp
  rw [after0_2]
  obtain ⟨r, j, rfl⟩ : ∃ (r j : Fin 1024), y = ix2 r j := ⟨y 0, y 1, eq_ix2 y⟩
  refine (out0 _ _ r j).trans ((Finset.sum_congr rfl fun k _ => congrArg₂ (fun u v : EReal => u * v)
    (dmixed_at V c t r k ⟨t.val / 2 * 1024 + r.val, by omega⟩ rfl) (wout_at V c t j k ⟨t.val % 2 * 1024 + j.val, by omega⟩ rfl)).trans ?_)
  refine congrArg (outProd (V c main_arg0) (V c main_arg1)) (a₁ := ix2 _ _) ?_
  blk_ext [idx02 t]
  all_goals omega

theorem glu_array : (dat1 V c).arrAt 2 cfg1.N = gluProd (V c main_arg2) (V c main_arg3) := by
  refine (dat1 V c).arrAt_eq_of_covers 2 _ (by decide +kernel) fun t hf y => ?_
  have hN : t.val < 8 := lt_of_lt_of_eq t.isLt N_1
  blk_simp
  rw [after1_2]
  obtain ⟨r, j, rfl⟩ : ∃ (r j : Fin 1024), y = ix2 r j := ⟨y 0, y 1, eq_ix2 y⟩
  refine (out1 _ _ r j).trans ((Finset.sum_congr rfl fun k _ => congrArg₂ (fun u v : EReal => u * v)
    (dz_at V c t r k ⟨t.val * 1024 + r.val, by omega⟩ rfl) (wglu_at V c t j k)).trans ?_)
  refine congrArg (gluProd (V c main_arg2) (V c main_arg3)) (a₁ := ix2 _ _) ?_
  blk_ext [idx12 t]
  all_goals omega

end Blocks

section Reference
open Cert.ProjDxRefIdeal (dot_S8192x2048_S2048x2048_S8192x2048_1_1_0_0_n_n dot_S8192x1024_S1024x1024_S8192x1024_1_1_0_0_n_n)

theorem out_ref (A : FVec Ideal S8192x2048 .bf16) (B : FVec Ideal S2048x2048 .bf16) (hA hB : FTy.bits .bf16 < FTy.bits .f32) :
    Host.dotGeneral (φ₁ := .f32) (φ₂ := .f32) dot_S8192x2048_S2048x2048_S8192x2048_1_1_0_0_n_n none (extf .f32 A hA) (extf .f32 B hB) = outProd A B := by
  funext i
  obtain ⟨r, j, rfl⟩ : ∃ (r : Fin 8192) (j : Fin 2048), i = ix2 r j := ⟨i 0, i 1, eq_ix2 i⟩
  unfold outProd
  pointwise

theorem glu_ref (A : FVec Ideal S8192x1024 .bf16) (B : FVec Ideal S1024x1024 .bf16) (hA hB : FTy.bits .bf16 < FTy.bits .f32) :
    Host.dotGeneral (φ₁ := .f32) (φ₂ := .f32) dot_S8192x1024_S1024x1024_S8192x1024_1_1_0_0_n_n none (extf .f32 A hA) (extf .f32 B hB) = gluProd A B := by
  funext i
  obtain ⟨r, j, rfl⟩ : ∃ (r : Fin 8192) (j : Fin 1024), i = ix2 r j := ⟨i 0, i 1, eq_ix2 i⟩
  unfold gluProd
  pointwise

end Reference

open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic Idealize.ShloMosaic.Rounds

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at every buffer: what the two regions leave, the launch set up as in the frame. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

end Run

section Result
variable (m : (ℓ : Loc nD τ sig) → Buf (Elt Ideal) ℓ) (ρ : Dev nD → PrngReg) (c : Dev nD)

/-- Region 1 leaves region 0's array alone, and region 0 the arguments of region 1. -/
theorem out_final : W2 m ρ c (Proc.devRef .tc main_v0) = outProd (m ((c.tc : Thread nD τ).loc main_arg0)) (m ((c.tc : Thread nD τ).loc main_arg1)) :=
  (W2_of m ρ c main_v0 (by decide)).trans ((W1_arr m ρ c 2).trans (out_array (V0 m ρ) c))

theorem glu_final : W2 m ρ c (Proc.devRef .tc main_v1) = gluProd (m ((c.tc : Thread nD τ).loc main_arg2)) (m ((c.tc : Thread nD τ).loc main_arg3)) := by
  refine (W2_arr m ρ c 2).trans ((glu_array (V1 m ρ) c).trans ?_)
  exact congrArg₂ gluProd (W1_args m ρ c main_arg2 (by decide)) (W1_args m ρ c main_arg3 (by decide))

end Result

/-- The two gradients are the reference's. -/
theorem algebraic : Cert.algebraic_ProjDxIdeal_ProjDxRefIdeal (hProjDxIdeal := facts) (hProjDxRefIdeal := Cert.ProjDxRefIdeal.Gen.facts) := by
  intro m ρ m' ρ' _ hag
  refine ⟨fun c => outProd (m ((c.tc : Thread nD τ).loc main_arg0)) (m ((c.tc : Thread nD τ).loc main_arg1)), fun c => gluProd (m ((c.tc : Thread nD τ).loc main_arg2)) (m ((c.tc : Thread nD τ).loc main_arg3)), ?_, ?_⟩
  · exact (θ_run Cert.ProjDxIdeal.defs _ _).mono (fun r h c =>
      ⟨(h c _ (mem_uc main_v0 (by decide))).trans (out_final m ρ c), (h c _ (mem_uc main_v1 (by decide))).trans (glu_final m ρ c),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c)⟩)
      (run_all (F := Ideal) m ρ)
  · refine (θ_run Cert.ProjDxRefIdeal.defs _ _).mono (fun r h c => ⟨(h c).1.trans ?_, (h c).2.1.trans ?_, (h c).2.2⟩)
      (Cert.ProjDxRefIdeal.Value.run (F := Ideal) m' ρ')
    · rw [out_ref, (hag c).1, (hag c).2.1]
    · rw [glu_ref, (hag c).2.2.1, (hag c).2.2.2]

end Cert.ProjDxV

end
-- ==== Proof.OutDw.lean ====
/-
  The gradient of the output projection's weight, `catᵀ · dmixed`: four blocks of the tokens are accumulated in scratch, and the
  block written out after the fourth is the whole product's.
-/
module

public import proofs.«01_k».proof.Defs
public import proofs.«01_k».proof.Proof.Tiles
public import proofs.«01_k».proof.Proof.Gen.OutDwIdeal.Value
public import proofs.«01_k».proof.Proof.Gen.OutDwRefIdeal.Run
public import Idealize.ShloMosaic.Lib.Pipeline.ValueKit

@[expose] public section

set_option maxRecDepth 16384

noncomputable section

namespace Cert.OutDwV

open Cert.OutDwIdeal Cert.OutDwIdeal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (x : Vec F S2048x1024 .bf16) (y : Vec F S2048x1024 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread,
    View.ld_unit_zero (S := S2048x1024) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread,
    View.ld_unit_zero (S := S2048x1024) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x y : Vec Ideal S2048x1024 .bf16) (i j : Fin 1024) :
    (k0_pay2 s x y (ix2 i j) : EReal) = s (ix2 i j) + ∑ k, (x (ix2 k i) : EReal) * y (ix2 k j) := by
  unfold k0_pay2; pointwise

theorem pay3_at (s : Vec Ideal S1024x1024 .f32) (i j : Fin 1024) : (k0_pay3 s (ix2 i j) : EReal) = s (ix2 i j) := by
  unfold k0_pay3; pointwise

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 2048) (K : Fin 8192)
    (hR : t.val / 8 * 1024 + r.val = R.val) (hK : t.val % 4 * 2048 + k.val = K.val) :
    iblk m c 0 t (ix2 k r) = V m c main_arg0 (ix2 K R) := by
  blk_ext [iblk, idx0 t]
  all_goals omega

theorem y_at (t : Fin cfg0.N) (k : Fin 2048) (j : Fin 1024) (K : Fin 8192) (J : Fin 2048)
    (hK : t.val % 4 * 2048 + k.val = K.val) (hJ : t.val / 4 % 2 * 1024 + j.val = J.val) :
    iblk m c 1 t (ix2 k j) = V m c main_arg1 (ix2 K J) := by
  blk_ext [iblk, idx1 t]
  all_goals omega

/-- After a run of four points the block written is the fold over the four blocks of the inner axis. -/
theorem outs (t : Fin cfg0.N) (h : t.val % 4 = 3) : (outsAt0 m c t.val t.isLt).1
    = k0_pay3 (k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3))) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x2048.Idx → EReal := V m c main_arg0
def Y : S8192x2048.Idx → EReal := V m c main_arg1

/-- The product of two matrices. -/
def prod (A B : S8192x2048.Idx → EReal) : S2048x2048.Idx → EReal := fun i => ∑ x, A (ix2 x (i 0)) * B (ix2 x (i 1))

/-- Point `n` of a run adds its block of the inner axis to what the scratch held. -/
theorem step (s : Vec Ideal S1024x1024 .f32) (t : Fin cfg0.N) (h : t.val % 4 = 3) (n : Fin 4) (r j : Fin 1024) (R J : Fin 2048)
    (hR : t.val / 8 * 1024 + r.val = R.val) (hJ : t.val / 4 % 2 * 1024 + j.val = J.val) :
    (k0_pay2 s (iblk m c 0 (run t n)) (iblk m c 1 (run t n)) (ix2 r j) : EReal)
    = s (ix2 r j) + ∑ k, X m c (ix2 (at4 n k) R) * Y m c (ix2 (at4 n k) J) := by
  have hn : (run t n).val / 8 = t.val / 8 ∧ (run t n).val / 4 % 2 = t.val / 4 % 2 ∧ (run t n).val % 4 = n.val := by
    have := n.isLt
    show (t.val - (3 - n.val)) / 8 = t.val / 8 ∧ (t.val - (3 - n.val)) / 4 % 2 = t.val / 4 % 2 ∧ (t.val - (3 - n.val)) % 4 = n.val
    omega
  have hR' : (run t n).val / 8 * 1024 + r.val = R.val := by rw [hn.1]; exact hR
  have hJ' : (run t n).val / 4 % 2 * 1024 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r j : Fin 1024) (R J : Fin 2048)
    (hR : t.val / 8 * 1024 + r.val = R.val) (hJ : t.val / 4 % 2 * 1024 + j.val = J.val) :
    ((outsAt0 m c t.val t.isLt).1 (ix2 r j) : EReal) = prod (X m c) (Y m c) (ix2 R J) := by
  rw [outs m c t h, pay3_at, step m c _ t h 3 r j R J hR hJ, step m c _ t h 2 r j R J hR hJ, step m c _ t h 1 r j R J hR hJ,
    step m c _ t h 0 r j R J hR hJ, pay1_at]
  exact sum4 fun x => X m c (ix2 x R) * Y m c (ix2 x J)

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 16 := lt_of_lt_of_eq t.isLt N_0
  blk_simp
  rw [after0_2]
  obtain ⟨r, j, rfl⟩ : ∃ (r : Fin 1024) (j : Fin 1024), y = ix2 r j := ⟨y 0, y 1, eq_ix2 y⟩
  refine (entry m c t h r j ⟨t.val / 8 * 1024 + r.val, by omega⟩ ⟨t.val / 4 % 2 * 1024 + j.val, by omega⟩ rfl rfl).trans (congrArg (prod (X m c) (Y m c)) ?_)
  blk_ext [idx2 t]
  all_goals omega

/-- What the reference computes. -/
theorem ref_at (A : FVec Ideal S8192x2048 .bf16) (B : FVec Ideal S8192x2048 .bf16) (hA hB : FTy.bits .bf16 < FTy.bits .f32)
    (hT) :
    truncf .bf16 (transpose S2048x2048 [1, 0] (Host.dotGeneral (φ₁ := .f32) (φ₂ := .f32) Cert.OutDwRefIdeal.dot_S8192x2048_S8192x2048_S2048x2048_0_0_1_1_n_n none
      (extf .f32 B hB) (extf .f32 A hA)) hT) hA = prod A B := by
  funext i
  obtain ⟨r, j, rfl⟩ : ∃ (r j : Fin 2048), i = ix2 r j := ⟨i 0, i 1, eq_ix2 i⟩
  refine Eq.trans (b := ∑ x, (B (ix2 x j) : EReal) * A (ix2 x r)) ?_ (Finset.sum_congr rfl fun x _ => mul_comm _ _)
  pointwise

open Idealize.SL.Sem in
/-- The kernel's gradient is the reference's. -/
theorem algebraic : Cert.algebraic_OutDwIdeal_OutDwRefIdeal (hOutDwIdeal := facts) (hOutDwRefIdeal := Cert.OutDwRefIdeal.Gen.facts) := by
  intro m ρ m' ρ' _ hag
  refine ⟨fun c => prod (X m c) (Y m c), ?_, ?_⟩
  · exact (θ_run Cert.OutDwIdeal.defs _ _).mono (fun r h c => ⟨(h c).1.trans (array m c), (h c).2⟩) (Cert.OutDwIdeal.Value.run_blocks (F := Ideal) m ρ)
  · refine (θ_run Cert.OutDwRefIdeal.defs _ _).mono (fun r h c => ⟨(h c).1.trans ?_, (h c).2⟩) (Cert.OutDwRefIdeal.Value.run (F := Ideal) m' ρ')
    refine (ref_at _ _ _ _ _).trans ?_
    rw [(hag c).1, (hag c).2]
    exact congrArg₂ prod (V_main_arg0 m c).symm (V_main_arg1 m c).symm

end Cert.OutDwV

end
-- ==== Proof.GluDw.lean ====
/-
  The gradient of the gate's weight, `ygᵀ · dz`: four blocks of the tokens are accumulated in scratch, and the
  block written out after the fourth is the whole product's.
-/
module

public import proofs.«01_k».proof.Defs
public import proofs.«01_k».proof.Proof.Tiles
public import proofs.«01_k».proof.Proof.Gen.GluDwIdeal.Value
public import proofs.«01_k».proof.Proof.Gen.GluDwRefIdeal.Run
public import Idealize.ShloMosaic.Lib.Pipeline.ValueKit

@[expose] public section

set_option maxRecDepth 16384

noncomputable section

namespace Cert.GluDwV

open Cert.GluDwIdeal Cert.GluDwIdeal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S2048x1024 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (x : Vec F S2048x1024 .f32) (y : Vec F S2048x1024 .bf16) (s : Vec F S1024x1024 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread,
    View.ld_unit_zero (S := S2048x1024) hz, View.ld_unit_zero (S := S1024x1024) hz]

/-- The last block: what is written out. -/
theorem last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread,
    View.ld_unit_zero (S := S2048x1024) hz, View.ld_unit_zero (S := S1024x1024) hz, View.readCov_unit_zero (S := S1024x1024) _ hz]

end Cases

theorem pay1_at (i j : Fin 1024) : (k0_pay1 (F := Ideal) (ix2 i j) : EReal) = 0 := by
  unfold k0_pay1; pointwise

theorem pay2_at (s : Vec Ideal S1024x1024 .f32) (x : Vec Ideal S2048x1024 .f32) (y : Vec Ideal S2048x1024 .bf16) (i j : Fin 1024) :
    (k0_pay2 s x y (ix2 i j) : EReal) = s (ix2 i j) + ∑ k, (x (ix2 k i) : EReal) * y (ix2 k j) := by
  unfold k0_pay2; pointwise

theorem pay3_at (s : Vec Ideal S1024x1024 .f32) (i j : Fin 1024) : (k0_pay3 s (ix2 i j) : EReal) = s (ix2 i j) := by
  unfold k0_pay3; pointwise

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (K : Fin 8192) (hK : t.val * 2048 + k.val = K.val) :
    iblk m c 0 t (ix2 k r) = V m c main_arg0 (ix2 K r) := by
  blk_ext [iblk, idx0 t]
  all_goals omega

theorem y_at (t : Fin cfg0.N) (k : Fin 2048) (j : Fin 1024) (K : Fin 8192) (hK : t.val * 2048 + k.val = K.val) :
    iblk m c 1 t (ix2 k j) = V m c main_arg1 (ix2 K j) := by
  blk_ext [iblk, idx1 t]
  all_goals omega

/-- After a run of four points the block written is the fold over the four blocks of the inner axis. -/
theorem outs (t : Fin cfg0.N) (h : t.val % 4 = 3) : (outsAt0 m c t.val t.isLt).1
    = k0_pay3 (k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3))) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x1024.Idx → EReal := V m c main_arg0
def Y : S8192x1024.Idx → EReal := V m c main_arg1

/-- The product of two matrices. -/
def prod (A B : S8192x1024.Idx → EReal) : S1024x1024.Idx → EReal := fun i => ∑ x, A (ix2 x (i 0)) * B (ix2 x (i 1))

/-- Point `n` of the run adds its block of the inner axis to what the scratch held. -/
theorem step (s : Vec Ideal S1024x1024 .f32) (t : Fin cfg0.N) (h : t.val % 4 = 3) (n : Fin 4) (r j : Fin 1024) :
    (k0_pay2 s (iblk m c 0 (run t n)) (iblk m c 1 (run t n)) (ix2 r j) : EReal)
    = s (ix2 r j) + ∑ k, X m c (ix2 (at4 n k) r) * Y m c (ix2 (at4 n k) j) := by
  have hn : (run t n).val = n.val := by
    have := n.isLt
    have hN : t.val < 4 := lt_of_lt_of_eq t.isLt N_0
    show t.val - (3 - n.val) = n.val
    omega
  exact (pay2_at s _ _ r j).trans (congrArg ((s (ix2 r j) : EReal) + ·) (Finset.sum_congr rfl fun k _ => congrArg₂ (fun u v : EReal => u * v)
    (x_at m c _ r k (at4 n k) (congrArg (· * 2048 + k.val) hn)) (y_at m c _ k j (at4 n k) (congrArg (· * 2048 + k.val) hn))))

/-- An entry of the block written out. -/
theorem entry (t : Fin cfg0.N) (h : t.val % 4 = 3) (r j : Fin 1024) :
    ((outsAt0 m c t.val t.isLt).1 (ix2 r j) : EReal) = prod (X m c) (Y m c) (ix2 r j) := by
  rw [outs m c t h, pay3_at, step m c _ t h 3 r j, step m c _ t h 2 r j, step m c _ t h 1 r j, step m c _ t h 0 r j, pay1_at]
  exact sum4 fun x => X m c (ix2 x r) * Y m c (ix2 x j)

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, j, rfl⟩ : ∃ (r : Fin 1024) (j : Fin 1024), y = ix2 r j := ⟨y 0, y 1, eq_ix2 y⟩
  refine (entry m c t h r j).trans (congrArg (prod (X m c) (Y m c)) ?_)
  blk_ext [idx2 t]
  all_goals omega

/-- What the reference computes. -/
theorem ref_at (A : FVec Ideal S8192x1024 .f32) (B : FVec Ideal S8192x1024 .bf16) (hA hB : FTy.bits .bf16 < FTy.bits .f32)
    (hT) :
    truncf .bf16 (transpose S1024x1024 [1, 0] (Host.dotGeneral (φ₁ := .f32) (φ₂ := .f32) Cert.GluDwRefIdeal.dot_S8192x1024_S8192x1024_S1024x1024_0_0_1_1_n_n none
      (extf .f32 B hB) A) hT) hA = prod A B := by
  funext i
  obtain ⟨r, j, rfl⟩ : ∃ (r j : Fin 1024), i = ix2 r j := ⟨i 0, i 1, eq_ix2 i⟩
  refine Eq.trans (b := ∑ x, (B (ix2 x j) : EReal) * A (ix2 x r)) ?_ (Finset.sum_congr rfl fun x _ => mul_comm _ _)
  pointwise

open Idealize.SL.Sem in
/-- The kernel's gradient is the reference's. -/
theorem algebraic : Cert.algebraic_GluDwIdeal_GluDwRefIdeal (hGluDwIdeal := facts) (hGluDwRefIdeal := Cert.GluDwRefIdeal.Gen.facts) := by
  intro m ρ m' ρ' _ hag
  refine ⟨fun c => prod (X m c) (Y m c), ?_, ?_⟩
  · exact (θ_run Cert.GluDwIdeal.defs _ _).mono (fun r h c => ⟨(h c).1.trans (array m c), (h c).2⟩) (Cert.GluDwIdeal.Value.run_blocks (F := Ideal) m ρ)
  · refine (θ_run Cert.GluDwRefIdeal.defs _ _).mono (fun r h c => ⟨(h c).1.trans ?_, (h c).2⟩) (Cert.GluDwRefIdeal.Value.run (F := Ideal) m' ρ')
    refine (ref_at _ _ _ _ _).trans ?_
    rw [(hag c).1, (hag c).2]
    exact congrArg₂ prod (V_main_arg0 m c).symm (V_main_arg1 m c).symm

end Cert.GluDwV

end
-- ==== Proof.InDw.lean ====
/-
  The gradient of the MLP's first weight, `h2ᵀ · da`, laid out shard by shard: four blocks of the tokens are accumulated
  in scratch, and the block written out after the fourth is the whole product's.
-/
module

public import proofs.«01_k».proof.Defs
public import proofs.«01_k».proof.Proof.Tiles
public import proofs.«01_k».proof.Proof.Gen.InDwIdeal.Value
public import proofs.«01_k».proof.Proof.Gen.InDwRefIdeal.Run
public import Idealize.ShloMosaic.Lib.Pipeline.ValueKit

@[expose] public section

set_option maxRecDepth 16384

noncomputable section

namespace Cert.InDwV

open Cert.InDwIdeal Cert.InDwIdeal.Gen Cert.Tiles Idealize.ShloMosaic

theorem hz : (![0, 0] : Fin 2 → Nat) = fun _ => 0 := funext fun a => by fin_cases a <;> rfl

theorem hz3 : (![0, 0, 0] : Fin 3 → Nat) = fun _ => 0 := funext fun a => by fin_cases a <;> rfl

section Cases
variable {F : FTy → Type} [FloatOps F] (c : Dev nD) (i : grid0.Coords)
    (a3 : Memref sig .tc .vmem S2048x1024 .bf16) (h3 : a3.IsWhole) (a4 : Memref sig .tc .vmem S2048x512 .bf16) (h4 : a4.IsWhole)
    (a5 : Memref sig .tc .vmem S1x1024x512 .bf16) (h5 : a5.IsWhole) (a6 : Memref sig .tc .vmem S1024x512 .f32) (h6 : a6.IsWhole)
    (x : Vec F S2048x1024 .bf16) (y : Vec F S2048x512 .bf16) (s : Vec F S1024x512 .f32)

/-- The first block: the scratch starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S2048x1024) hz, View.ld_unit_zero (S := S2048x512) hz]

/-- A block in between. -/
theorem between (hc0 : ¬cond0_0 i) (hc1 : ¬cond0_1 i) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread,
    View.ld_unit_zero (S := S2048x1024) hz, View.ld_unit_zero (S := S2048x512) hz, View.ld_unit_zero (S := S1024x512) hz]

/-- The last block: what is written out. -/
theorem last (hc0 : ¬cond0_0 i) (hc1 : cond0_1 i) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3]
  simp only [View.readAt_eq_ld, h3.read_unread, h4.read_unread, h6.read_unread,
    View.ld_unit_zero (S := S2048x1024) hz, View.ld_unit_zero (S := S2048x512) hz, View.ld_unit_zero (S := S1024x512) hz, View.readCov_unit_zero (S := S1024x512) _ hz]

end Cases

theorem pay1_at (i : Fin 1024) (j : Fin 512) : (k0_pay1 (F := Ideal) (ix2 i j) : EReal) = 0 := by
  unfold k0_pay1; pointwise

theorem pay2_at (s : Vec Ideal S1024x512 .f32) (x : Vec Ideal S2048x1024 .bf16) (y : Vec Ideal S2048x512 .bf16) (i : Fin 1024) (j : Fin 512) :
    (k0_pay2 s x y (ix2 i j) : EReal) = s (ix2 i j) + ∑ k, (x (ix2 k i) : EReal) * y (ix2 k j) := by
  unfold k0_pay2; pointwise

theorem pay3_at (s : Vec Ideal S1024x512 .f32) (i : Fin 1024) (j : Fin 512) : (k0_pay3 s (ix3 0 i j) : EReal) = s (ix2 i j) := by
  unfold k0_pay3; pointwise

theorem idx0 : ∀ t : Fin grid0.N, win0_0.index t = ![t.val % 4, t.val / 32] := by decide +kernel
theorem idx1 : ∀ t : Fin grid0.N, win0_1.index t = ![t.val % 4, t.val / 4 % 8] := by decide +kernel
theorem idx2 : ∀ t : Fin grid0.N, win0_2.index t = ![t.val / 4 % 8, t.val / 32, 0] := by decide +kernel

variable (m : (ℓ : Loc nD τ sig) → Buf (Elt Ideal) ℓ) (c : Dev nD)

/-- Point `n` of the run of four that ends at `t`. -/
def run (t : Fin cfg0.N) (n : Fin 4) : Fin cfg0.N := ⟨t.val - (3 - n.val), by have := t.isLt; omega⟩

theorem x_at (t : Fin cfg0.N) (r : Fin 1024) (k : Fin 2048) (R : Fin 2048) (K : Fin 8192)
    (hR : t.val / 32 * 1024 + r.val = R.val) (hK : t.val % 4 * 2048 + k.val = K.val) :
    iblk m c 0 t (ix2 k r) = V m c main_arg0 (ix2 K R) := by
  blk_ext [iblk, idx0 t]
  all_goals omega

theorem y_at (t : Fin cfg0.N) (k : Fin 2048) (j : Fin 512) (K : Fin 8192) (J : Fin 4096)
    (hK : t.val % 4 * 2048 + k.val = K.val) (hJ : t.val / 4 % 8 * 512 + j.val = J.val) :
    iblk m c 1 t (ix2 k j) = V m c main_arg1 (ix2 K J) := by
  blk_ext [iblk, idx1 t]
  all_goals omega

/-- After a run of four points the block written is the fold over the four blocks of the inner axis. -/
theorem outs (t : Fin cfg0.N) (h : t.val % 4 = 3) : (outsAt0 m c t.val t.isLt).1
    = k0_pay3 (k0_pay2 (k0_pay2 (k0_pay2 (k0_pay2 k0_pay1 (iblk m c 0 (run t 0)) (iblk m c 1 (run t 0)))
        (iblk m c 0 (run t 1)) (iblk m c 1 (run t 1))) (iblk m c 0 (run t 2)) (iblk m c 1 (run t 2))) (iblk m c 0 (run t 3)) (iblk m c 1 (run t 3))) := by
  have e0 : (outsAt0 m c (run t 0).val (run t 0).isLt).2 = k0_pay2 k0_pay1 (iblk m c 0 (run t 0)) (iblk m c 1 (run t 0)) := by
    rw [outsAt0_A m c (run t 0) (by show (t.val - 3) % 4 = 0; omega) (by show ¬(t.val - 3) % 4 = 3; omega), first]
  have e1 : (outsAt0 m c (run t 1).val (run t 1).isLt).2 = k0_pay2 (outsAt0 m c (run t 0).val (run t 0).isLt).2 (iblk m c 0 (run t 1)) (iblk m c 1 (run t 1)) := by
    rw [outsAt0_B m c (run t 1) (by show ¬(t.val - 2) % 4 = 0; omega) (by show ¬(t.val - 2) % 4 = 3; omega), between]; rfl
  have e2 : (outsAt0 m c (run t 2).val (run t 2).isLt).2 = k0_pay2 (outsAt0 m c (run t 1).val (run t 1).isLt).2 (iblk m c 0 (run t 2)) (iblk m c 1 (run t 2)) := by
    rw [outsAt0_B m c (run t 2) (by show ¬(t.val - 1) % 4 = 0; omega) (by show ¬(t.val - 1) % 4 = 3; omega), between]; rfl
  rw [outsAt0_C m c t (by omega) h, last, ← e0, ← e1, ← e2]; rfl

/-- The two factors. -/
def X : S8192x2048.Idx → EReal := V m c main_arg0
def Y : S8192x4096.Idx → EReal := V m c main_arg1

/-- Column `q` of shard `s`. -/
def col (s : Fin 8) (q : Fin 512) : Fin 4096 := at' rfl s q

/-- The product of two matrices, its columns in eight shards. -/
def prod (A : S8192x2048.Idx → EReal) (B : S8192x4096.Idx → EReal) : S8x2048x512.Idx → EReal :=
  fun i => ∑ x, A (ix2 x (i 1)) * B (ix2 x (col (i 0) (i 2)))

/-- Point `n` of a run adds its block of the inner axis to what the scratch held. -/
theorem step (s : Vec Ideal S1024x512 .f32) (t : Fin cfg0.N) (h : t.val % 4 = 3) (n : Fin 4) (r : Fin 1024) (j : Fin 512) (R : Fin 2048) (J : Fin 4096)
    (hR : t.val / 32 * 1024 + r.val = R.val) (hJ : t.val / 4 % 8 * 512 + j.val = J.val) :
    (k0_pay2 s (iblk m c 0 (run t n)) (iblk m c 1 (run t n)) (ix2 r j) : EReal)
    = s (ix2 r j) + ∑ k, X m c (ix2 (at4 n k) R) * Y m c (ix2 (at4 n k) J) := by
  have hn : (run t n).val / 32 = t.val / 32 ∧ (run t n).val / 4 % 8 = t.val / 4 % 8 ∧ (run t n).val % 4 = n.val := by
    have := n.isLt
    show (t.val - (3 - n.val)) / 32 = t.val / 32 ∧ (t.val - (3 - n.val)) / 4 % 8 = t.val / 4 % 8 ∧ (t.val - (3 - n.val)) % 4 = n.val
    omega
  have hR' : (run t n).val / 32 * 1024 + r.val = R.val := by rw [hn.1]; exact hR
  have hJ' : (run t n).val / 4 % 8 * 512 + j.val = J.val := by rw [hn.2.1]; exact hJ
  exact (pay2_at s _ _ r j).trans (congrArg ((s (ix2 r j) : EReal) + ·) (Finset.sum_congr rfl fun k _ => congrArg₂ (fun u v : EReal => u * v)
    (x_at m c _ r k R (at4 n k) hR' (congrArg (· * 2048 + k.val) hn.2.2)) (y_at m c _ k j (at4 n k) J (congrArg (· * 2048 + k.val) hn.2.2) hJ')))

/-- An entry of a block written out. -/
theorem entry (t : Fin cfg0.N) (h : t.val % 4 = 3) (r : Fin 1024) (j : Fin 512) (R : Fin 2048) (Sh : Fin 8)
    (hR : t.val / 32 * 1024 + r.val = R.val) (hS : t.val / 4 % 8 = Sh.val) :
    ((outsAt0 m c t.val t.isLt).1 (ix3 0 r j) : EReal) = prod (X m c) (Y m c) (ix3 Sh R j) := by
  have hJ : t.val / 4 % 8 * 512 + j.val = (col Sh j).val := by rw [hS]; rfl
  rw [outs m c t h, pay3_at, step m c _ t h 3 r j R (col Sh j) hR hJ, step m c _ t h 2 r j R (col Sh j) hR hJ, step m c _ t h 1 r j R (col Sh j) hR hJ,
    step m c _ t h 0 r j R (col Sh j) hR hJ, pay1_at]
  exact sum4 fun x => X m c (ix2 x R) * Y m c (ix2 x (col Sh j))

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 64 := lt_of_lt_of_eq t.isLt N_0
  blk_simp
  rw [after0_2]
  obtain ⟨z, r, j, rfl⟩ : ∃ (z : Fin 1) (r : Fin 1024) (j : Fin 512), y = ix3 z r j := ⟨y 0, y 1, y 2, eq_ix3 y⟩
  obtain rfl : z = 0 := Subsingleton.elim _ _
  refine (entry m c t h r j ⟨t.val / 32 * 1024 + r.val, by omega⟩ ⟨t.val / 4 % 8, by omega⟩ rfl rfl).trans (congrArg (prod (X m c) (Y m c)) ?_)
  blk_ext [idx2 t]
  all_goals omega

/-- What the reference computes. -/
theorem ref_at (A : FVec Ideal S8192x2048 .bf16) (B : FVec Ideal S8192x4096 .bf16) (hA hB : FTy.bits .bf16 < FTy.bits .f32) (hT hS hT') :
    truncf .bf16 (transpose S8x2048x512 [1, 0, 2] (shapeCast Cert.InDwRefIdeal.S2048x8x512 (transpose Cert.InDwRefIdeal.S2048x4096 [1, 0]
      (Host.dotGeneral (φ₁ := .f32) (φ₂ := .f32) Cert.InDwRefIdeal.dot_S8192x4096_S8192x2048_S4096x2048_0_0_1_1_n_n none
      (extf .f32 B hB) (extf .f32 A hA)) hT) hS) hT') hA = prod A B := by
  funext i
  obtain ⟨s, r, j, rfl⟩ : ∃ (s : Fin 8) (r : Fin 2048) (j : Fin 512), i = ix3 s r j := ⟨i 0, i 1, i 2, eq_ix3 i⟩
  refine Eq.trans (b := ∑ x, (B (ix2 x (col s j)) : EReal) * A (ix2 x r)) ?_ (Finset.sum_congr rfl fun x _ => mul_comm _ _)
  unfold col at'
  pointwise

open Idealize.SL.Sem in
/-- The kernel's gradient is the reference's. -/
theorem algebraic : Cert.algebraic_InDwIdeal_InDwRefIdeal (hInDwIdeal := facts) (hInDwRefIdeal := Cert.InDwRefIdeal.Gen.facts) := by
  intro m ρ m' ρ' _ hag
  refine ⟨fun c => prod (X m c) (Y m c), ?_, ?_⟩
  · exact (θ_run Cert.InDwIdeal.defs _ _).mono (fun r h c => ⟨(h c).1.trans (array m c), (h c).2⟩) (Cert.InDwIdeal.Value.run_blocks (F := Ideal) m ρ)
  · refine (θ_run Cert.InDwRefIdeal.defs _ _).mono (fun r h c => ⟨(h c).1.trans ?_, (h c).2⟩) (Cert.InDwRefIdeal.Value.run (F := Ideal) m' ρ')
    refine (ref_at _ _ _ _ _ _ _).trans ?_
    rw [(hag c).1, (hag c).2]
    exact congrArg₂ prod (V_main_arg0 m c).symm (V_main_arg1 m c).symm

end Cert.InDwV

end
-- ==== Proof.InDx.lean ====
/-
  The gradient of the input projection's input, `dproj · winᵀ`: the product over the first half of the inner axis is kept in
  scratch, and the block written out is that with the product over the second half added.
-/
module

public import proofs.«01_k».proof.Defs
public import proofs.«01_k».proof.Proof.Tiles
public import proofs.«01_k».proof.Proof.Gen.InDxIdeal.Value
public import proofs.«01_k».proof.Proof.Gen.InDxRefIdeal.Run
public import Idealize.ShloMosaic.Lib.Pipeline.ValueKit

@[expose] public section

set_option maxRecDepth 16384

noncomputable section

namespace Cert.InDxV

open Cert.InDxIdeal Cert.InDxIdeal.Gen Cert.Tiles Idealize.ShloMosaic

theorem hz : (![0, 0] : Fin 2 → Nat) = fun _ => 0 := funext fun a => by fin_cases a <;> rfl

section Cases
variable {F : FTy → Type} [FloatOps F] (c : Dev nD) (i : grid0.Coords)
    (a3 : Memref sig .tc .vmem S1024x2048 .bf16) (h3 : a3.IsWhole) (a4 : Memref sig .tc .vmem S1024x2048 .bf16) (h4 : a4.IsWhole)
    (a5 : Memref sig .tc .vmem S1024x1024 .f32) (h5 : a5.IsWhole) (a6 : Memref sig .tc .vmem S1024x1024 .f32) (h6 : a6.IsWhole)
    (x : Vec F S1024x2048 .bf16) (y : Vec F S1024x2048 .bf16) (s : Vec F S1024x1024 .f32)

/-- The first half: its product goes to scratch. -/
theorem first (hc0 : cond0_0 i) (hc1 : ¬cond0_1 i) :
    sout0_A_0 c i a3 h3 a4 h4 a5 h5 a6 h6 hc0 hc1 x y = k0_pay2 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_unit_zero hz]
  simp only [View.readAt_eq_ld, h3.read_unread, h4.read_unread, View.ld_unit_zero (S := S1024x2048) hz]

/-- The second half: what is written out. -/
theorem last (hc0 : ¬cond0_0 i) (hc1 : cond0_1 i) :
    out0_B_2 c i a3 h3 a4 h4 a5 h5 a6 h6 hc0 hc1 x y s = k0_pay3 x y s := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S1024x2048) hz, View.ld_unit_zero (S := S1024x1024) hz]

end Cases

theorem pay2_at (x y : Vec Ideal S1024x2048 .bf16) (i j : Fin 1024) :
    (k0_pay2 x y (ix2 i j) : EReal) = ∑ k, (x (ix2 i k) : EReal) * y (ix2 j k) := by
  unfold k0_pay2 k0_pay1; pointwise

theorem pay3_at (s : Vec Ideal S1024x1024 .f32) (x y : Vec Ideal S1024x2048 .bf16) (i j : Fin 1024) :
    (k0_pay3 x y s (ix2 i j) : EReal) = s (ix2 i j) + ∑ k, (x (ix2 i k) : EReal) * y (ix2 j k) := by
  unfold k0_pay3 k0_pay1; pointwise

theorem idx0 : ∀ t : Fin grid0.N, win0_0.index t = ![t.val / 4, t.val % 2] := by decide +kernel
theorem idx1 : ∀ t : Fin grid0.N, win0_1.index t = ![t.val / 2 % 2, t.val % 2] := by decide +kernel
theorem idx2 : ∀ t : Fin grid0.N, win0_2.index t = ![t.val / 4, t.val / 2 % 2] := by decide +kernel

variable (m : (ℓ : Loc nD τ sig) → Buf (Elt Ideal) ℓ) (c : Dev nD)

/-- Point `n` of the run of two that ends at `t`. -/
def run (t : Fin cfg0.N) (n : Fin 2) : Fin cfg0.N := ⟨t.val - (1 - n.val), by have := t.isLt; omega⟩

theorem x_at (t : Fin cfg0.N) (r : Fin 1024) (k : Fin 2048) (R : Fin 8192) (K : Fin 4096)
    (hR : t.val / 4 * 1024 + r.val = R.val) (hK : t.val % 2 * 2048 + k.val = K.val) :
    iblk m c 0 t (ix2 r k) = V m c main_arg0 (ix2 R K) := by
  blk_ext [iblk, idx0 t]
  all_goals omega

theorem y_at (t : Fin cfg0.N) (k : Fin 2048) (j : Fin 1024) (K : Fin 4096) (J : Fin 2048)
    (hK : t.val % 2 * 2048 + k.val = K.val) (hJ : t.val / 2 % 2 * 1024 + j.val = J.val) :
    iblk m c 1 t (ix2 j k) = V m c main_v1 (ix2 J K) := by
  blk_ext [iblk, idx1 t]
  all_goals omega

/-- After a run of two points the block written is the second half's product over the first's. -/
theorem outs (t : Fin cfg0.N) (h : t.val % 2 = 1) : (outsAt0 m c t.val t.isLt).1
    = k0_pay3 (iblk m c 0 (run t 1)) (iblk m c 1 (run t 1)) (k0_pay2 (iblk m c 0 (run t 0)) (iblk m c 1 (run t 0))) := by
  have e0 : (outsAt0 m c (run t 0).val (run t 0).isLt).2 = k0_pay2 (iblk m c 0 (run t 0)) (iblk m c 1 (run t 0)) := by
    rw [outsAt0_A m c (run t 0) (by show (t.val - 1) % 2 = 0; omega) (by show ¬(t.val - 1) % 2 = 1; omega), first]
  rw [outsAt0_B m c t (by omega) h, last, ← e0]; rfl

/-- The two factors. -/
def X : S8192x4096.Idx → EReal := V m c main_arg0
def Y : S2048x4096.Idx → EReal := V m c main_v1

/-- The product of two matrices. -/
def prod (A : S8192x4096.Idx → EReal) (B : S2048x4096.Idx → EReal) : S8192x2048.Idx → EReal := fun i => ∑ x, A (ix2 (i 0) x) * B (ix2 (i 1) x)

/-- Place `k` of half `b` of the inner axis. -/
def at2 (b : Fin 2) (k : Fin 2048) : Fin 4096 := at' rfl b k

/-- The product over one half of the inner axis. -/
theorem half (t : Fin cfg0.N) (h : t.val % 2 = 1) (n : Fin 2) (r j : Fin 1024) (R : Fin 8192) (J : Fin 2048)
    (hR : t.val / 4 * 1024 + r.val = R.val) (hJ : t.val / 2 % 2 * 1024 + j.val = J.val)
    (x y : Vec Ideal S1024x2048 .bf16) (hx : x = iblk m c 0 (run t n)) (hy : y = iblk m c 1 (run t n)) :
    (∑ k, (x (ix2 r k) : EReal) * y (ix2 j k)) = ∑ k, X m c (ix2 R (at2 n k)) * Y m c (ix2 J (at2 n k)) := by
  have hn : (run t n).val / 4 = t.val / 4 ∧ (run t n).val / 2 % 2 = t.val / 2 % 2 ∧ (run t n).val % 2 = n.val := by
    have := n.isLt
    show (t.val - (1 - n.val)) / 4 = t.val / 4 ∧ (t.val - (1 - n.val)) / 2 % 2 = t.val / 2 % 2 ∧ (t.val - (1 - n.val)) % 2 = n.val
    omega
  have hR' : (run t n).val / 4 * 1024 + r.val = R.val := by rw [hn.1]; exact hR
  have hJ' : (run t n).val / 2 % 2 * 1024 + j.val = J.val := by rw [hn.2.1]; exact hJ
  subst hx hy
  exact Finset.sum_congr rfl fun k _ => congrArg₂ (fun u v : EReal => u * v)
    (x_at m c _ r k R (at2 n k) hR' (congrArg (· * 2048 + k.val) hn.2.2)) (y_at m c _ k j (at2 n k) J (congrArg (· * 2048 + k.val) hn.2.2) hJ')

/-- An entry of a block written out. -/
theorem entry (t : Fin cfg0.N) (h : t.val % 2 = 1) (r j : Fin 1024) (R : Fin 8192) (J : Fin 2048)
    (hR : t.val / 4 * 1024 + r.val = R.val) (hJ : t.val / 2 % 2 * 1024 + j.val = J.val) :
    ((outsAt0 m c t.val t.isLt).1 (ix2 r j) : EReal) = prod (X m c) (Y m c) (ix2 R J) := by
  rw [outs m c t h, pay3_at, pay2_at, half m c t h 1 r j R J hR hJ _ _ rfl rfl, half m c t h 0 r j R J hR hJ _ _ rfl rfl]
  exact (Fin.sum_univ_two _).symm.trans (sum_blocks (n := 2) (w := 2048) rfl fun x => X m c (ix2 R x) * Y m c (ix2 J x))

/-- The array the call leaves is the product. -/
theorem array : (dats m 0 c).arrAt 2 cfg0.N = prod (X m c) (Y m c) := by
  refine (dats m 0 c).arrAt_eq_of_covers 2 _ (by decide +kernel) fun t hf y => ?_
  have h := (flush0_2 t).mp hf
  have hN : t.val < 32 := lt_of_lt_of_eq t.isLt N_0
  blk_simp
  rw [after0_2]
  obtain ⟨r, j, rfl⟩ : ∃ (r : Fin 1024) (j : Fin 1024), y = ix2 r j := ⟨y 0, y 1, eq_ix2 y⟩
  refine (entry m c t h r j ⟨t.val / 4 * 1024 + r.val, by omega⟩ ⟨t.val / 2 % 2 * 1024 + j.val, by omega⟩ rfl rfl).trans (congrArg (prod (X m c) (Y m c)) ?_)
  blk_ext [idx2 t]
  all_goals omega

/-- The weight with its shards side by side, which kernel and reference both read. -/
def whole (W : FVec Ideal S8x2048x512 .bf16) : S2048x4096.Idx → EReal :=
  shapeCast S2048x4096 (transpose S2048x8x512 [1, 0, 2] W transposes_S8x2048x512_S2048x8x512_1_0_2) shapeCasts_S2048x8x512_S2048x4096

theorem Y_eq : Y m c = whole (m ((c.tc : Thread nD τ).loc main_arg1)) := by
  unfold Y whole V
  after_results <;> rfl

/-- What the reference computes. -/
theorem ref_at (A : FVec Ideal S8192x4096 .bf16) (W : FVec Ideal S8x2048x512 .bf16) (hA hW : FTy.bits .bf16 < FTy.bits .f32) (hT hS) :
    Host.dotGeneral (φ₁ := .f32) (φ₂ := .f32) Cert.InDxRefIdeal.dot_S8192x4096_S2048x4096_S8192x2048_1_1_0_0_n_n none
      (extf .f32 A hA) (shapeCast S2048x4096 (transpose S2048x8x512 [1, 0, 2] (extf .f32 W hW) hT) hS) = prod A (whole W) := by
  funext i
  obtain ⟨r, j, rfl⟩ : ∃ (r : Fin 8192) (j : Fin 2048), i = ix2 r j := ⟨i 0, i 1, eq_ix2 i⟩
  show _ = ∑ x, (A (ix2 r x) : EReal) * whole W (ix2 j x)
  have e : whole W = (shapeCast S2048x4096 (transpose S2048x8x512 [1, 0, 2] (extf .f32 W hW) hT) hS : FVec Ideal S2048x4096 .f32) := rfl
  rw [e]
  generalize (shapeCast S2048x4096 (transpose S2048x8x512 [1, 0, 2] (extf .f32 W hW) hT) hS : FVec Ideal S2048x4096 .f32) = B
  pointwise

open Idealize.SL.Sem in
/-- The kernel's gradient is the reference's. -/
theorem algebraic : Cert.algebraic_InDxIdeal_InDxRefIdeal (hInDxIdeal := facts) (hInDxRefIdeal := Cert.InDxRefIdeal.Gen.facts) := by
  intro m ρ m' ρ' _ hag
  refine ⟨fun c => prod (X m c) (Y m c), ?_, ?_⟩
  · exact (θ_run Cert.InDxIdeal.defs _ _).mono (fun r h c => ⟨(h c).1.trans (array m c), (h c).2⟩) (Cert.InDxIdeal.Value.run_blocks (F := Ideal) m ρ)
  · refine (θ_run Cert.InDxRefIdeal.defs _ _).mono (fun r h c => ⟨(h c).1.trans ?_, (h c).2⟩) (Cert.InDxRefIdeal.Value.run (F := Ideal) m' ρ')
    refine (ref_at _ _ _ _ _ _).trans ?_
    rw [(hag c).1, (hag c).2.1]
    exact congrArg₂ prod (V_main_arg0 m c).symm (Y_eq m c).symm

end Cert.InDxV

end
-- ==== Proof.RowNorm.lean ====
/-
  The gradient of a root mean square norm with a weight and the adaLN modulation, as functions of rows, and the reference's
  lines for it.
-/
module

public import proofs.«01_k».proof.Defs
public import proofs.«01_k».proof.Proof.Tiles
public import proofs.«01_k».proof.Proof.Gen.Norm1BwdRefIdeal.Run
public import Idealize.ShloMosaic.Lib.Pipeline.ValueKit

@[expose] public section

set_option maxRecDepth 16384

noncomputable section

namespace Cert.RowNorm

open Cert.Tiles Idealize.ShloMosaic

/-- A constant of the norm. -/
abbrev cst (b : BitVec 32) : Ideal .f32 := Scalar.ofBits (F := Ideal) .f32 b

/-- A row of 2048 entries, and the row `r` of an array. -/
abbrev Row := Fin 2048 → EReal
def row {n : ℕ} (v : Shape.Idx ⟨2, ![n, 2048]⟩ → EReal) (r : Fin n) : Row := fun k => v (ix2 r k)

/-- A row's mean square with the small constant, its reciprocal root, and that root's derivative. -/
def ms (x : Row) : Ideal .f32 := FloatOps.addf (FloatOps.divf (∑ k, x k * x k : EReal) (cst 0x45000000#32)) (cst 0x358637BD#32)
def rs (x : Row) : Ideal .f32 := FloatOps.rsqrt (ms x)
def rd (x : Row) : Ideal .f32 := FloatOps.mulf (cst 0xBF000000#32) (FloatOps.divf (rs x) (ms x))

/-- The gradient before the modulation, at an entry. -/
def un (d sc : EReal) : EReal := d * (cst 0x3F800000#32 + sc : EReal)

/-- The gradient that reaches the mean square. -/
def co (x d g sc : Row) : Ideal .f32 :=
  FloatOps.divf (FloatOps.mulf (∑ k, x k * (un (d k) (sc k) * g k) : EReal) (rd x)) (cst 0x45000000#32)

/-- The gradient in the normed row, added to the gradient `y` that it had. -/
def dx (x d y g sc : Row) (j : Fin 2048) : EReal :=
  y j + ((un (d j) (sc j) * g j * (rs x : EReal) + x j * (co x d g sc : EReal)) + (co x d g sc : EReal) * x j)

section Whole
variable (D X Y : Shape.Idx ⟨2, ![8192, 2048]⟩ → EReal) (G Sc : Shape.Idx ⟨2, ![1, 2048]⟩ → EReal)

/-- The four results over the whole sequence. -/
def rows : Shape.Idx ⟨2, ![8192, 2048]⟩ → EReal := fun i => dx (row X (i 0)) (row D (i 0)) (row Y (i 0)) (row G 0) (row Sc 0) (i 1)
def dg : Shape.Idx ⟨2, ![1, 2048]⟩ → EReal := fun i =>
  ∑ x : Fin 8192, X (ix2 x (i 1)) * (rs (row X x) : EReal) * un (D (ix2 x (i 1))) (Sc (ix2 0 (i 1)))
def dsc : Shape.Idx ⟨2, ![1, 2048]⟩ → EReal := fun i =>
  ∑ x : Fin 8192, X (ix2 x (i 1)) * (rs (row X x) : EReal) * G (ix2 0 (i 1)) * D (ix2 x (i 1))
def dsh : Shape.Idx ⟨2, ![1, 2048]⟩ → EReal := fun i => ∑ x : Fin 8192, D (ix2 x (i 1))

end Whole

section Reference
open Cert.Norm1BwdRefIdeal Cert.Norm1BwdRefIdeal.Gen
variable (D X Y : Vec Ideal S8192x2048 .f32) (G Sc : Vec Ideal S1x2048 .f32) (x : Fin 8192) (j : Fin 2048)

/-- A number in every row. -/
def every (b : BitVec 32) : FVec Ideal S8192x1 .f32 := broadcastInDim S8192x1 ![] bcast_S_S8192x1 (constant (F := Ideal) S_ .f32 b)

/-- The reference's lines, by name: the mean square, its reciprocal root, the root's derivative, the normalised rows. -/
def msR : FVec Ideal S8192x1 .f32 :=
  addf (Host.divf (broadcastInDim S8192x1 ![0] bcast_S8192_S8192x1_0 (Host.reduceAdd (mulf X X) (constant (F := Ideal) S_ .f32 0x00000000#32)
    reducesTo_S8192x2048_S8192_d1 h_S_)) (every 0x45000000#32)) (every 0x358637BD#32)
def rsR : FVec Ideal S8192x1 .f32 := Host.rsqrt (msR X)
def rdR : FVec Ideal S8192x1 .f32 := mulf (every 0xBF000000#32) (Host.divf (rsR X) (msR X))
def normR : FVec Ideal S8192x2048 .f32 := mulf X (broadcastInDim S8192x2048 ![0, 1] bcast_S8192x1_S8192x2048_0_1 (rsR X))

/-- The gradient before the modulation, the same before the weight, and what reaches the mean square. -/
def unR : FVec Ideal S8192x2048 .f32 :=
  mulf (shapeCast S8192x2048 D shapeCasts_S8192x2048_S8192x2048) (broadcastInDim S8192x2048 ![0, 1] bcast_S1x2048_S8192x2048_0_1
    (addf (broadcastInDim S1x2048 ![] bcast_S_S1x2048 (constant (F := Ideal) S_ .f32 0x3F800000#32)) Sc))
def dnR : FVec Ideal S8192x2048 .f32 := mulf (unR D Sc) (broadcastInDim S8192x2048 ![0, 1] bcast_S1x2048_S8192x2048_0_1 G)
def dotR : FVec Ideal S8192x1 .f32 :=
  shapeCast S8192x1 (Host.reduceAdd (mulf X (dnR D G Sc)) (constant (F := Ideal) S_ .f32 0x00000000#32) reducesTo_S8192x2048_S8192_d1 h_S_) shapeCasts_S8192_S8192x1
def coR (p : FVec Ideal S8192x1 .f32) : FVec Ideal S8192x2048 .f32 :=
  broadcastInDim S8192x2048 ![0] bcast_S8192_S8192x2048_0 (Host.reduceAdd (Host.divf p (every 0x45000000#32)) (constant (F := Ideal) S_ .f32 0x00000000#32)
    reducesTo_S8192x1_S8192_d1 h_S_)
def rowsR : FVec Ideal S8192x2048 .f32 :=
  addf Y (addf (addf (mulf (dnR D G Sc) (broadcastInDim S8192x2048 ![0, 1] bcast_S8192x1_S8192x2048_0_1 (rsR X)))
    (mulf X (coR (mulf (dotR D X G Sc) (rdR X))))) (mulf (coR (mulf (dotR D X G Sc) (rdR X))) X))

/-- A sum over all rows. -/
def sumR (A : FVec Ideal S8192x2048 .f32) : FVec Ideal S1x2048 .f32 :=
  shapeCast S1x2048 (Host.reduceAdd A (constant (F := Ideal) S_ .f32 0x00000000#32) reducesTo_S8192x2048_S2048_d0 h_S_) shapeCasts_S2048_S1x2048
def dgR : FVec Ideal S1x2048 .f32 := sumR (mulf (normR X) (unR D Sc))
def dscR : FVec Ideal S1x2048 .f32 :=
  sumR (mulf (mulf (normR X) (broadcastInDim S8192x2048 ![0, 1] bcast_S1x2048_S8192x2048_0_1 G)) (shapeCast S8192x2048 D shapeCasts_S8192x2048_S8192x2048))

theorem every_at (b : BitVec 32) : (every b (ix2 x 0) : EReal) = cst b := by
  unfold every
  pointwise

theorem msR_at : (msR X (ix2 x 0) : EReal) = ms (row X x) := by
  unfold msR every ms row
  pointwise

theorem rsR_at : (rsR X (ix2 x 0) : EReal) = rs (row X x) := by
  unfold rs
  rw [← msR_at]; rfl

theorem rdR_at : (rdR X (ix2 x 0) : EReal) = rd (row X x) := by
  unfold rd
  rw [← msR_at, ← rsR_at, ← every_at x]; rfl

theorem normR_at : (normR X (ix2 x j) : EReal) = X (ix2 x j) * (rs (row X x) : EReal) := by
  rw [← rsR_at]
  unfold normR
  pointwise

theorem unR_at : (unR D Sc (ix2 x j) : EReal) = un (D (ix2 x j)) (Sc (ix2 0 j)) := by
  unfold unR un
  pointwise

theorem dnR_at : (dnR D G Sc (ix2 x j) : EReal) = un (D (ix2 x j)) (Sc (ix2 0 j)) * G (ix2 0 j) := by
  rw [← unR_at]
  unfold dnR
  pointwise

theorem dotR_at : (dotR D X G Sc (ix2 x 0) : EReal) = ∑ k, X (ix2 x k) * (un (D (ix2 x k)) (Sc (ix2 0 k)) * G (ix2 0 k) : EReal) := by
  have e : (dotR D X G Sc (ix2 x 0) : EReal) = ∑ k : Fin 2048, (X (ix2 x k) : EReal) * dnR D G Sc (ix2 x k) := by
    unfold dotR
    pointwise
  rw [e]
  exact Finset.sum_congr rfl fun k _ => by rw [dnR_at]

theorem coR_at (p : FVec Ideal S8192x1 .f32) : (coR p (ix2 x j) : EReal) = FloatOps.divf (p (ix2 x 0)) (cst 0x45000000#32) := by
  unfold coR every
  pointwise
  simp only [Fin.sum_univ_one]

theorem rowsR_eq : rowsR D X Y G Sc = rows D X Y G Sc := by
  funext i
  obtain ⟨x, j, rfl⟩ : ∃ (x : Fin 8192) (j : Fin 2048), i = ix2 x j := ⟨i 0, i 1, eq_ix2 i⟩
  have e : ∀ (w q : FVec Ideal S8192x2048 .f32) (s : FVec Ideal S8192x1 .f32),
      (addf Y (addf (addf (mulf w (broadcastInDim S8192x2048 ![0, 1] bcast_S8192x1_S8192x2048_0_1 s)) (mulf X q)) (mulf q X)) (ix2 x j) : EReal)
        = Y (ix2 x j) + ((w (ix2 x j) * s (ix2 x 0) + X (ix2 x j) * q (ix2 x j)) + q (ix2 x j) * X (ix2 x j)) := by
    intro w q s
    pointwise
  have eq : ((mulf (dotR D X G Sc) (rdR X)) (ix2 x 0) : EReal) = FloatOps.mulf (dotR D X G Sc (ix2 x 0)) (rdR X (ix2 x 0)) := rfl
  unfold rowsR
  rw [e, coR_at, eq, dotR_at, rdR_at, dnR_at, rsR_at]; rfl

theorem sumR_at (A : FVec Ideal S8192x2048 .f32) : (sumR A (ix2 0 j) : EReal) = ∑ x : Fin 8192, (A (ix2 x j) : EReal) := by
  unfold sumR
  pointwise

theorem sumR_eq (A : FVec Ideal S8192x2048 .f32) (f : Shape.Idx ⟨2, ![1, 2048]⟩ → EReal) (h : ∀ j, f (ix2 0 j) = ∑ x : Fin 8192, (A (ix2 x j) : EReal)) :
    sumR A = f := by
  funext i
  obtain ⟨j, rfl⟩ : ∃ j : Fin 2048, i = ix2 0 j := ⟨i 1, by rw [eq_ix2 i]; congr 1; exact Fin.eq_zero _⟩
  exact (sumR_at j A).trans (h j).symm

theorem dgR_eq : dgR D X Sc = dg D X Sc :=
  sumR_eq _ _ fun j => Finset.sum_congr rfl fun x _ => by
    rw [show (mulf (normR X) (unR D Sc) (ix2 x j) : EReal) = (normR X (ix2 x j) : EReal) * unR D Sc (ix2 x j) from rfl, normR_at, unR_at]; rfl

theorem dscR_eq : dscR D X G = dsc D X G :=
  sumR_eq _ _ fun j => Finset.sum_congr rfl fun x _ => by
    have e : ∀ w : FVec Ideal S8192x2048 .f32, (mulf (mulf w (broadcastInDim S8192x2048 ![0, 1] bcast_S1x2048_S8192x2048_0_1 G))
        (shapeCast S8192x2048 D shapeCasts_S8192x2048_S8192x2048) (ix2 x j) : EReal) = w (ix2 x j) * G (ix2 0 j) * D (ix2 x j) := by
      intro w
      pointwise
    rw [e, normR_at]; rfl

theorem dshR_eq : sumR D = dsh D := sumR_eq _ _ fun _ => rfl

end Reference

end Cert.RowNorm

end
-- ==== Proof.Norm1Bwd.lean ====
/-
  The gradient of the first norm: the root mean square normalisation with its weight and the adaLN modulation. The gradient
  in the normed rows is a function of a row; the three weights' gradients add up over the 32 blocks of rows.
-/
module

public import proofs.«01_k».proof.Defs
public import proofs.«01_k».proof.Proof.Tiles
public import proofs.«01_k».proof.Proof.RowNorm
public import proofs.«01_k».proof.Proof.Gen.Norm1BwdIdeal.Value
public import Idealize.ShloMosaic.Lib.Pipeline.ValueKit

@[expose] public section

set_option maxRecDepth 16384

noncomputable section

namespace Cert.Norm1BwdV

open Cert.Norm1BwdIdeal Cert.Norm1BwdIdeal.Gen Cert.Tiles Cert.RowNorm Idealize.ShloMosaic

section Pays
variable (d x y : Vec Ideal S256x2048 .f32) (g sc : Vec Ideal S1x2048 .f32) (r : Fin 256) (j : Fin 2048)

theorem pay1_at : (k0_pay1 x (ix2 r 0) : EReal) = ms (row x r) := by
  unfold k0_pay1 ms row
  pointwise

theorem pay2_at : (k0_pay2 x (ix2 r 0) : EReal) = rs (row x r) := by
  unfold rs
  rw [← pay1_at]; rfl

theorem pay3_at : (k0_pay3 x (ix2 r 0) : EReal) = rd (row x r) := by
  unfold rd
  rw [← pay1_at, ← pay2_at]; rfl

theorem pay4_at : (k0_pay4 x (ix2 r j) : EReal) = x (ix2 r j) * (rs (row x r) : EReal) := by
  rw [← pay2_at]
  unfold k0_pay4
  pointwise

theorem pay8_at : (k0_pay8 d sc (ix2 r j) : EReal) = un (d (ix2 r j)) (sc (ix2 0 j)) := by
  unfold k0_pay8 k0_pay5 un
  pointwise

theorem pay10_at : (k0_pay10 d g sc (ix2 r j) : EReal) = un (d (ix2 r j)) (sc (ix2 0 j)) * g (ix2 0 j) := by
  rw [← pay8_at]
  unfold k0_pay10
  pointwise

theorem pay11_at : (k0_pay11 d x g sc (ix2 r 0) : EReal) = ∑ k, x (ix2 r k) * (un (d (ix2 r k)) (sc (ix2 0 k)) * g (ix2 0 k) : EReal) := by
  have e : (k0_pay11 d x g sc (ix2 r 0) : EReal) = ∑ k : Fin 2048, (x (ix2 r k) : EReal) * k0_pay10 d g sc (ix2 r k) := by
    unfold k0_pay11
    pointwise
  rw [e]
  exact Finset.sum_congr rfl fun k _ => by rw [pay10_at]

theorem pay12_at : (k0_pay12 d x g sc (ix2 r j) : EReal) = un (d (ix2 r j)) (sc (ix2 0 j)) * g (ix2 0 j) * (rs (row x r) : EReal) := by
  rw [← pay10_at, ← pay2_at]
  unfold k0_pay12
  pointwise

theorem pay13_at : (k0_pay13 x y (k0_pay3 x) (k0_pay11 d x g sc) (k0_pay12 d x g sc) (ix2 r j) : EReal)
    = dx (row x r) (row d r) (row y r) (row g 0) (row sc 0) j := by
  have e : ∀ (a b : FVec Ideal S256x1 .f32) (w : FVec Ideal S256x2048 .f32), (k0_pay13 x y a b w (ix2 r j) : EReal)
      = y (ix2 r j) + ((w (ix2 r j) + x (ix2 r j) * (FloatOps.divf (FloatOps.mulf (b (ix2 r 0)) (a (ix2 r 0))) (cst 0x45000000#32) : EReal))
        + (FloatOps.divf (FloatOps.mulf (b (ix2 r 0)) (a (ix2 r 0))) (cst 0x45000000#32) : EReal) * x (ix2 r j)) := by
    intro a b w
    unfold k0_pay13
    pointwise
    simp only [Fin.sum_univ_one]
  rw [e, pay12_at, pay3_at, pay11_at]; rfl

theorem pay6_at : (k0_pay6 d (ix2 0 j) : EReal) = ∑ k : Fin 256, (d (ix2 k j) : EReal) := by
  unfold k0_pay6
  pointwise

theorem pay7_at : (k0_pay7 d x g (ix2 0 j) : EReal) = ∑ k : Fin 256, x (ix2 k j) * (rs (row x k) : EReal) * g (ix2 0 j) * d (ix2 k j) := by
  have e : (k0_pay7 d x g (ix2 0 j) : EReal) = ∑ k : Fin 256, (k0_pay4 x (ix2 k j) : EReal) * g (ix2 0 j) * d (ix2 k j) := by
    unfold k0_pay7 k0_pay5
    pointwise
  rw [e]
  exact Finset.sum_congr rfl fun k _ => by rw [pay4_at]

theorem pay9_at : (k0_pay9 d x sc (ix2 0 j) : EReal) = ∑ k : Fin 256, x (ix2 k j) * (rs (row x k) : EReal) * un (d (ix2 k j)) (sc (ix2 0 j)) := by
  have e : (k0_pay9 d x sc (ix2 0 j) : EReal) = ∑ k : Fin 256, (k0_pay4 x (ix2 k j) : EReal) * k0_pay8 d sc (ix2 k j) := by
    unfold k0_pay9
    pointwise
  rw [e]
  exact Finset.sum_congr rfl fun k _ => by rw [pay4_at, pay8_at]

end Pays

/-- An accumulation, entry by entry. -/
theorem acc_at (p s : Vec Ideal S1x2048 .f32) (i : S1x2048.Idx) :
    (k0_pay15 p s i : EReal) = s i + p i ∧ (k0_pay17 p s i : EReal) = s i + p i ∧ (k0_pay19 p s i : EReal) = s i + p i := by
  obtain ⟨j, rfl⟩ : ∃ j : Fin 2048, i = ix2 0 j := ⟨i 1, by rw [eq_ix2 i]; congr 1; exact Fin.eq_zero _⟩
  unfold k0_pay15 k0_pay17 k0_pay19
  refine ⟨?_, ?_, ?_⟩ <;> pointwise

theorem zero_at (i : S1x2048.Idx) : ((k0_pay14 (F := Ideal)) i : EReal) = 0 := by
  obtain ⟨j, rfl⟩ : ∃ j : Fin 2048, i = ix2 0 j := ⟨i 1, by rw [eq_ix2 i]; congr 1; exact Fin.eq_zero _⟩
  unfold k0_pay14
  pointwise

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel

variable (m : (ℓ : Loc nD τ sig) → Buf (Elt Ideal) ℓ) (c : Dev nD)

/-- The arguments. -/
def A0 : S8192x2048.Idx → EReal := V m c main_arg0
def A1 : S8192x2048.Idx → EReal := V m c main_arg1
def A2 : S8192x2048.Idx → EReal := V m c main_arg2
def A3 : S1x2048.Idx → EReal := V m c main_arg3
def A4 : S1x2048.Idx → EReal := V m c main_arg4

section Reads
variable (t : Fin cfg0.N) (r : Fin 256) (j : Fin 2048) (R : Fin 8192) (hR : t.val * 256 + r.val = R.val)

theorem g_at : iblk m c 3 t (ix2 0 j) = A3 m c (ix2 0 j) := by
  unfold A3
  blk_ext [iblk, idx3 t]
  all_goals omega

theorem sc_at : iblk m c 4 t (ix2 0 j) = A4 m c (ix2 0 j) := by
  unfold A4
  blk_ext [iblk, idx4 t]
  all_goals omega

theorem g_row : row (iblk m c 3 t) 0 = row (A3 m c) 0 := funext fun k => g_at m c t k
theorem sc_row : row (iblk m c 4 t) 0 = row (A4 m c) 0 := funext fun k => sc_at m c t k

include hR

theorem d_at : iblk m c 0 t (ix2 r j) = A0 m c (ix2 R j) := by
  unfold A0
  blk_ext [iblk, idx0 t]
  all_goals omega

theorem x_at : iblk m c 1 t (ix2 r j) = A1 m c (ix2 R j) := by
  unfold A1
  blk_ext [iblk, idx1 t]
  all_goals omega

theorem y_at : iblk m c 2 t (ix2 r j) = A2 m c (ix2 R j) := by
  unfold A2
  blk_ext [iblk, idx2 t]
  all_goals omega

theorem d_row : row (iblk m c 0 t) r = row (A0 m c) R := funext fun k => d_at m c t r k R hR
theorem x_row : row (iblk m c 1 t) r = row (A1 m c) R := funext fun k => x_at m c t r k R hR
theorem y_row : row (iblk m c 2 t) r = row (A2 m c) R := funext fun k => y_at m c t r k R hR

end Reads

/-- What a point leaves in the first result's block. -/
theorem outs1 (t : Fin cfg0.N) : (outsAt0 m c t.val t.isLt).1
    = k0_pay13 (iblk m c 1 t) (iblk m c 2 t) (k0_pay3 (iblk m c 1 t)) (k0_pay11 (iblk m c 0 t) (iblk m c 1 t) (iblk m c 3 t) (iblk m c 4 t))
        (k0_pay12 (iblk m c 0 t) (iblk m c 1 t) (iblk m c 3 t) (iblk m c 4 t)) := by
  by_cases h : t.val % 32 = 0
  · rw [outsAt0_A m c t h h h]; frame_out
  · rw [outsAt0_B m c t h h h]; frame_out

/-- The last point, and the sum that an accumulated block holds there. -/
theorem last (t : Fin cfg0.N) (h : t.val % 32 = 31) : t.val + 1 = cfg0.N := by
  have hN : t.val < 32 := lt_of_lt_of_eq t.isLt N_0
  exact (by omega : t.val + 1 = 32).trans N_0.symm

theorem outs2 (t : Fin cfg0.N) (h : t.val % 32 = 31) (i : S1x2048.Idx) : ((outsAt0 m c t.val t.isLt).2.1 i : EReal)
    = ∑ p : Fin cfg0.N, (k0_pay9 (iblk m c 0 p) (iblk m c 1 p) (iblk m c 4 p) i : EReal) := by
  have e := Pipeline.eq_sum_fin_of_reset_step_apply_last (M := EReal) (fun n h => (outsAt0 m c n h).2.1) 32 (fun _ => (0 : EReal))
    (fun p i => k0_pay9 (iblk m c 0 p) (iblk m c 1 p) (iblk m c 4 p) i)
    (fun t h i => by
      show (outsAt0 m c t.val t.isLt).2.1 i = _
      rw [outsAt0_A m c t h h h]; frame_out
      exact (acc_at _ _ i).1.trans (congrArg (· + (_ : EReal)) (zero_at i)))
    (fun t h i => by
      show (outsAt0 m c t.val t.isLt).2.1 i = _
      rw [outsAt0_B m c t h h h]; frame_out
      exact (acc_at _ _ i).1)
    (le_of_eq N_0) t (last t h) i
  exact e.trans (zero_add _)

theorem outs3 (t : Fin cfg0.N) (h : t.val % 32 = 31) (i : S1x2048.Idx) : ((outsAt0 m c t.val t.isLt).2.2.1 i : EReal)
    = ∑ p : Fin cfg0.N, (k0_pay7 (iblk m c 0 p) (iblk m c 1 p) (iblk m c 3 p) i : EReal) := by
  have e := Pipeline.eq_sum_fin_of_reset_step_apply_last (M := EReal) (fun n h => (outsAt0 m c n h).2.2.1) 32 (fun _ => (0 : EReal))
    (fun p i => k0_pay7 (iblk m c 0 p) (iblk m c 1 p) (iblk m c 3 p) i)
    (fun t h i => by
      show (outsAt0 m c t.val t.isLt).2.2.1 i = _
      rw [outsAt0_A m c t h h h]; frame_out
      exact (acc_at _ _ i).2.1.trans (congrArg (· + (_ : EReal)) (zero_at i)))
    (fun t h i => by
      show (outsAt0 m c t.val t.isLt).2.2.1 i = _
      rw [outsAt0_B m c t h h h]; frame_out
      exact (acc_at _ _ i).2.1)
    (le_of_eq N_0) t (last t h) i
  exact e.trans (zero_add _)

theorem outs4 (t : Fin cfg0.N) (h : t.val % 32 = 31) (i : S1x2048.Idx) : ((outsAt0 m c t.val t.isLt).2.2.2 i : EReal)
    = ∑ p : Fin cfg0.N, (k0_pay6 (iblk m c 0 p) i : EReal) := by
  have e := Pipeline.eq_sum_fin_of_reset_step_apply_last (M := EReal) (fun n h => (outsAt0 m c n h).2.2.2) 32 (fun _ => (0 : EReal))
    (fun p i => k0_pay6 (iblk m c 0 p) i)
    (fun t h i => by
      show (outsAt0 m c t.val t.isLt).2.2.2 i = _
      rw [outsAt0_A m c t h h h]; frame_out
      exact (acc_at _ _ i).2.2.trans (congrArg (· + (_ : EReal)) (zero_at i)))
    (fun t h i => by
      show (outsAt0 m c t.val t.isLt).2.2.2 i = _
      rw [outsAt0_B m c t h h h]; frame_out
      exact (acc_at _ _ i).2.2)
    (le_of_eq N_0) t (last t h) i
  exact e.trans (zero_add _)

theorem rows_array : (dats m 0 c).arrAt 6 cfg0.N = rows (A0 m c) (A1 m c) (A2 m c) (A3 m c) (A4 m c) := by
  refine (dats m 0 c).arrAt_eq_of_covers 6 _ (by decide +kernel) fun t hf y => ?_
  have hN : t.val < 32 := lt_of_lt_of_eq t.isLt N_0
  blk_simp
  rw [after0_6, outs1]
  obtain ⟨r, j, rfl⟩ : ∃ (r : Fin 256) (j : Fin 2048), y = ix2 r j := ⟨y 0, y 1, eq_ix2 y⟩
  refine (pay13_at _ _ _ _ _ r j).trans ?_
  rw [x_row m c t r ⟨t.val * 256 + r.val, by omega⟩ rfl, d_row m c t r ⟨t.val * 256 + r.val, by omega⟩ rfl,
    y_row m c t r ⟨t.val * 256 + r.val, by omega⟩ rfl, g_row, sc_row]
  refine congrArg (rows (A0 m c) (A1 m c) (A2 m c) (A3 m c) (A4 m c)) (a₁ := ix2 ⟨t.val * 256 + r.val, by omega⟩ j) ?_
  blk_ext [idx6 t]
  all_goals omega

theorem dg_array : (dats m 0 c).arrAt 7 cfg0.N = dg (A0 m c) (A1 m c) (A4 m c) := by
  refine (dats m 0 c).arrAt_eq_of_covers 7 _ (by decide +kernel) fun t hf y => ?_
  have hN : t.val < 32 := lt_of_lt_of_eq t.isLt N_0
  blk_simp
  rw [after0_7]
  obtain ⟨j, rfl⟩ : ∃ j : Fin 2048, y = ix2 0 j := ⟨y 1, by rw [eq_ix2 y]; congr 1; exact Fin.eq_zero _⟩
  refine (outs2 m c t ((flush0_7 t).mp hf) _).trans (Eq.trans (b := dg (A0 m c) (A1 m c) (A4 m c) (ix2 0 j)) ?_ (congrArg (dg (A0 m c) (A1 m c) (A4 m c)) ?_))
  · refine (Finset.sum_congr rfl fun p _ => pay9_at _ _ _ j).trans (Fin.sum_mul_add_congr (fun p k hl => ?_) (by rw [show cfg0.N = 32 from N_0]))
    rw [x_at m c p k j ⟨p.val * 256 + k.val, hl⟩ rfl, x_row m c p k ⟨p.val * 256 + k.val, hl⟩ rfl, d_at m c p k j ⟨p.val * 256 + k.val, hl⟩ rfl,
      sc_at]
    rfl
  · blk_ext [idx7 t]
    all_goals omega

theorem dsc_array : (dats m 0 c).arrAt 8 cfg0.N = dsc (A0 m c) (A1 m c) (A3 m c) := by
  refine (dats m 0 c).arrAt_eq_of_covers 8 _ (by decide +kernel) fun t hf y => ?_
  have hN : t.val < 32 := lt_of_lt_of_eq t.isLt N_0
  blk_simp
  rw [after0_8]
  obtain ⟨j, rfl⟩ : ∃ j : Fin 2048, y = ix2 0 j := ⟨y 1, by rw [eq_ix2 y]; congr 1; exact Fin.eq_zero _⟩
  refine (outs3 m c t ((flush0_8 t).mp hf) _).trans (Eq.trans (b := dsc (A0 m c) (A1 m c) (A3 m c) (ix2 0 j)) ?_ (congrArg (dsc (A0 m c) (A1 m c) (A3 m c)) ?_))
  · refine (Finset.sum_congr rfl fun p _ => pay7_at _ _ _ j).trans (Fin.sum_mul_add_congr (fun p k hl => ?_) (by rw [show cfg0.N = 32 from N_0]))
    rw [x_at m c p k j ⟨p.val * 256 + k.val, hl⟩ rfl, x_row m c p k ⟨p.val * 256 + k.val, hl⟩ rfl, d_at m c p k j ⟨p.val * 256 + k.val, hl⟩ rfl,
      g_at]
    rfl
  · blk_ext [idx8 t]
    all_goals omega

theorem dsh_array : (dats m 0 c).arrAt 9 cfg0.N = dsh (A0 m c) := by
  refine (dats m 0 c).arrAt_eq_of_covers 9 _ (by decide +kernel) fun t hf y => ?_
  have hN : t.val < 32 := lt_of_lt_of_eq t.isLt N_0
  blk_simp
  rw [after0_9]
  obtain ⟨j, rfl⟩ : ∃ j : Fin 2048, y = ix2 0 j := ⟨y 1, by rw [eq_ix2 y]; congr 1; exact Fin.eq_zero _⟩
  refine (outs4 m c t ((flush0_9 t).mp hf) _).trans (Eq.trans (b := dsh (A0 m c) (ix2 0 j)) ?_ (congrArg (dsh (A0 m c)) ?_))
  · refine (Finset.sum_congr rfl fun p _ => pay6_at _ j).trans (Fin.sum_mul_add_congr (fun p k hl => ?_) (by rw [show cfg0.N = 32 from N_0]))
    exact d_at m c p k j ⟨p.val * 256 + k.val, hl⟩ rfl
  · blk_ext [idx9 t]
    all_goals omega

open Idealize.SL.Sem in
/-- The kernel's gradients are the reference's. -/
theorem algebraic : Cert.algebraic_Norm1BwdIdeal_Norm1BwdRefIdeal (hNorm1BwdIdeal := facts) (hNorm1BwdRefIdeal := Cert.Norm1BwdRefIdeal.Gen.facts) := by
  intro m ρ m' ρ' _ hag
  refine ⟨fun c => rows (A0 m c) (A1 m c) (A2 m c) (A3 m c) (A4 m c), fun c => dg (A0 m c) (A1 m c) (A4 m c),
    fun c => dsc (A0 m c) (A1 m c) (A3 m c), fun c => dsh (A0 m c), ?_, ?_⟩
  · exact (θ_run Cert.Norm1BwdIdeal.defs _ _).mono (fun r h c => ⟨(h c).1.trans (rows_array m c), (h c).2.1.trans (dg_array m c),
      (h c).2.2.1.trans (dsc_array m c), (h c).2.2.2.1.trans (dsh_array m c), (h c).2.2.2.2⟩) (Cert.Norm1BwdIdeal.Value.run_blocks (F := Ideal) m ρ)
  · refine (θ_run Cert.Norm1BwdRefIdeal.defs _ _).mono (fun r h c => ?_) (Cert.Norm1BwdRefIdeal.Value.run (F := Ideal) m' ρ')
    have e0 : A0 m c = m' ((c.tc : Thread _ _).loc Cert.Norm1BwdRefIdeal.main_arg0) := (V_main_arg0 m c).trans (hag c).1.symm
    have e1 : A1 m c = m' ((c.tc : Thread _ _).loc Cert.Norm1BwdRefIdeal.main_arg1) := (V_main_arg1 m c).trans (hag c).2.1.symm
    have e2 : A2 m c = m' ((c.tc : Thread _ _).loc Cert.Norm1BwdRefIdeal.main_arg2) := (V_main_arg2 m c).trans (hag c).2.2.1.symm
    have e3 : A3 m c = m' ((c.tc : Thread _ _).loc Cert.Norm1BwdRefIdeal.main_arg3) := (V_main_arg3 m c).trans (hag c).2.2.2.1.symm
    have e4 : A4 m c = m' ((c.tc : Thread _ _).loc Cert.Norm1BwdRefIdeal.main_arg4) := (V_main_arg4 m c).trans (hag c).2.2.2.2.1.symm
    refine ⟨(h c).1.trans ?_, (h c).2.1.trans ?_, (h c).2.2.1.trans ?_, (h c).2.2.2.1.trans ?_, (h c).2.2.2.2⟩ <;> clear h
    · show _ = rows (A0 m c) (A1 m c) (A2 m c) (A3 m c) (A4 m c)
      rw [e0, e1, e2, e3, e4]; exact rowsR_eq _ _ _ _ _
    · show _ = dg (A0 m c) (A1 m c) (A4 m c)
      rw [e0, e1, e4]; exact dgR_eq _ _ _
    · show _ = dsc (A0 m c) (A1 m c) (A3 m c)
      rw [e0, e1, e3]; exact dscR_eq _ _ _
    · show _ = dsh (A0 m c)
      rw [e0]; exact dshR_eq _

end Cert.Norm1BwdV

end
-- ==== Proof.Norm2Bwd.lean ====
/-
  The gradient of the second norm: as the first's, then through the layer scale that the attention's output projection has.
  Its rows and the first three weights' gradients are `Proof/RowNorm.lean`'s.
-/
module

public import proofs.«01_k».proof.Defs
public import proofs.«01_k».proof.Proof.Tiles
public import proofs.«01_k».proof.Proof.RowNorm
public import proofs.«01_k».proof.Proof.Norm1Bwd
public import proofs.«01_k».proof.Proof.Gen.Norm2BwdIdeal.Value
public import proofs.«01_k».proof.Proof.Gen.Norm2BwdRefIdeal.Run
public import Idealize.ShloMosaic.Lib.Pipeline.ValueKit

@[expose] public section

set_option maxRecDepth 16384

noncomputable section

namespace Cert.Norm2BwdV

open Cert.Norm2BwdIdeal Cert.Norm2BwdIdeal.Gen Cert.Tiles Cert.RowNorm Idealize.ShloMosaic

section Pays
variable (d x y p : Vec Ideal S256x2048 .f32) (g sc l : Vec Ideal S1x2048 .f32) (r : Fin 256) (j : Fin 2048)

/-- The block's gradient in the normed rows: the first norm's, line by line. -/
def blk : FVec Ideal S256x2048 .f32 := k0_pay15 x y (k0_pay6 x) (k0_pay7 x) (k0_pay14 d g sc)

theorem blk_at : (blk d x y g sc (ix2 r j) : EReal) = dx (row x r) (row d r) (row y r) (row g 0) (row sc 0) j :=
  Cert.Norm1BwdV.pay13_at d x y g sc r j

theorem scaled_at : (k0_pay17 x y l (k0_pay6 x) (k0_pay7 x) (k0_pay14 d g sc) (ix2 r j) : EReal) = l (ix2 0 j) * (blk d x y g sc (ix2 r j) : EReal) := by
  have e : ∀ B : FVec Ideal S256x2048 .f32, (truncf .bf16 (mulf (broadcastTo S256x2048 l broadcasts_S1x2048_S256x2048) B) bitsLt_bf16_f32 (ix2 r j) : EReal)
      = l (ix2 0 j) * B (ix2 r j) := by
    intro B
    pointwise
  exact e _

theorem ls_at : (k0_pay16 x y p (k0_pay6 x) (k0_pay7 x) (k0_pay14 d g sc) (ix2 0 j) : EReal)
    = ∑ k : Fin 256, (blk d x y g sc (ix2 k j) : EReal) * p (ix2 k j) :=
  Cert.Norm1BwdV.pay6_at (mulf (blk d x y g sc) p) j

theorem sum_at : (k0_pay10 d (ix2 0 j) : EReal) = ∑ k : Fin 256, (d (ix2 k j) : EReal) := Cert.Norm1BwdV.pay6_at d j

theorem modul_at : (k0_pay11 d x g (ix2 0 j) : EReal) = ∑ k : Fin 256, x (ix2 k j) * (rs (row x k) : EReal) * g (ix2 0 j) * d (ix2 k j) :=
  Cert.Norm1BwdV.pay7_at d x g j

theorem weight_at : (k0_pay13 d x sc (ix2 0 j) : EReal) = ∑ k : Fin 256, x (ix2 k j) * (rs (row x k) : EReal) * un (d (ix2 k j)) (sc (ix2 0 j)) :=
  Cert.Norm1BwdV.pay9_at d x sc j

end Pays

/-- An accumulation, entry by entry. -/
theorem acc_at (p s : Vec Ideal S1x2048 .f32) (i : S1x2048.Idx) :
    (k0_pay19 p s i : EReal) = s i + p i ∧ (k0_pay21 p s i : EReal) = s i + p i ∧ (k0_pay2 p s i : EReal) = s i + p i ∧ (k0_pay4 p s i : EReal) = s i + p i :=
  ⟨(Cert.Norm1BwdV.acc_at p s i).1, (Cert.Norm1BwdV.acc_at p s i).1, (Cert.Norm1BwdV.acc_at p s i).1, (Cert.Norm1BwdV.acc_at p s i).1⟩

theorem zero_at (i : S1x2048.Idx) : ((k0_pay1 (F := Ideal)) i : EReal) = 0 := Cert.Norm1BwdV.zero_at i

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel

section Whole
variable (D X Y P : Shape.Idx ⟨2, ![8192, 2048]⟩ → EReal) (G Sc L : Shape.Idx ⟨2, ![1, 2048]⟩ → EReal)

/-- The scaled rows, and the gradient of the layer scale. -/
def scaled : Shape.Idx ⟨2, ![8192, 2048]⟩ → EReal := fun i => L (ix2 0 (i 1)) * rows D X Y G Sc i
def dls : Shape.Idx ⟨2, ![1, 2048]⟩ → EReal := fun i => ∑ x : Fin 8192, rows D X Y G Sc (ix2 x (i 1)) * P (ix2 x (i 1))

end Whole

variable (m : (ℓ : Loc nD τ sig) → Buf (Elt Ideal) ℓ) (c : Dev nD)

/-- The arguments. -/
def A0 : S8192x2048.Idx → EReal := V m c main_arg0
def A1 : S8192x2048.Idx → EReal := V m c main_arg1
def A2 : S8192x2048.Idx → EReal := V m c main_arg2
def A3 : S8192x2048.Idx → EReal := V m c main_arg3
def A4 : S1x2048.Idx → EReal := V m c main_arg4
def A5 : S1x2048.Idx → EReal := V m c main_arg5
def A7 : S1x2048.Idx → EReal := V m c main_arg7

section Reads
variable (t : Fin cfg0.N) (r : Fin 256) (j : Fin 2048) (R : Fin 8192) (hR : t.val * 256 + r.val = R.val)

theorem g_at : iblk m c 4 t (ix2 0 j) = A4 m c (ix2 0 j) := by
  unfold A4
  blk_ext [iblk, idx4 t]
  all_goals omega

theorem sc_at : iblk m c 5 t (ix2 0 j) = A5 m c (ix2 0 j) := by
  unfold A5
  blk_ext [iblk, idx5 t]
  all_goals omega

theorem l_at : iblk m c 7 t (ix2 0 j) = A7 m c (ix2 0 j) := by
  unfold A7
  blk_ext [iblk, idx7 t]
  all_goals omega

theorem g_row : row (iblk m c 4 t) 0 = row (A4 m c) 0 := funext fun k => g_at m c t k
theorem sc_row : row (iblk m c 5 t) 0 = row (A5 m c) 0 := funext fun k => sc_at m c t k

include hR

theorem d_at : iblk m c 0 t (ix2 r j) = A0 m c (ix2 R j) := by
  unfold A0
  blk_ext [iblk, idx0 t]
  all_goals omega

theorem x_at : iblk m c 1 t (ix2 r j) = A1 m c (ix2 R j) := by
  unfold A1
  blk_ext [iblk, idx1 t]
  all_goals omega

theorem y_at : iblk m c 2 t (ix2 r j) = A2 m c (ix2 R j) := by
  unfold A2
  blk_ext [iblk, idx2 t]
  all_goals omega

theorem p_at : iblk m c 3 t (ix2 r j) = A3 m c (ix2 R j) := by
  unfold A3
  blk_ext [iblk, idx3 t]
  all_goals omega

theorem d_row : row (iblk m c 0 t) r = row (A0 m c) R := funext fun k => d_at m c t r k R hR
theorem x_row : row (iblk m c 1 t) r = row (A1 m c) R := funext fun k => x_at m c t r k R hR
theorem y_row : row (iblk m c 2 t) r = row (A2 m c) R := funext fun k => y_at m c t r k R hR

theorem rows_at : (blk (iblk m c 0 t) (iblk m c 1 t) (iblk m c 2 t) (iblk m c 4 t) (iblk m c 5 t) (ix2 r j) : EReal)
    = rows (A0 m c) (A1 m c) (A2 m c) (A4 m c) (A5 m c) (ix2 R j) := by
  rw [blk_at, x_row m c t r R hR, d_row m c t r R hR, y_row m c t r R hR, g_row, sc_row]; rfl

end Reads

/-- What a point leaves in the first two results' blocks. -/
theorem outs1 (t : Fin cfg0.N) : (outsAt0 m c t.val t.isLt).1 = blk (iblk m c 0 t) (iblk m c 1 t) (iblk m c 2 t) (iblk m c 4 t) (iblk m c 5 t) := by
  unfold blk
  by_cases h : t.val % 32 = 0
  · rw [outsAt0_A m c t h h h h]; frame_out
  · rw [outsAt0_B m c t h h h h]; frame_out

theorem outs2 (t : Fin cfg0.N) : (outsAt0 m c t.val t.isLt).2.1
    = k0_pay17 (iblk m c 1 t) (iblk m c 2 t) (iblk m c 7 t) (k0_pay6 (iblk m c 1 t)) (k0_pay7 (iblk m c 1 t)) (k0_pay14 (iblk m c 0 t) (iblk m c 4 t) (iblk m c 5 t)) := by
  by_cases h : t.val % 32 = 0
  · rw [outsAt0_A m c t h h h h]; frame_out
  · rw [outsAt0_B m c t h h h h]; frame_out

/-- What a point adds to the gradient of the layer scale. -/
def term (t : Fin cfg0.N) : FVec Ideal S1x2048 .f32 :=
  k0_pay16 (iblk m c 1 t) (iblk m c 2 t) (iblk m c 3 t) (k0_pay6 (iblk m c 1 t)) (k0_pay7 (iblk m c 1 t)) (k0_pay14 (iblk m c 0 t) (iblk m c 4 t) (iblk m c 5 t))

/-- The last point. -/
theorem last (t : Fin cfg0.N) (h : t.val % 32 = 31) : t.val + 1 = cfg0.N := by
  have hN : t.val < 32 := lt_of_lt_of_eq t.isLt N_0
  exact (by omega : t.val + 1 = 32).trans N_0.symm

theorem outs3 (t : Fin cfg0.N) (h : t.val % 32 = 31) (i : S1x2048.Idx) : ((outsAt0 m c t.val t.isLt).2.2.1 i : EReal)
    = ∑ p : Fin cfg0.N, (k0_pay13 (iblk m c 0 p) (iblk m c 1 p) (iblk m c 5 p) i : EReal) := by
  have e := Pipeline.eq_sum_fin_of_reset_step_apply_last (M := EReal) (fun n h => (outsAt0 m c n h).2.2.1) 32 (fun _ => (0 : EReal))
    (fun p i => k0_pay13 (iblk m c 0 p) (iblk m c 1 p) (iblk m c 5 p) i)
    (fun t h i => by
      show (outsAt0 m c t.val t.isLt).2.2.1 i = _
      rw [outsAt0_A m c t h h h h]; frame_out
      exact (acc_at _ _ i).1.trans (congrArg (· + (_ : EReal)) (zero_at i)))
    (fun t h i => by
      show (outsAt0 m c t.val t.isLt).2.2.1 i = _
      rw [outsAt0_B m c t h h h h]; frame_out
      exact (acc_at _ _ i).1)
    (le_of_eq N_0) t (last t h) i
  exact e.trans (zero_add _)

theorem outs4 (t : Fin cfg0.N) (h : t.val % 32 = 31) (i : S1x2048.Idx) : ((outsAt0 m c t.val t.isLt).2.2.2.1 i : EReal)
    = ∑ p : Fin cfg0.N, (k0_pay11 (iblk m c 0 p) (iblk m c 1 p) (iblk m c 4 p) i : EReal) := by
  have e := Pipeline.eq_sum_fin_of_reset_step_apply_last (M := EReal) (fun n h => (outsAt0 m c n h).2.2.2.1) 32 (fun _ => (0 : EReal))
    (fun p i => k0_pay11 (iblk m c 0 p) (iblk m c 1 p) (iblk m c 4 p) i)
    (fun t h i => by
      show (outsAt0 m c t.val t.isLt).2.2.2.1 i = _
      rw [outsAt0_A m c t h h h h]; frame_out
      exact (acc_at _ _ i).2.1.trans (congrArg (· + (_ : EReal)) (zero_at i)))
    (fun t h i => by
      show (outsAt0 m c t.val t.isLt).2.2.2.1 i = _
      rw [outsAt0_B m c t h h h h]; frame_out
      exact (acc_at _ _ i).2.1)
    (le_of_eq N_0) t (last t h) i
  exact e.trans (zero_add _)

theorem outs5 (t : Fin cfg0.N) (h : t.val % 32 = 31) (i : S1x2048.Idx) : ((outsAt0 m c t.val t.isLt).2.2.2.2.1 i : EReal)
    = ∑ p : Fin cfg0.N, (k0_pay10 (iblk m c 0 p) i : EReal) := by
  have e := Pipeline.eq_sum_fin_of_reset_step_apply_last (M := EReal) (fun n h => (outsAt0 m c n h).2.2.2.2.1) 32 (fun _ => (0 : EReal))
    (fun p i => k0_pay10 (iblk m c 0 p) i)
    (fun t h i => by
      show (outsAt0 m c t.val t.isLt).2.2.2.2.1 i = _
      rw [outsAt0_A m c t h h h h]; frame_out
      exact (acc_at _ _ i).2.2.1.trans (congrArg (· + (_ : EReal)) (zero_at i)))
    (fun t h i => by
      show (outsAt0 m c t.val t.isLt).2.2.2.2.1 i = _
      rw [outsAt0_B m c t h h h h]; frame_out
      exact (acc_at _ _ i).2.2.1)
    (le_of_eq N_0) t (last t h) i
  exact e.trans (zero_add _)

theorem outs6 (t : Fin cfg0.N) (h : t.val % 32 = 31) (i : S1x2048.Idx) : ((outsAt0 m c t.val t.isLt).2.2.2.2.2 i : EReal)
    = ∑ p : Fin cfg0.N, (term m c p i : EReal) := by
  have e := Pipeline.eq_sum_fin_of_reset_step_apply_last (M := EReal) (fun n h => (outsAt0 m c n h).2.2.2.2.2) 32 (fun _ => (0 : EReal))
    (fun p i => term m c p i)
    (fun t h i => by
      show (outsAt0 m c t.val t.isLt).2.2.2.2.2 i = _
      rw [outsAt0_A m c t h h h h]; frame_out
      exact (acc_at _ _ i).2.2.2.trans (congrArg (· + (_ : EReal)) (zero_at i)))
    (fun t h i => by
      show (outsAt0 m c t.val t.isLt).2.2.2.2.2 i = _
      rw [outsAt0_B m c t h h h h]; frame_out
      exact (acc_at _ _ i).2.2.2)
    (le_of_eq N_0) t (last t h) i
  exact e.trans (zero_add _)

theorem rows_array : (dats m 0 c).arrAt 8 cfg0.N = rows (A0 m c) (A1 m c) (A2 m c) (A4 m c) (A5 m c) := by
  refine (dats m 0 c).arrAt_eq_of_covers 8 _ (by decide +kernel) fun t hf y => ?_
  have hN : t.val < 32 := lt_of_lt_of_eq t.isLt N_0
  blk_simp
  rw [after0_8, outs1]
  obtain ⟨r, j, rfl⟩ : ∃ (r : Fin 256) (j : Fin 2048), y = ix2 r j := ⟨y 0, y 1, eq_ix2 y⟩
  refine (rows_at m c t r j ⟨t.val * 256 + r.val, by omega⟩ rfl).trans ?_
  refine congrArg (rows (A0 m c) (A1 m c) (A2 m c) (A4 m c) (A5 m c)) (a₁ := ix2 ⟨t.val * 256 + r.val, by omega⟩ j) ?_
  blk_ext [idx8 t]
  all_goals omega

theorem scaled_array : (dats m 0 c).arrAt 9 cfg0.N = scaled (A0 m c) (A1 m c) (A2 m c) (A4 m c) (A5 m c) (A7 m c) := by
  refine (dats m 0 c).arrAt_eq_of_covers 9 _ (by decide +kernel) fun t hf y => ?_
  have hN : t.val < 32 := lt_of_lt_of_eq t.isLt N_0
  blk_simp
  rw [after0_9, outs2]
  obtain ⟨r, j, rfl⟩ : ∃ (r : Fin 256) (j : Fin 2048), y = ix2 r j := ⟨y 0, y 1, eq_ix2 y⟩
  refine (scaled_at _ _ _ _ _ _ r j).trans ?_
  rw [rows_at m c t r j ⟨t.val * 256 + r.val, by omega⟩ rfl, l_at]
  refine congrArg (scaled (A0 m c) (A1 m c) (A2 m c) (A4 m c) (A5 m c) (A7 m c)) (a₁ := ix2 ⟨t.val * 256 + r.val, by omega⟩ j) ?_
  blk_ext [idx9 t]
  all_goals omega

theorem dg_array : (dats m 0 c).arrAt 10 cfg0.N = dg (A0 m c) (A1 m c) (A5 m c) := by
  refine (dats m 0 c).arrAt_eq_of_covers 10 _ (by decide +kernel) fun t hf y => ?_
  have hN : t.val < 32 := lt_of_lt_of_eq t.isLt N_0
  blk_simp
  rw [after0_10]
  obtain ⟨j, rfl⟩ : ∃ j : Fin 2048, y = ix2 0 j := ⟨y 1, by rw [eq_ix2 y]; congr 1; exact Fin.eq_zero _⟩
  refine (outs3 m c t ((flush0_10 t).mp hf) _).trans (Eq.trans (b := dg (A0 m c) (A1 m c) (A5 m c) (ix2 0 j)) ?_ (congrArg (dg (A0 m c) (A1 m c) (A5 m c)) ?_))
  · refine (Finset.sum_congr rfl fun p _ => weight_at _ _ _ j).trans (Fin.sum_mul_add_congr (fun p k hl => ?_) (by rw [show cfg0.N = 32 from N_0]))
    rw [x_at m c p k j ⟨p.val * 256 + k.val, hl⟩ rfl, x_row m c p k ⟨p.val * 256 + k.val, hl⟩ rfl, d_at m c p k j ⟨p.val * 256 + k.val, hl⟩ rfl, sc_at]
    rfl
  · blk_ext [idx10 t]
    all_goals omega

theorem dsc_array : (dats m 0 c).arrAt 11 cfg0.N = dsc (A0 m c) (A1 m c) (A4 m c) := by
  refine (dats m 0 c).arrAt_eq_of_covers 11 _ (by decide +kernel) fun t hf y => ?_
  have hN : t.val < 32 := lt_of_lt_of_eq t.isLt N_0
  blk_simp
  rw [after0_11]
  obtain ⟨j, rfl⟩ : ∃ j : Fin 2048, y = ix2 0 j := ⟨y 1, by rw [eq_ix2 y]; congr 1; exact Fin.eq_zero _⟩
  refine (outs4 m c t ((flush0_11 t).mp hf) _).trans (Eq.trans (b := dsc (A0 m c) (A1 m c) (A4 m c) (ix2 0 j)) ?_ (congrArg (dsc (A0 m c) (A1 m c) (A4 m c)) ?_))
  · refine (Finset.sum_congr rfl fun p _ => modul_at _ _ _ j).trans (Fin.sum_mul_add_congr (fun p k hl => ?_) (by rw [show cfg0.N = 32 from N_0]))
    rw [x_at m c p k j ⟨p.val * 256 + k.val, hl⟩ rfl, x_row m c p k ⟨p.val * 256 + k.val, hl⟩ rfl, d_at m c p k j ⟨p.val * 256 + k.val, hl⟩ rfl, g_at]
    rfl
  · blk_ext [idx11 t]
    all_goals omega

theorem dsh_array : (dats m 0 c).arrAt 12 cfg0.N = dsh (A0 m c) := by
  refine (dats m 0 c).arrAt_eq_of_covers 12 _ (by decide +kernel) fun t hf y => ?_
  have hN : t.val < 32 := lt_of_lt_of_eq t.isLt N_0
  blk_simp
  rw [after0_12]
  obtain ⟨j, rfl⟩ : ∃ j : Fin 2048, y = ix2 0 j := ⟨y 1, by rw [eq_ix2 y]; congr 1; exact Fin.eq_zero _⟩
  refine (outs5 m c t ((flush0_12 t).mp hf) _).trans (Eq.trans (b := dsh (A0 m c) (ix2 0 j)) ?_ (congrArg (dsh (A0 m c)) ?_))
  · refine (Finset.sum_congr rfl fun p _ => sum_at _ j).trans (Fin.sum_mul_add_congr (fun p k hl => ?_) (by rw [show cfg0.N = 32 from N_0]))
    exact d_at m c p k j ⟨p.val * 256 + k.val, hl⟩ rfl
  · blk_ext [idx12 t]
    all_goals omega

theorem dls_array : (dats m 0 c).arrAt 13 cfg0.N = dls (A0 m c) (A1 m c) (A2 m c) (A3 m c) (A4 m c) (A5 m c) := by
  refine (dats m 0 c).arrAt_eq_of_covers 13 _ (by decide +kernel) fun t hf y => ?_
  have hN : t.val < 32 := lt_of_lt_of_eq t.isLt N_0
  blk_simp
  rw [after0_13]
  obtain ⟨j, rfl⟩ : ∃ j : Fin 2048, y = ix2 0 j := ⟨y 1, by rw [eq_ix2 y]; congr 1; exact Fin.eq_zero _⟩
  refine (outs6 m c t ((flush0_13 t).mp hf) _).trans (Eq.trans (b := dls (A0 m c) (A1 m c) (A2 m c) (A3 m c) (A4 m c) (A5 m c) (ix2 0 j)) ?_ (congrArg (dls (A0 m c) (A1 m c) (A2 m c) (A3 m c) (A4 m c) (A5 m c)) ?_))
  · refine (Finset.sum_congr rfl fun p _ => ls_at _ _ _ _ _ _ j).trans (Fin.sum_mul_add_congr (fun p k hl => ?_) (by rw [show cfg0.N = 32 from N_0]))
    rw [rows_at m c p k j ⟨p.val * 256 + k.val, hl⟩ rfl, p_at m c p k j ⟨p.val * 256 + k.val, hl⟩ rfl]
    rfl
  · blk_ext [idx13 t]
    all_goals omega

section Reference
variable (D X Y P : Vec Ideal Cert.Norm1BwdRefIdeal.S8192x2048 .f32) (G Sc L : Vec Ideal Cert.Norm1BwdRefIdeal.S1x2048 .f32)

theorem scaledR_eq : truncf .bf16 (mulf (broadcastInDim Cert.Norm1BwdRefIdeal.S8192x2048 ![0, 1] Cert.Norm1BwdRefIdeal.Gen.bcast_S1x2048_S8192x2048_0_1 L)
    (rowsR D X Y G Sc)) bitsLt_bf16_f32 = scaled D X Y G Sc L := by
  rw [rowsR_eq]
  funext i
  obtain ⟨x, j, rfl⟩ : ∃ (x : Fin 8192) (j : Fin 2048), i = ix2 x j := ⟨i 0, i 1, eq_ix2 i⟩
  have e : ∀ B : FVec Ideal Cert.Norm1BwdRefIdeal.S8192x2048 .f32, (truncf .bf16 (mulf (broadcastInDim Cert.Norm1BwdRefIdeal.S8192x2048 ![0, 1]
      Cert.Norm1BwdRefIdeal.Gen.bcast_S1x2048_S8192x2048_0_1 L) B) bitsLt_bf16_f32 (ix2 x j) : EReal) = L (ix2 0 j) * B (ix2 x j) := by
    intro B
    pointwise
  exact e _

theorem dlsR_eq : sumR (mulf (rowsR D X Y G Sc) P) = dls D X Y P G Sc := by
  rw [rowsR_eq]
  exact sumR_eq _ _ fun _ => rfl

end Reference

open Idealize.SL.Sem in
/-- The kernel's gradients are the reference's. -/
theorem algebraic : Cert.algebraic_Norm2BwdIdeal_Norm2BwdRefIdeal (hNorm2BwdIdeal := facts) (hNorm2BwdRefIdeal := Cert.Norm2BwdRefIdeal.Gen.facts) := by
  intro m ρ m' ρ' _ hag
  refine ⟨fun c => rows (A0 m c) (A1 m c) (A2 m c) (A4 m c) (A5 m c), fun c => scaled (A0 m c) (A1 m c) (A2 m c) (A4 m c) (A5 m c) (A7 m c),
    fun c => dg (A0 m c) (A1 m c) (A5 m c), fun c => dsc (A0 m c) (A1 m c) (A4 m c), fun c => dsh (A0 m c),
    fun c => dls (A0 m c) (A1 m c) (A2 m c) (A3 m c) (A4 m c) (A5 m c), ?_, ?_⟩
  · exact (θ_run Cert.Norm2BwdIdeal.defs _ _).mono (fun r h c => ⟨(h c).1.trans (rows_array m c), (h c).2.1.trans (scaled_array m c),
      (h c).2.2.1.trans (dg_array m c), (h c).2.2.2.1.trans (dsc_array m c), (h c).2.2.2.2.1.trans (dsh_array m c),
      (h c).2.2.2.2.2.1.trans (dls_array m c), (h c).2.2.2.2.2.2⟩) (Cert.Norm2BwdIdeal.Value.run_blocks (F := Ideal) m ρ)
  · refine (θ_run Cert.Norm2BwdRefIdeal.defs _ _).mono (fun r h c => ?_) (Cert.Norm2BwdRefIdeal.Value.run (F := Ideal) m' ρ')
    have e0 : A0 m c = m' ((c.tc : Thread _ _).loc Cert.Norm2BwdRefIdeal.main_arg0) := (V_main_arg0 m c).trans (hag c).1.symm
    have e1 : A1 m c = m' ((c.tc : Thread _ _).loc Cert.Norm2BwdRefIdeal.main_arg1) := (V_main_arg1 m c).trans (hag c).2.1.symm
    have e2 : A2 m c = m' ((c.tc : Thread _ _).loc Cert.Norm2BwdRefIdeal.main_arg2) := (V_main_arg2 m c).trans (hag c).2.2.1.symm
    have e3 : A3 m c = m' ((c.tc : Thread _ _).loc Cert.Norm2BwdRefIdeal.main_arg3) := (V_main_arg3 m c).trans (hag c).2.2.2.1.symm
    have e4 : A4 m c = m' ((c.tc : Thread _ _).loc Cert.Norm2BwdRefIdeal.main_arg4) := (V_main_arg4 m c).trans (hag c).2.2.2.2.1.symm
    have e5 : A5 m c = m' ((c.tc : Thread _ _).loc Cert.Norm2BwdRefIdeal.main_arg5) := (V_main_arg5 m c).trans (hag c).2.2.2.2.2.1.symm
    have e7 : A7 m c = m' ((c.tc : Thread _ _).loc Cert.Norm2BwdRefIdeal.main_arg7) := (V_main_arg7 m c).trans (hag c).2.2.2.2.2.2.2.symm
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩ <;> clear h
    · show _ = rows (A0 m c) (A1 m c) (A2 m c) (A4 m c) (A5 m c)
      rw [e0, e1, e2, e4, e5]; exact rowsR_eq _ _ _ _ _
    · show _ = scaled (A0 m c) (A1 m c) (A2 m c) (A4 m c) (A5 m c) (A7 m c)
      rw [e0, e1, e2, e4, e5, e7]; exact scaledR_eq _ _ _ _ _ _
    · show _ = dg (A0 m c) (A1 m c) (A5 m c)
      rw [e0, e1, e5]; exact dgR_eq _ _ _
    · show _ = dsc (A0 m c) (A1 m c) (A4 m c)
      rw [e0, e1, e4]; exact dscR_eq _ _ _
    · show _ = dsh (A0 m c)
      rw [e0]; exact dshR_eq _
    · show _ = dls (A0 m c) (A1 m c) (A2 m c) (A3 m c) (A4 m c) (A5 m c)
      rw [e0, e1, e2, e3, e4, e5]; exact dlsR_eq _ _ _ _ _ _

end Cert.Norm2BwdV

end
-- ==== Proof.GeluBwd.lean ====
/-
  The gradient of the S5 mixer's skip and gelu: the derivative of the gelu entry by entry, and the gradient of the skip's
  weight added up over the 32 blocks of rows.
-/
module

public import proofs.«01_k».proof.Defs
public import proofs.«01_k».proof.Proof.Tiles
public import proofs.«01_k».proof.Proof.Gen.GeluBwdIdeal.Value
public import proofs.«01_k».proof.Proof.Gen.GeluBwdRefIdeal.Run
public import Idealize.ShloMosaic.Lib.Pipeline.ValueKit

@[expose] public section

set_option maxRecDepth 16384

noncomputable section

namespace Cert.GeluBwdV

open Cert.GeluBwdIdeal Cert.GeluBwdIdeal.Gen Cert.Tiles Idealize.ShloMosaic

/-- A constant of the gelu. -/
abbrev cst (b : BitVec 32) : Ideal .f32 := Scalar.ofBits (F := Ideal) .f32 b

/-- The argument of the gelu at an entry. -/
def arg (y u d : Ideal .f32) : Ideal .f32 := FloatOps.addf y (FloatOps.mulf d u)

/-- The hyperbolic tangent of the gelu at `y`, with the cube `q`. -/
def th (y q : Ideal .f32) : Ideal .f32 := FloatOps.tanh (FloatOps.mulf (cst 0x3F4C422A#32) (FloatOps.addf y (FloatOps.mulf (cst 0x3D372713#32) q)))

/-- The gradient that reaches the tangent's argument. -/
def inner (g y t : Ideal .f32) : Ideal .f32 :=
  FloatOps.mulf (cst 0x3F4C422A#32) (FloatOps.mulf (FloatOps.mulf (cst 0x3F000000#32) (FloatOps.mulf y g))
    (FloatOps.mulf (FloatOps.addf (cst 0x3F800000#32) t) (FloatOps.subf (cst 0x3F800000#32) t)))

/-- The gradient in the gelu's argument `y`, from the gradient `g` of its value. -/
def back (g y q : Ideal .f32) : Ideal .f32 :=
  FloatOps.addf (FloatOps.addf (FloatOps.mulf g (FloatOps.mulf (cst 0x3F000000#32) (FloatOps.addf (cst 0x3F800000#32) (th y q)))) (inner g y (th y q)))
    (FloatOps.mulf (FloatOps.mulf (cst 0x3D372713#32) (inner g y (th y q))) (FloatOps.mulf (cst 0x40400000#32) (FloatOps.mulf y y)))

/-- The cube may be taken in either order. -/
def grad (g1 g2 y u d : EReal) : EReal := back (g1 + g2 : EReal) (arg y u d) ((arg y u d : EReal) * ((arg y u d : EReal) * arg y u d))

section Pays
variable (a b y u : Vec Ideal S256x1024 .f32) (d : Vec Ideal S1x1024 .f32)

/-- The block's gradient in the gelu's argument. -/
def blk : FVec Ideal S256x1024 .f32 := k0_pay1 (k0_pay7 y u d) (k0_pay11 a b y u d) (k0_pay12 a b y u d)

theorem pay6_at (r : Fin 256) (j : Fin 1024) : (k0_pay6 y u d (ix2 r j) : EReal) = arg (y (ix2 r j)) (u (ix2 r j)) (d (ix2 0 j)) := by
  unfold k0_pay6 arg
  pointwise

theorem blk_at (r : Fin 256) (j : Fin 1024) :
    (blk a b y u d (ix2 r j) : EReal) = grad (a (ix2 r j)) (b (ix2 r j)) (y (ix2 r j)) (u (ix2 r j)) (d (ix2 0 j)) := by
  have h : (blk a b y u d (ix2 r j) : EReal) = back ((a (ix2 r j) : EReal) + b (ix2 r j)) (k0_pay6 y u d (ix2 r j))
    ((k0_pay6 y u d (ix2 r j) : EReal) * ((k0_pay6 y u d (ix2 r j) : EReal) * k0_pay6 y u d (ix2 r j))) := rfl
  rw [h, pay6_at]; rfl

theorem pay2_at (D : FVec Ideal S256x1024 .f32) (p q w : FVec Ideal S256x1024 .f32) (h : k0_pay1 p q w = D) (r : Fin 256) (j : Fin 1024) :
    (k0_pay2 d p q w (ix2 r j) : EReal) = (d (ix2 0 j) : EReal) * D (ix2 r j) := by
  unfold k0_pay2
  rw [h]
  pointwise

theorem pay5_at (D : FVec Ideal S256x1024 .f32) (p q w : FVec Ideal S256x1024 .f32) (h : k0_pay1 p q w = D) (s : Vec Ideal S1x1024 .f32) (j : Fin 1024) :
    (k0_pay5 u p q w s (ix2 0 j) : EReal) = s (ix2 0 j) + ∑ k : Fin 256, (D (ix2 k j) : EReal) * u (ix2 k j) := by
  unfold k0_pay5
  rw [h]
  pointwise

theorem pay4_at (j : Fin 1024) : ((k0_pay4 (F := Ideal)) (ix2 0 j) : EReal) = 0 := by
  unfold k0_pay4
  pointwise

end Pays

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 3] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel

variable (m : (ℓ : Loc nD τ sig) → Buf (Elt Ideal) ℓ) (c : Dev nD)

/-- Column `j` of the projection's part that the mixer takes. -/
def part (j : Fin 1024) : Fin 4096 := ⟨3072 + j.val, by omega⟩

/-- The gradient in the gelu's argument, over the whole sequence. -/
def full (A B Y : S8192x1024.Idx → EReal) (U : S8192x4096.Idx → EReal) (D : S1x1024.Idx → EReal) : S8192x1024.Idx → EReal := fun i =>
  grad (A i) (B i) (Y i) (U (ix2 (i 0) (part (i 1)))) (D (ix2 0 (i 1)))

/-- The gradient in the skipped input, and in the skip's weight. -/
def du (A B Y : S8192x1024.Idx → EReal) (U : S8192x4096.Idx → EReal) (D : S1x1024.Idx → EReal) : S8192x1024.Idx → EReal := fun i =>
  D (ix2 0 (i 1)) * full A B Y U D i
def dd (A B Y : S8192x1024.Idx → EReal) (U : S8192x4096.Idx → EReal) (D : S1x1024.Idx → EReal) : S1x1024.Idx → EReal := fun i =>
  ∑ x : Fin 8192, full A B Y U D (ix2 x (i 1)) * U (ix2 x (part (i 1)))

/-- The five arguments. -/
def A0 : S8192x1024.Idx → EReal := V m c main_arg0
def A1 : S8192x1024.Idx → EReal := V m c main_arg1
def A2 : S8192x1024.Idx → EReal := V m c main_arg2
def A3 : S8192x4096.Idx → EReal := V m c main_arg3
def A4 : S1x1024.Idx → EReal := V m c main_arg4

section Reads
variable (t : Fin cfg0.N) (r : Fin 256) (j : Fin 1024) (R : Fin 8192) (hR : t.val * 256 + r.val = R.val)

theorem d_at : iblk m c 4 t (ix2 0 j) = A4 m c (ix2 0 j) := by
  unfold A4
  blk_ext [iblk, idx4 t]
  all_goals omega

include hR

theorem a_at : iblk m c 0 t (ix2 r j) = A0 m c (ix2 R j) := by
  unfold A0
  blk_ext [iblk, idx0 t]
  all_goals omega

theorem b_at : iblk m c 1 t (ix2 r j) = A1 m c (ix2 R j) := by
  unfold A1
  blk_ext [iblk, idx1 t]
  all_goals omega

theorem y_at : iblk m c 2 t (ix2 r j) = A2 m c (ix2 R j) := by
  unfold A2
  blk_ext [iblk, idx2 t]
  all_goals omega

theorem u_at : iblk m c 3 t (ix2 r j) = A3 m c (ix2 R (part j)) := by
  unfold A3 part
  blk_ext [iblk, idx3 t]
  all_goals omega

theorem full_at : (blk (iblk m c 0 t) (iblk m c 1 t) (iblk m c 2 t) (iblk m c 3 t) (iblk m c 4 t) (ix2 r j) : EReal)
    = full (A0 m c) (A1 m c) (A2 m c) (A3 m c) (A4 m c) (ix2 R j) := by
  rw [blk_at, a_at m c t r j R hR, b_at m c t r j R hR, y_at m c t r j R hR, u_at m c t r j R hR, d_at m c t j]; rfl

end Reads

/-- What a point leaves in the first two results' blocks. -/
theorem outs1 (t : Fin cfg0.N) : (outsAt0 m c t.val t.isLt).1
    = k0_pay3 (k0_pay7 (iblk m c 2 t) (iblk m c 3 t) (iblk m c 4 t)) (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) := by
  by_cases h : t.val % 32 = 0
  · rw [outsAt0_A m c t h]; frame_out
  · rw [outsAt0_B m c t h]; frame_out

theorem outs2 (t : Fin cfg0.N) : (outsAt0 m c t.val t.isLt).2.1
    = k0_pay2 (iblk m c 4 t) (k0_pay7 (iblk m c 2 t) (iblk m c 3 t) (iblk m c 4 t)) (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) := by
  by_cases h : t.val % 32 = 0
  · rw [outsAt0_A m c t h]; frame_out
  · rw [outsAt0_B m c t h]; frame_out

/-- What a point adds to the third result. -/
def term (t : Fin cfg0.N) : S1x1024.Idx → EReal := fun i =>
  ∑ k : Fin 256, (blk (iblk m c 0 t) (iblk m c 1 t) (iblk m c 2 t) (iblk m c 3 t) (iblk m c 4 t) (ix2 k (i 1)) : EReal) * iblk m c 3 t (ix2 k (i 1))

theorem pay5_term (t : Fin cfg0.N) (s : Vec Ideal S1x1024 .f32) (i : S1x1024.Idx) :
    (k0_pay5 (iblk m c 3 t) (k0_pay7 (iblk m c 2 t) (iblk m c 3 t) (iblk m c 4 t)) (k0_pay11 (iblk m c 0 t) (iblk m c 1 t) (iblk m c 2 t) (iblk m c 3 t) (iblk m c 4 t))
        (k0_pay12 (iblk m c 0 t) (iblk m c 1 t) (iblk m c 2 t) (iblk m c 3 t) (iblk m c 4 t)) s i : EReal) = s i + term m c t i := by
  obtain ⟨j, rfl⟩ : ∃ j : Fin 1024, i = ix2 0 j := ⟨i 1, by rw [eq_ix2 i]; congr 1; exact Fin.eq_zero _⟩
  exact pay5_at (iblk m c 3 t) _ _ _ _ rfl s j

theorem outs3 (t : Fin cfg0.N) (h : t.val % 32 = 31) (i : S1x1024.Idx) :
    ((outsAt0 m c t.val t.isLt).2.2 i : EReal) = ∑ p : Fin cfg0.N, term m c p i := by
  have hN : t.val < 32 := lt_of_lt_of_eq t.isLt N_0
  have hl : t.val + 1 = cfg0.N := (by omega : t.val + 1 = 32).trans N_0.symm
  have e := Pipeline.eq_sum_fin_of_reset_step_apply_last (M := EReal) (fun n h => (outsAt0 m c n h).2.2) 32 (fun _ => (0 : EReal)) (term m c)
    (fun t h i => by
      show (outsAt0 m c t.val t.isLt).2.2 i = _
      rw [outsAt0_A m c t h]; frame_out
      refine (pay5_term m c t _ i).trans (congrArg (· + term m c t i) ?_)
      obtain ⟨j, rfl⟩ : ∃ j : Fin 1024, i = ix2 0 j := ⟨i 1, by rw [eq_ix2 i]; congr 1; exact Fin.eq_zero _⟩
      exact pay4_at j)
    (fun t h i => by
      show (outsAt0 m c t.val t.isLt).2.2 i = _
      rw [outsAt0_B m c t h]; frame_out
      exact pay5_term m c t _ i)
    (le_of_eq N_0) t hl i
  exact e.trans (zero_add _)

theorem first_array : (dats m 0 c).arrAt 5 cfg0.N = full (A0 m c) (A1 m c) (A2 m c) (A3 m c) (A4 m c) := by
  refine (dats m 0 c).arrAt_eq_of_covers 5 _ (by decide +kernel) fun t hf y => ?_
  have hN : t.val < 32 := lt_of_lt_of_eq t.isLt N_0
  blk_simp
  rw [after0_5, outs1]
  obtain ⟨r, j, rfl⟩ : ∃ (r : Fin 256) (j : Fin 1024), y = ix2 r j := ⟨y 0, y 1, eq_ix2 y⟩
  refine (full_at m c t r j ⟨t.val * 256 + r.val, by omega⟩ rfl).trans (congrArg (full (A0 m c) (A1 m c) (A2 m c) (A3 m c) (A4 m c)) ?_)
  blk_ext [idx5 t]
  all_goals omega

theorem second_array : (dats m 0 c).arrAt 6 cfg0.N = du (A0 m c) (A1 m c) (A2 m c) (A3 m c) (A4 m c) := by
  refine (dats m 0 c).arrAt_eq_of_covers 6 _ (by decide +kernel) fun t hf y => ?_
  have hN : t.val < 32 := lt_of_lt_of_eq t.isLt N_0
  blk_simp
  rw [after0_6, outs2]
  obtain ⟨r, j, rfl⟩ : ∃ (r : Fin 256) (j : Fin 1024), y = ix2 r j := ⟨y 0, y 1, eq_ix2 y⟩
  refine (pay2_at (iblk m c 4 t) _ _ _ _ rfl r j).trans ?_
  rw [d_at m c t j]
  refine (congrArg (A4 m c (ix2 0 j) * ·) (full_at m c t r j ⟨t.val * 256 + r.val, by omega⟩ rfl)).trans
    (congrArg (du (A0 m c) (A1 m c) (A2 m c) (A3 m c) (A4 m c)) (a₁ := ix2 ⟨t.val * 256 + r.val, by omega⟩ j) ?_)
  blk_ext [idx6 t]
  all_goals omega

/-- The blocks' sums are the sum over the whole sequence. -/
theorem terms (i : S1x1024.Idx) : ∑ p : Fin cfg0.N, term m c p i = dd (A0 m c) (A1 m c) (A2 m c) (A3 m c) (A4 m c) i := by
  refine Fin.sum_mul_add_congr (fun t k hl => ?_) (by rw [show cfg0.N = 32 from N_0])
  exact congrArg₂ (· * ·) (full_at m c t k (i 1) ⟨t.val * 256 + k.val, hl⟩ rfl) (u_at m c t k (i 1) ⟨t.val * 256 + k.val, hl⟩ rfl)

theorem third_array : (dats m 0 c).arrAt 7 cfg0.N = dd (A0 m c) (A1 m c) (A2 m c) (A3 m c) (A4 m c) := by
  refine (dats m 0 c).arrAt_eq_of_covers 7 _ (by decide +kernel) fun t hf y => ?_
  have hN : t.val < 32 := lt_of_lt_of_eq t.isLt N_0
  blk_simp
  rw [after0_7]
  refine (outs3 m c t ((flush0_7 t).mp hf) y).trans ((terms m c y).trans (congrArg (dd (A0 m c) (A1 m c) (A2 m c) (A3 m c) (A4 m c)) ?_))
  obtain ⟨r, j, rfl⟩ : ∃ (r : Fin 1) (j : Fin 1024), y = ix2 r j := ⟨y 0, y 1, eq_ix2 y⟩
  blk_ext [idx7 t]
  all_goals omega

section Reference
variable (A B Y : Vec Ideal Cert.GeluBwdRefIdeal.S8192x1024 .f32) (U : Vec Ideal Cert.GeluBwdRefIdeal.S8192x4096 .f32) (D : Vec Ideal Cert.GeluBwdRefIdeal.S1x1024 .f32)

/-- The reference's argument of the gelu. -/
def argR : FVec Ideal Cert.GeluBwdRefIdeal.S8192x1024 .f32 :=
  addf Y (mulf (broadcastInDim Cert.GeluBwdRefIdeal.S8192x1024 ![0, 1] Cert.GeluBwdRefIdeal.Gen.bcast_S1x1024_S8192x1024_0_1 D)
    (extractStridedSlice Cert.GeluBwdRefIdeal.S8192x1024 ![0, 3072] U Cert.GeluBwdRefIdeal.Gen.slices_S8192x4096_S8192x1024_0_3072))

theorem argR_at (x : Fin 8192) (j : Fin 1024) : (argR Y U D (ix2 x j) : EReal) = arg (Y (ix2 x j)) (U (ix2 x (part j))) (D (ix2 0 j)) := by
  unfold argR arg part
  pointwise

/-- The reference's gradient in the gelu's argument. -/
def gradR : FVec Ideal Cert.GeluBwdRefIdeal.S8192x1024 .f32 := fun i =>
  back ((A i : EReal) + B i : EReal) (argR Y U D i) (((argR Y U D i : EReal) * argR Y U D i) * argR Y U D i)

theorem gradR_eq : gradR A B Y U D = full A B Y U D := by
  funext i
  obtain ⟨x, j, rfl⟩ : ∃ (x : Fin 8192) (j : Fin 1024), i = ix2 x j := ⟨i 0, i 1, eq_ix2 i⟩
  unfold gradR
  rw [argR_at, mul_comm ((arg _ _ _ : EReal) * _)]; rfl

theorem sum_ref (E G : FVec Ideal Cert.GeluBwdRefIdeal.S8192x1024 .f32) (j : Fin 1024) :
    (shapeCast Cert.GeluBwdRefIdeal.S1x1024 (Host.reduceAdd (mulf E G) (constant (F := Ideal) Cert.GeluBwdRefIdeal.S_ .f32 0x00000000#32)
      Cert.GeluBwdRefIdeal.Gen.reducesTo_S8192x1024_S1024_d0 Cert.GeluBwdRefIdeal.Gen.h_S_) Cert.GeluBwdRefIdeal.Gen.shapeCasts_S1024_S1x1024 (ix2 0 j) : EReal)
      = ∑ x : Fin 8192, (E (ix2 x j) : EReal) * G (ix2 x j) := by
  pointwise

end Reference

section RefOut
variable (m' : (ℓ : Loc Cert.GeluBwdRefIdeal.nD Cert.GeluBwdRefIdeal.τ Cert.GeluBwdRefIdeal.sig) → Buf (Elt Ideal) ℓ) (c : Dev Cert.GeluBwdRefIdeal.nD)

/-- The reference's gradient, of its own arguments. -/
def E (m' : (ℓ : Loc Cert.GeluBwdRefIdeal.nD Cert.GeluBwdRefIdeal.τ Cert.GeluBwdRefIdeal.sig) → Buf (Elt Ideal) ℓ) (c : Dev Cert.GeluBwdRefIdeal.nD) :
    FVec Ideal Cert.GeluBwdRefIdeal.S8192x1024 .f32 :=
  gradR (m' ((c.tc : Thread _ _).loc Cert.GeluBwdRefIdeal.main_arg0)) (m' ((c.tc : Thread _ _).loc Cert.GeluBwdRefIdeal.main_arg1))
    (m' ((c.tc : Thread _ _).loc Cert.GeluBwdRefIdeal.main_arg2)) (m' ((c.tc : Thread _ _).loc Cert.GeluBwdRefIdeal.main_arg3))
    (m' ((c.tc : Thread _ _).loc Cert.GeluBwdRefIdeal.main_arg4))

theorem ref1 : Cert.GeluBwdRefIdeal.Value.res_main_v43 m' c = E m' c := rfl

theorem ref2 : Cert.GeluBwdRefIdeal.Value.res_main_v39 m' c
    = mulf (broadcastInDim Cert.GeluBwdRefIdeal.S8192x1024 ![0, 1] Cert.GeluBwdRefIdeal.Gen.bcast_S1x1024_S8192x1024_0_1
      (m' ((c.tc : Thread _ _).loc Cert.GeluBwdRefIdeal.main_arg4))) (E m' c) := rfl

theorem ref3 : Cert.GeluBwdRefIdeal.Value.res_main_v42 m' c
    = shapeCast Cert.GeluBwdRefIdeal.S1x1024 (Host.reduceAdd (mulf (E m' c) (extractStridedSlice Cert.GeluBwdRefIdeal.S8192x1024 ![0, 3072]
      (m' ((c.tc : Thread _ _).loc Cert.GeluBwdRefIdeal.main_arg3)) Cert.GeluBwdRefIdeal.Gen.slices_S8192x4096_S8192x1024_0_3072))
      (constant (F := Ideal) Cert.GeluBwdRefIdeal.S_ .f32 0x00000000#32)
      Cert.GeluBwdRefIdeal.Gen.reducesTo_S8192x1024_S1024_d0 Cert.GeluBwdRefIdeal.Gen.h_S_) Cert.GeluBwdRefIdeal.Gen.shapeCasts_S1024_S1x1024 := rfl

end RefOut

theorem skip_ref (D : Vec Ideal Cert.GeluBwdRefIdeal.S1x1024 .f32) (G : FVec Ideal Cert.GeluBwdRefIdeal.S8192x1024 .f32) (x : Fin 8192) (j : Fin 1024) :
    (mulf (broadcastInDim Cert.GeluBwdRefIdeal.S8192x1024 ![0, 1] Cert.GeluBwdRefIdeal.Gen.bcast_S1x1024_S8192x1024_0_1 D) G (ix2 x j) : EReal)
      = (D (ix2 0 j) : EReal) * G (ix2 x j) := by
  pointwise

theorem slice_ref (U : Vec Ideal Cert.GeluBwdRefIdeal.S8192x4096 .f32) (x : Fin 8192) (j : Fin 1024) :
    extractStridedSlice Cert.GeluBwdRefIdeal.S8192x1024 ![0, 3072] U Cert.GeluBwdRefIdeal.Gen.slices_S8192x4096_S8192x1024_0_3072 (ix2 x j)
      = U (ix2 x (part j)) := by
  unfold part
  pointwise

open Idealize.SL.Sem in
/-- The kernel's gradients are the reference's. -/
theorem algebraic : Cert.algebraic_GeluBwdIdeal_GeluBwdRefIdeal (hGeluBwdIdeal := facts) (hGeluBwdRefIdeal := Cert.GeluBwdRefIdeal.Gen.facts) := by
  intro m ρ m' ρ' _ hag
  refine ⟨fun c => full (A0 m c) (A1 m c) (A2 m c) (A3 m c) (A4 m c), fun c => du (A0 m c) (A1 m c) (A2 m c) (A3 m c) (A4 m c),
    fun c => dd (A0 m c) (A1 m c) (A2 m c) (A3 m c) (A4 m c), ?_, ?_⟩
  · exact (θ_run Cert.GeluBwdIdeal.defs _ _).mono (fun r h c => ⟨(h c).1.trans (first_array m c), (h c).2.1.trans (second_array m c),
      (h c).2.2.1.trans (third_array m c), (h c).2.2.2⟩) (Cert.GeluBwdIdeal.Value.run_blocks (F := Ideal) m ρ)
  · refine (θ_run Cert.GeluBwdRefIdeal.defs _ _).mono (fun r h c => ?_) (Cert.GeluBwdRefIdeal.Value.run (F := Ideal) m' ρ')
    have e0 : A0 m c = m' ((c.tc : Thread _ _).loc Cert.GeluBwdRefIdeal.main_arg0) := (V_main_arg0 m c).trans (hag c).1.symm
    have e1 : A1 m c = m' ((c.tc : Thread _ _).loc Cert.GeluBwdRefIdeal.main_arg1) := (V_main_arg1 m c).trans (hag c).2.1.symm
    have e2 : A2 m c = m' ((c.tc : Thread _ _).loc Cert.GeluBwdRefIdeal.main_arg2) := (V_main_arg2 m c).trans (hag c).2.2.1.symm
    have e3 : A3 m c = m' ((c.tc : Thread _ _).loc Cert.GeluBwdRefIdeal.main_arg3) := (V_main_arg3 m c).trans (hag c).2.2.2.1.symm
    have e4 : A4 m c = m' ((c.tc : Thread _ _).loc Cert.GeluBwdRefIdeal.main_arg4) := (V_main_arg4 m c).trans (hag c).2.2.2.2.symm
    have eE : E m' c = full (A0 m c) (A1 m c) (A2 m c) (A3 m c) (A4 m c) := by
      rw [e0, e1, e2, e3, e4]; exact gradR_eq _ _ _ _ _
    refine ⟨(h c).1.trans ?_, (h c).2.1.trans ?_, (h c).2.2.1.trans ?_, (h c).2.2.2⟩ <;> clear h
    · exact (ref1 m' c).trans eE
    · refine (ref2 m' c).trans (funext fun i => ?_)
      obtain ⟨x, j, rfl⟩ : ∃ (x : Fin 8192) (j : Fin 1024), i = ix2 x j := ⟨i 0, i 1, eq_ix2 i⟩
      refine (skip_ref _ _ x j).trans ?_
      rw [eE, ← e4]; rfl
    · refine (ref3 m' c).trans (funext fun i => ?_)
      obtain ⟨j, rfl⟩ : ∃ j : Fin 1024, i = ix2 0 j := ⟨i 1, by rw [eq_ix2 i]; congr 1; exact Fin.eq_zero _⟩
      refine (sum_ref _ _ j).trans (Finset.sum_congr rfl fun x _ => ?_)
      rw [slice_ref, eE, ← e3]; rfl

end Cert.GeluBwdV

end
-- ==== Proof.AdamFf2.lean ====
/-
  The update of the MLP's second weight: the eight devices' gradients are added and the weight's step and its two moments
  follow from the sum, entry by entry.
-/
module

public import proofs.«01_k».proof.Defs
public import proofs.«01_k».proof.Proof.Gen.AdamFf2Ideal.Value
public import proofs.«01_k».proof.Proof.Gen.AdamFf2RefIdeal.Run
public import Idealize.ShloMosaic.Lib.Pipeline.ValueKit
public import Mathlib.Algebra.BigOperators.Fin

@[expose] public section

set_option maxRecDepth 16384

noncomputable section

namespace Cert.AdamFf2V

open Cert.AdamFf2Ideal Cert.AdamFf2Ideal.Gen Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- The gradient at an entry: the sum of the devices'. -/
def grad (S : S8x1024x2048.Idx → EReal) : S1024x2048.Idx → EReal := fun i => ∑ d : Fin 8, S (ix3 d (i 0) (i 1))

/-- A constant of the update. -/
abbrev cst (b : BitVec 32) : Ideal .f32 := Scalar.ofBits (F := Ideal) .f32 b

/-- An entry of the first moment, of the second, and of the step. -/
def moment1 (m g : Ideal .f32) : Ideal .f32 := FloatOps.addf (FloatOps.mulf (cst 0x3F666666#32) m) (FloatOps.mulf (cst 0x3DCCCCCD#32) g)
def moment2 (v g : Ideal .f32) : Ideal .f32 := FloatOps.addf (FloatOps.mulf (cst 0x3F7FBE77#32) v) (FloatOps.mulf (cst 0x3A83126F#32) (FloatOps.mulf g g))
def delta (w m' v' : Ideal .f32) : Ideal .f32 :=
  FloatOps.mulf (cst 0xBA83126F#32) (FloatOps.addf (FloatOps.divf (FloatOps.divf m' (cst 0x3F26BD02#32))
    (FloatOps.addf (FloatOps.sqrt (FloatOps.divf v' (cst 0x3C231ACC#32))) (cst 0x322BCC77#32))) (FloatOps.mulf (cst 0x3C23D70A#32) w))

theorem pay2_at (s : Vec Ideal S8x256x2048 .bf16) (r : Fin 256) (j : Fin 2048) :
    (k0_pay2 s (ix2 r j) : EReal) = ∑ d : Fin 8, (s (ix3 d r j) : EReal) := by
  rw [Fin.sum_univ_eight]
  unfold k0_pay2
  pointwise

theorem pay3_at (x : Vec Ideal S256x2048 .f32) (s : Vec Ideal S8x256x2048 .bf16) (i : S256x2048.Idx) :
    k0_pay3 x s i = moment1 (x i) (k0_pay2 s i) := rfl

theorem pay4_at (x : Vec Ideal S256x2048 .f32) (s : Vec Ideal S8x256x2048 .bf16) (i : S256x2048.Idx) :
    k0_pay4 x s i = moment2 (x i) (k0_pay2 s i) := rfl

theorem pay1_at (w p q : Vec Ideal S256x2048 .f32) (i : S256x2048.Idx) : k0_pay1 w p q i = delta (w i) (p i) (q i) := rfl

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

variable (m : (ℓ : Loc nD τ sig) → Buf (Elt Ideal) ℓ) (c : Dev nD)

/-- The weight, its two moments, and the devices' gradients. -/
def W : S1024x2048.Idx → EReal := V m c main_arg0
def M1 : S1024x2048.Idx → EReal := V m c main_arg1
def M2 : S1024x2048.Idx → EReal := V m c main_arg2
def G : S8x1024x2048.Idx → EReal := V m c main_arg3

section Reads
variable (t : Fin cfg0.N) (r : Fin 256) (j : Fin 2048) (R : Fin 1024) (hR : t.val * 256 + r.val = R.val)
include hR

theorem w_at : iblk m c 0 t (ix2 r j) = W m c (ix2 R j) := by
  unfold W
  blk_ext [iblk, idx0 t]
  all_goals omega

theorem m1_at : iblk m c 1 t (ix2 r j) = M1 m c (ix2 R j) := by
  unfold M1
  blk_ext [iblk, idx1 t]
  all_goals omega

theorem m2_at : iblk m c 2 t (ix2 r j) = M2 m c (ix2 R j) := by
  unfold M2
  blk_ext [iblk, idx2 t]
  all_goals omega

theorem g_at (d : Fin 8) : iblk m c 3 t (ix3 d r j) = G m c (ix3 d R j) := by
  unfold G
  blk_ext [iblk, idx3 t]
  all_goals omega

theorem grad_at : (k0_pay2 (iblk m c 3 t) (ix2 r j) : EReal) = grad (G m c) (ix2 R j) :=
  (pay2_at _ r j).trans (Finset.sum_congr rfl fun d _ => g_at m c t r j R hR d)

end Reads

/-- The four results. -/
def newM (A : S1024x2048.Idx → EReal) (S : S8x1024x2048.Idx → EReal) : S1024x2048.Idx → EReal := fun i => moment1 (A i) (grad S i)
def newV (B : S1024x2048.Idx → EReal) (S : S8x1024x2048.Idx → EReal) : S1024x2048.Idx → EReal := fun i => moment2 (B i) (grad S i)
def step (w A B : S1024x2048.Idx → EReal) (S : S8x1024x2048.Idx → EReal) : S1024x2048.Idx → EReal := fun i => delta (w i) (newM A S i) (newV B S i)

theorem newM_at (t : Fin cfg0.N) (r : Fin 256) (j : Fin 2048) (R : Fin 1024) (hR : t.val * 256 + r.val = R.val) :
    (k0_pay3 (iblk m c 1 t) (iblk m c 3 t) (ix2 r j) : EReal) = newM (M1 m c) (G m c) (ix2 R j) :=
  (pay3_at _ _ _).trans (congrArg₂ moment1 (m1_at m c t r j R hR) (grad_at m c t r j R hR))

theorem newV_at (t : Fin cfg0.N) (r : Fin 256) (j : Fin 2048) (R : Fin 1024) (hR : t.val * 256 + r.val = R.val) :
    (k0_pay4 (iblk m c 2 t) (iblk m c 3 t) (ix2 r j) : EReal) = newV (M2 m c) (G m c) (ix2 R j) :=
  (pay4_at _ _ _).trans (congrArg₂ moment2 (m2_at m c t r j R hR) (grad_at m c t r j R hR))

theorem step_at (t : Fin cfg0.N) (r : Fin 256) (j : Fin 2048) (R : Fin 1024) (hR : t.val * 256 + r.val = R.val) :
    (k0_pay1 (iblk m c 0 t) (k0_pay3 (iblk m c 1 t) (iblk m c 3 t)) (k0_pay4 (iblk m c 2 t) (iblk m c 3 t)) (ix2 r j) : EReal)
    = step (W m c) (M1 m c) (M2 m c) (G m c) (ix2 R j) := by
  rw [pay1_at]
  show delta _ _ _ = delta _ _ _
  rw [w_at m c t r j R hR, newM_at m c t r j R hR, newV_at m c t r j R hR]

section Outs
variable (x y z : Vec Ideal S256x2048 .f32) (s : Vec Ideal S8x256x2048 .bf16)

theorem out4 : out0_4 x y z s = k0_pay2 s := by frame_out
theorem out5 : out0_5 x y z s = k0_pay1 x (k0_pay3 y s) (k0_pay4 z s) := by
  frame_out
  unfold k0_pay5 k0_pay6
  simp only [View.ld_unit_zero (S := S8x256x2048) hz3, View.ld_unit_zero (S := S256x2048) hz]
theorem out6 : out0_6 x y z s = k0_pay3 y s := by
  frame_out
  unfold k0_pay5
  simp only [View.ld_unit_zero (S := S8x256x2048) hz3, View.ld_unit_zero (S := S256x2048) hz]
theorem out7 : out0_7 x y z s = k0_pay4 z s := by
  frame_out
  unfold k0_pay6
  simp only [View.ld_unit_zero (S := S8x256x2048) hz3, View.ld_unit_zero (S := S256x2048) hz]

end Outs

theorem grad_array : (dats m 0 c).arrAt 4 cfg0.N = grad (G m c) := by
  refine (dats m 0 c).arrAt_eq_of_covers 4 _ (by decide +kernel) fun t hf y => ?_
  have hN : t.val < 4 := lt_of_lt_of_eq t.isLt N_0
  blk_simp
  rw [after0_4, out4]
  obtain ⟨r, j, rfl⟩ : ∃ (r : Fin 256) (j : Fin 2048), y = ix2 r j := ⟨y 0, y 1, eq_ix2 y⟩
  refine (grad_at m c t r j ⟨t.val * 256 + r.val, by omega⟩ rfl).trans (congrArg (grad (G m c)) ?_)
  blk_ext [idx4 t]
  all_goals omega

theorem step_array : (dats m 0 c).arrAt 5 cfg0.N = step (W m c) (M1 m c) (M2 m c) (G m c) := by
  refine (dats m 0 c).arrAt_eq_of_covers 5 _ (by decide +kernel) fun t hf y => ?_
  have hN : t.val < 4 := lt_of_lt_of_eq t.isLt N_0
  blk_simp
  rw [after0_5, out5]
  obtain ⟨r, j, rfl⟩ : ∃ (r : Fin 256) (j : Fin 2048), y = ix2 r j := ⟨y 0, y 1, eq_ix2 y⟩
  refine (step_at m c t r j ⟨t.val * 256 + r.val, by omega⟩ rfl).trans (congrArg (step (W m c) (M1 m c) (M2 m c) (G m c)) ?_)
  blk_ext [idx5 t]
  all_goals omega

theorem newM_array : (dats m 0 c).arrAt 6 cfg0.N = newM (M1 m c) (G m c) := by
  refine (dats m 0 c).arrAt_eq_of_covers 6 _ (by decide +kernel) fun t hf y => ?_
  have hN : t.val < 4 := lt_of_lt_of_eq t.isLt N_0
  blk_simp
  rw [after0_6, out6]
  obtain ⟨r, j, rfl⟩ : ∃ (r : Fin 256) (j : Fin 2048), y = ix2 r j := ⟨y 0, y 1, eq_ix2 y⟩
  refine (newM_at m c t r j ⟨t.val * 256 + r.val, by omega⟩ rfl).trans (congrArg (newM (M1 m c) (G m c)) ?_)
  blk_ext [idx6 t]
  all_goals omega

theorem newV_array : (dats m 0 c).arrAt 7 cfg0.N = newV (M2 m c) (G m c) := by
  refine (dats m 0 c).arrAt_eq_of_covers 7 _ (by decide +kernel) fun t hf y => ?_
  have hN : t.val < 4 := lt_of_lt_of_eq t.isLt N_0
  blk_simp
  rw [after0_7, out7]
  obtain ⟨r, j, rfl⟩ : ∃ (r : Fin 256) (j : Fin 2048), y = ix2 r j := ⟨y 0, y 1, eq_ix2 y⟩
  refine (newV_at m c t r j ⟨t.val * 256 + r.val, by omega⟩ rfl).trans (congrArg (newV (M2 m c) (G m c)) ?_)
  blk_ext [idx7 t]
  all_goals omega

/-- The reference's sum over the devices. -/
theorem grad_ref (S : FVec Ideal Cert.AdamFf2RefIdeal.S8x1024x2048 .bf16) :
    Host.reduceAdd (extf .f32 S Cert.AdamFf2RefIdeal.Gen.bitsLt_bf16_f32) (constant Cert.AdamFf2RefIdeal.S_ .f32 0x00000000#32)
      Cert.AdamFf2RefIdeal.Gen.reducesTo_S8x1024x2048_S1024x2048_d0 Cert.AdamFf2RefIdeal.Gen.h_S_ = grad S := by
  funext i
  obtain ⟨r, j, rfl⟩ : ∃ (r : Fin 1024) (j : Fin 2048), i = ix2 r j := ⟨i 0, i 1, eq_ix2 i⟩
  unfold grad
  pointwise

open Idealize.SL.Sem in
/-- The kernel's update is the reference's. -/
theorem algebraic : Cert.algebraic_AdamFf2Ideal_AdamFf2RefIdeal (hAdamFf2Ideal := facts) (hAdamFf2RefIdeal := Cert.AdamFf2RefIdeal.Gen.facts) := by
  intro m ρ m' ρ' _ hag
  refine ⟨fun c => grad (G m c), fun c => step (W m c) (M1 m c) (M2 m c) (G m c), fun c => newM (M1 m c) (G m c), fun c => newV (M2 m c) (G m c), ?_, ?_⟩
  · exact (θ_run Cert.AdamFf2Ideal.defs _ _).mono (fun r h c => ⟨(h c).1.trans (grad_array m c), (h c).2.1.trans (step_array m c),
      (h c).2.2.1.trans (newM_array m c), (h c).2.2.2.1.trans (newV_array m c), (h c).2.2.2.2⟩) (Cert.AdamFf2Ideal.Value.run_blocks (F := Ideal) m ρ)
  · refine (θ_run Cert.AdamFf2RefIdeal.defs _ _).mono (fun r h c => ?_) (Cert.AdamFf2RefIdeal.Value.run (F := Ideal) m' ρ')
    have e0 : W m c = m' ((c.tc : Thread _ _).loc Cert.AdamFf2RefIdeal.main_arg0) := (V_main_arg0 m c).trans (hag c).1.symm
    have e1 : M1 m c = m' ((c.tc : Thread _ _).loc Cert.AdamFf2RefIdeal.main_arg1) := (V_main_arg1 m c).trans (hag c).2.1.symm
    have e2 : M2 m c = m' ((c.tc : Thread _ _).loc Cert.AdamFf2RefIdeal.main_arg2) := (V_main_arg2 m c).trans (hag c).2.2.1.symm
    have e3 : G m c = m' ((c.tc : Thread _ _).loc Cert.AdamFf2RefIdeal.main_arg3) := (V_main_arg3 m c).trans (hag c).2.2.2.symm
    have eg := grad_ref (m' ((c.tc : Thread _ _).loc Cert.AdamFf2RefIdeal.main_arg3))
    refine ⟨(h c).1.trans ?_, (h c).2.1.trans ?_, (h c).2.2.1.trans ?_, (h c).2.2.2.1.trans ?_, (h c).2.2.2.2⟩ <;> clear h
    · rw [eg]; exact congrArg grad e3.symm
    · rw [eg]; show _ = step (W m c) (M1 m c) (M2 m c) (G m c); rw [e0, e1, e2, e3]; rfl
    · rw [eg]; show _ = newM (M1 m c) (G m c); rw [e1, e3]; rfl
    · rw [eg]; show _ = newV (M2 m c) (G m c); rw [e2, e3]; rfl

end Cert.AdamFf2V

end
-- ==== Proof.lean ====
/-
  The certificate: the frames of the kernel, its idealized form and the reference; the one literal the idealized kernel
  names; on finite arguments, the equality of the kernel's three gradients with the reference's; and the same claims of
  the MLP's and the projections' products, of the gradients of the norms and of the mixer's gelu, and of one weight's update.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Act
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.Ff2
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Ff2Dw
public import proofs.«01_k».proof.Proof.Gen.Ff2Dw.Frame
public import proofs.«01_k».proof.Proof.Gen.Ff2DwIdeal
public import proofs.«01_k».proof.Proof.Gen.Ff2DwIdeal.Skeleton
public import proofs.«01_k».proof.Proof.Gen.Ff2DwIdeal.Launch
public import proofs.«01_k».proof.Proof.Gen.Ff2DwIdeal.Points
public import proofs.«01_k».proof.Proof.Gen.Ff2DwIdeal.Frame
public import proofs.«01_k».proof.Proof.Gen.Ff2DwIdeal.Value
public import proofs.«01_k».proof.Proof.Gen.Ff2DwRefIdeal
public import proofs.«01_k».proof.Proof.Gen.Ff2DwRefIdeal.Run
public import proofs.«01_k».proof.Proof.Gen.Ff1Dx
public import proofs.«01_k».proof.Proof.Gen.Ff1Dx.Frame
public import proofs.«01_k».proof.Proof.Gen.Ff1DxIdeal
public import proofs.«01_k».proof.Proof.Gen.Ff1DxIdeal.Skeleton
public import proofs.«01_k».proof.Proof.Gen.Ff1DxIdeal.Launch
public import proofs.«01_k».proof.Proof.Gen.Ff1DxIdeal.Points
public import proofs.«01_k».proof.Proof.Gen.Ff1DxIdeal.Frame
public import proofs.«01_k».proof.Proof.Gen.Ff1DxIdeal.Value
public import proofs.«01_k».proof.Proof.Gen.Ff1DxRefIdeal
public import proofs.«01_k».proof.Proof.Gen.Ff1DxRefIdeal.Run
public import proofs.«01_k».proof.Proof.Gen.Ff1Dw
public import proofs.«01_k».proof.Proof.Gen.Ff1Dw.Frame
public import proofs.«01_k».proof.Proof.Gen.Ff1DwIdeal
public import proofs.«01_k».proof.Proof.Gen.Ff1DwIdeal.Skeleton
public import proofs.«01_k».proof.Proof.Gen.Ff1DwIdeal.Launch
public import proofs.«01_k».proof.Proof.Gen.Ff1DwIdeal.Points
public import proofs.«01_k».proof.Proof.Gen.Ff1DwIdeal.Frame
public import proofs.«01_k».proof.Proof.Gen.Ff1DwIdeal.Value
public import proofs.«01_k».proof.Proof.Gen.Ff1DwRefIdeal
public import proofs.«01_k».proof.Proof.Gen.Ff1DwRefIdeal.Run
public import proofs.«01_k».proof.Proof.Gen.Norm1Bwd
public import proofs.«01_k».proof.Proof.Gen.Norm1Bwd.Frame
public import proofs.«01_k».proof.Proof.Gen.Norm1BwdIdeal
public import proofs.«01_k».proof.Proof.Gen.Norm1BwdIdeal.Skeleton
public import proofs.«01_k».proof.Proof.Gen.Norm1BwdIdeal.Launch
public import proofs.«01_k».proof.Proof.Gen.Norm1BwdIdeal.Points
public import proofs.«01_k».proof.Proof.Gen.Norm1BwdIdeal.Frame
public import proofs.«01_k».proof.Proof.Gen.Norm1BwdIdeal.Value
public import proofs.«01_k».proof.Proof.Gen.Norm1BwdRefIdeal
public import proofs.«01_k».proof.Proof.Gen.Norm1BwdRefIdeal.Run
public import proofs.«01_k».proof.Proof.Gen.Norm2Bwd
public import proofs.«01_k».proof.Proof.Gen.Norm2Bwd.Frame
public import proofs.«01_k».proof.Proof.Gen.Norm2BwdIdeal
public import proofs.«01_k».proof.Proof.Gen.Norm2BwdIdeal.Skeleton
public import proofs.«01_k».proof.Proof.Gen.Norm2BwdIdeal.Launch
public import proofs.«01_k».proof.Proof.Gen.Norm2BwdIdeal.Points
public import proofs.«01_k».proof.Proof.Gen.Norm2BwdIdeal.Frame
public import proofs.«01_k».proof.Proof.Gen.Norm2BwdIdeal.Value
public import proofs.«01_k».proof.Proof.Gen.Norm2BwdRefIdeal
public import proofs.«01_k».proof.Proof.Gen.Norm2BwdRefIdeal.Run
public import proofs.«01_k».proof.Proof.Gen.GeluBwd
public import proofs.«01_k».proof.Proof.Gen.GeluBwd.Frame
public import proofs.«01_k».proof.Proof.Gen.GeluBwdIdeal
public import proofs.«01_k».proof.Proof.Gen.GeluBwdIdeal.Skeleton
public import proofs.«01_k».proof.Proof.Gen.GeluBwdIdeal.Launch
public import proofs.«01_k».proof.Proof.Gen.GeluBwdIdeal.Points
public import proofs.«01_k».proof.Proof.Gen.GeluBwdIdeal.Frame
public import proofs.«01_k».proof.Proof.Gen.GeluBwdIdeal.Value
public import proofs.«01_k».proof.Proof.Gen.GeluBwdRefIdeal
public import proofs.«01_k».proof.Proof.Gen.GeluBwdRefIdeal.Run
public import proofs.«01_k».proof.Proof.Gen.AdamFf2
public import proofs.«01_k».proof.Proof.Gen.AdamFf2.Frame
public import proofs.«01_k».proof.Proof.Gen.AdamFf2Ideal
public import proofs.«01_k».proof.Proof.Gen.AdamFf2Ideal.Skeleton
public import proofs.«01_k».proof.Proof.Gen.AdamFf2Ideal.Launch
public import proofs.«01_k».proof.Proof.Gen.AdamFf2Ideal.Points
public import proofs.«01_k».proof.Proof.Gen.AdamFf2Ideal.Frame
public import proofs.«01_k».proof.Proof.Gen.AdamFf2Ideal.Value
public import proofs.«01_k».proof.Proof.Gen.AdamFf2RefIdeal
public import proofs.«01_k».proof.Proof.Gen.AdamFf2RefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxRefIdeal
public import proofs.«01_k».proof.Proof.Gen.ProjDxRefIdeal.Run
public import proofs.«01_k».proof.Proof.Gen.OutDw
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.GluDw
public import proofs.«01_k».proof.Proof.Gen.GluDw.Frame
public import proofs.«01_k».proof.Proof.Gen.GluDwIdeal
public import proofs.«01_k».proof.Proof.Gen.GluDwIdeal.Skeleton
public import proofs.«01_k».proof.Proof.Gen.GluDwIdeal.Launch
public import proofs.«01_k».proof.Proof.Gen.GluDwIdeal.Points
public import proofs.«01_k».proof.Proof.Gen.GluDwIdeal.Frame
public import proofs.«01_k».proof.Proof.Gen.GluDwIdeal.Value
public import proofs.«01_k».proof.Proof.Gen.GluDwRefIdeal
public import proofs.«01_k».proof.Proof.Gen.GluDwRefIdeal.Run
public import proofs.«01_k».proof.Proof.Gen.InDw
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDx
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Equation
public import proofs.«01_k».proof.Proof.Finite
public import proofs.«01_k».proof.Proof.Act
public import proofs.«01_k».proof.Proof.Ff2
public import proofs.«01_k».proof.Proof.Ff2Dw
public import proofs.«01_k».proof.Proof.Ff1Dx
public import proofs.«01_k».proof.Proof.Ff1Dw
public import proofs.«01_k».proof.Proof.Proj
public import proofs.«01_k».proof.Proof.ProjDx
public import proofs.«01_k».proof.Proof.OutDw
public import proofs.«01_k».proof.Proof.GluDw
public import proofs.«01_k».proof.Proof.InDw
public import proofs.«01_k».proof.Proof.InDx
public import proofs.«01_k».proof.Proof.Norm1Bwd
public import proofs.«01_k».proof.Proof.Norm2Bwd
public import proofs.«01_k».proof.Proof.GeluBwd
public import proofs.«01_k».proof.Proof.AdamFf2
public import Idealize.ShloMosaic.Adequacy
public import Idealize.ShloMosaic.Init

@[expose] public section

noncomputable section

namespace Cert.Proof

open Idealize.ShloMosaic Idealize.SL.Sem Cert.Kernel

/-- The reference is a straight line of host operations and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one literal the idealized kernel names: the mask's stands for minus infinity. -/
theorem preserves : Cert.preserves_Kernel_KernelIdeal := IdealRules.named_const.statement _ _ _ _ _ rfl

open Cert.Equation in
/-- On finite arguments the kernel and the reference end with the same three gradients. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m ρ m' ρ' hpre hag
  have key (c : Dev Cert.KernelIdeal.nD) :
      (Cert.KernelIdeal.Gen.dats m 0 c).arrAt 16 Cert.KernelIdeal.cfg0.N = dqR (StableHlo.launchContents m' c)
      ∧ (Cert.KernelIdeal.Gen.dats m 0 c).arrAt 17 Cert.KernelIdeal.cfg0.N = dkR (StableHlo.launchContents m' c)
      ∧ (Cert.KernelIdeal.Gen.dats m 0 c).arrAt 18 Cert.KernelIdeal.cfg0.N = dvR (StableHlo.launchContents m' c) := by
    obtain ⟨g0, g1, g2, g3, g4, g5, g6, g7, g8, g9, g10⟩ := hag c
    obtain ⟨q0, q1, q2, q3, q4, q5, q6, q7⟩ := hpre c
    haveI := Cert.Finite.facts
    obtain ⟨D, H⟩ := Cert.Finite.holds _ _ _ _ _ _ _ _ _ _ _ (StableHlo.launchContents m' c) g0 g1 g2 g3 g4 g5 g6 g7 q0 q1 q2 q3 q4 q5 q6 q7
    have A : Cert.HostK.Args (F := Ideal) (fun b => m (c, b)) (StableHlo.launchContents m' c) :=
      ⟨g0.symm, g1.symm, g2.symm, g3.symm, g4.symm, g5.symm, g6.symm, g7.symm⟩
    exact ⟨dq_eq H A g8.symm, dk_eq H A g9.symm, dv_eq H A g10.symm⟩
  refine ⟨fun c => dqR (StableHlo.launchContents m' c), fun c => dkR (StableHlo.launchContents m' c), fun c => dvR (StableHlo.launchContents m' c), ?_, ?_⟩
  · refine (θ_run Cert.KernelIdeal.defs _ _).mono (fun r h c => ?_) (Cert.KernelIdeal.Value.run_blocks (F := Ideal) m ρ)
    obtain ⟨h0, h1, h2, hk⟩ := h c
    obtain ⟨k0, k1, k2⟩ := key c
    exact ⟨h0.trans k0, h1.trans k1, h2.trans k2, hk⟩
  · exact Cert.ReferenceIdeal.Value.run (F := Ideal) m' ρ'

theorem frame_ActRef : Cert.quiescent_ActRefIdeal (hActRefIdeal := Cert.ActRefIdeal.Gen.facts) := fun m ρ _ =>
  (θ_run Cert.ActRefIdeal.defs _ _).mono (fun r h => ⟨fun c => (h c).2.2, sem_eq_zero_of_no_sems (by decide) r.2⟩) (Cert.ActRefIdeal.Value.run (F := Ideal) m ρ)

theorem frame_Ff2Ref : Cert.quiescent_Ff2RefIdeal (hFf2RefIdeal := Cert.Ff2RefIdeal.Gen.facts) := fun m ρ _ =>
  (θ_run Cert.Ff2RefIdeal.defs _ _).mono (fun r h => ⟨fun c => (h c).2, sem_eq_zero_of_no_sems (by decide) r.2⟩) (Cert.Ff2RefIdeal.Value.run (F := Ideal) m ρ)

theorem frame_Ff2DwRef : Cert.quiescent_Ff2DwRefIdeal (hFf2DwRefIdeal := Cert.Ff2DwRefIdeal.Gen.facts) := fun m ρ _ =>
  (θ_run Cert.Ff2DwRefIdeal.defs _ _).mono (fun r h => ⟨fun c => (h c).2, sem_eq_zero_of_no_sems (by decide) r.2⟩) (Cert.Ff2DwRefIdeal.Value.run (F := Ideal) m ρ)

theorem frame_Ff1DxRef : Cert.quiescent_Ff1DxRefIdeal (hFf1DxRefIdeal := Cert.Ff1DxRefIdeal.Gen.facts) := fun m ρ _ =>
  (θ_run Cert.Ff1DxRefIdeal.defs _ _).mono (fun r h => ⟨fun c => (h c).2, sem_eq_zero_of_no_sems (by decide) r.2⟩) (Cert.Ff1DxRefIdeal.Value.run (F := Ideal) m ρ)

theorem frame_Ff1DwRef : Cert.quiescent_Ff1DwRefIdeal (hFf1DwRefIdeal := Cert.Ff1DwRefIdeal.Gen.facts) := fun m ρ _ =>
  (θ_run Cert.Ff1DwRefIdeal.defs _ _).mono (fun r h => ⟨fun c => (h c).2, sem_eq_zero_of_no_sems (by decide) r.2⟩) (Cert.Ff1DwRefIdeal.Value.run (F := Ideal) m ρ)

theorem frame_ProjRef : Cert.quiescent_ProjRefIdeal (hProjRefIdeal := Cert.ProjRefIdeal.Gen.facts) := fun m ρ _ =>
  (θ_run Cert.ProjRefIdeal.defs _ _).mono (fun r h => ⟨fun c => (h c).2.2.2, sem_eq_zero_of_no_sems (by decide) r.2⟩) (Cert.ProjRefIdeal.Value.run (F := Ideal) m ρ)

theorem frame_ProjDxRef : Cert.quiescent_ProjDxRefIdeal (hProjDxRefIdeal := Cert.ProjDxRefIdeal.Gen.facts) := fun m ρ _ =>
  (θ_run Cert.ProjDxRefIdeal.defs _ _).mono (fun r h => ⟨fun c => (h c).2.2, sem_eq_zero_of_no_sems (by decide) r.2⟩) (Cert.ProjDxRefIdeal.Value.run (F := Ideal) m ρ)

theorem frame_OutDwRef : Cert.quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩) (Cert.OutDwRefIdeal.Value.run (F := Ideal) m ρ)

theorem frame_GluDwRef : Cert.quiescent_GluDwRefIdeal (hGluDwRefIdeal := Cert.GluDwRefIdeal.Gen.facts) := fun m ρ _ =>
  (θ_run Cert.GluDwRefIdeal.defs _ _).mono (fun r h => ⟨fun c => (h c).2, sem_eq_zero_of_no_sems (by decide) r.2⟩) (Cert.GluDwRefIdeal.Value.run (F := Ideal) m ρ)

theorem frame_InDwRef : Cert.quiescent_InDwRefIdeal (hInDwRefIdeal := Cert.InDwRefIdeal.Gen.facts) := fun m ρ _ =>
  (θ_run Cert.InDwRefIdeal.defs _ _).mono (fun r h => ⟨fun c => (h c).2, sem_eq_zero_of_no_sems (by decide) r.2⟩) (Cert.InDwRefIdeal.Value.run (F := Ideal) m ρ)

theorem frame_InDxRef : Cert.quiescent_InDxRefIdeal (hInDxRefIdeal := Cert.InDxRefIdeal.Gen.facts) := fun m ρ _ =>
  (θ_run Cert.InDxRefIdeal.defs _ _).mono (fun r h => ⟨fun c => (h c).2, sem_eq_zero_of_no_sems (by decide) r.2⟩) (Cert.InDxRefIdeal.Value.run (F := Ideal) m ρ)

theorem frame_Norm1BwdRef : Cert.quiescent_Norm1BwdRefIdeal (hNorm1BwdRefIdeal := Cert.Norm1BwdRefIdeal.Gen.facts) := fun m ρ _ =>
  (θ_run Cert.Norm1BwdRefIdeal.defs _ _).mono (fun r h => ⟨fun c => (h c).2.2.2.2, sem_eq_zero_of_no_sems (by decide) r.2⟩) (Cert.Norm1BwdRefIdeal.Value.run (F := Ideal) m ρ)

theorem frame_Norm2BwdRef : Cert.quiescent_Norm2BwdRefIdeal (hNorm2BwdRefIdeal := Cert.Norm2BwdRefIdeal.Gen.facts) := fun m ρ _ =>
  (θ_run Cert.Norm2BwdRefIdeal.defs _ _).mono (fun r h => ⟨fun c => (h c).2.2.2.2.2.2, sem_eq_zero_of_no_sems (by decide) r.2⟩) (Cert.Norm2BwdRefIdeal.Value.run (F := Ideal) m ρ)

theorem frame_GeluBwdRef : Cert.quiescent_GeluBwdRefIdeal (hGeluBwdRefIdeal := Cert.GeluBwdRefIdeal.Gen.facts) := fun m ρ _ =>
  (θ_run Cert.GeluBwdRefIdeal.defs _ _).mono (fun r h => ⟨fun c => (h c).2.2.2, sem_eq_zero_of_no_sems (by decide) r.2⟩) (Cert.GeluBwdRefIdeal.Value.run (F := Ideal) m ρ)

theorem frame_AdamFf2Ref : Cert.quiescent_AdamFf2RefIdeal (hAdamFf2RefIdeal := Cert.AdamFf2RefIdeal.Gen.facts) := fun m ρ _ =>
  (θ_run Cert.AdamFf2RefIdeal.defs _ _).mono (fun r h => ⟨fun c => (h c).2.2.2.2, sem_eq_zero_of_no_sems (by decide) r.2⟩) (Cert.AdamFf2RefIdeal.Value.run (F := Ideal) m ρ)

theorem claim : Cert.Claim := ⟨Cert.Kernel.Gen.facts, Cert.KernelIdeal.Gen.facts, Cert.ReferenceIdeal.Gen.facts,
  Cert.Act.Gen.facts, Cert.ActIdeal.Gen.facts, Cert.ActRefIdeal.Gen.facts, Cert.Ff2.Gen.facts, Cert.Ff2Ideal.Gen.facts, Cert.Ff2RefIdeal.Gen.facts, Cert.Ff2Dw.Gen.facts, Cert.Ff2DwIdeal.Gen.facts, Cert.Ff2DwRefIdeal.Gen.facts, Cert.Ff1Dx.Gen.facts, Cert.Ff1DxIdeal.Gen.facts, Cert.Ff1DxRefIdeal.Gen.facts, Cert.Ff1Dw.Gen.facts, Cert.Ff1DwIdeal.Gen.facts, Cert.Ff1DwRefIdeal.Gen.facts, Cert.Proj.Gen.facts, Cert.ProjIdeal.Gen.facts, Cert.ProjRefIdeal.Gen.facts, Cert.ProjDx.Gen.facts, Cert.ProjDxIdeal.Gen.facts, Cert.ProjDxRefIdeal.Gen.facts, Cert.OutDw.Gen.facts, Cert.OutDwIdeal.Gen.facts, Cert.OutDwRefIdeal.Gen.facts, Cert.GluDw.Gen.facts, Cert.GluDwIdeal.Gen.facts, Cert.GluDwRefIdeal.Gen.facts, Cert.InDw.Gen.facts, Cert.InDwIdeal.Gen.facts, Cert.InDwRefIdeal.Gen.facts, Cert.InDx.Gen.facts, Cert.InDxIdeal.Gen.facts, Cert.InDxRefIdeal.Gen.facts, Cert.Norm1Bwd.Gen.facts, Cert.Norm1BwdIdeal.Gen.facts, Cert.Norm1BwdRefIdeal.Gen.facts, Cert.Norm2Bwd.Gen.facts, Cert.Norm2BwdIdeal.Gen.facts, Cert.Norm2BwdRefIdeal.Gen.facts, Cert.GeluBwd.Gen.facts, Cert.GeluBwdIdeal.Gen.facts, Cert.GeluBwdRefIdeal.Gen.facts, Cert.AdamFf2.Gen.facts, Cert.AdamFf2Ideal.Gen.facts, Cert.AdamFf2RefIdeal.Gen.facts, Cert.Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Act.Gen.frame m ρ, fun m ρ _ => Cert.ActIdeal.Gen.frame m ρ, frame_ActRef,
  fun m ρ _ => Cert.Ff2.Gen.frame m ρ, fun m ρ _ => Cert.Ff2Ideal.Gen.frame m ρ, frame_Ff2Ref,
  fun m ρ _ => Cert.Ff2Dw.Gen.frame m ρ, fun m ρ _ => Cert.Ff2DwIdeal.Gen.frame m ρ, frame_Ff2DwRef,
  fun m ρ _ => Cert.Ff1Dx.Gen.frame m ρ, fun m ρ _ => Cert.Ff1DxIdeal.Gen.frame m ρ, frame_Ff1DxRef,
  fun m ρ _ => Cert.Ff1Dw.Gen.frame m ρ, fun m ρ _ => Cert.Ff1DwIdeal.Gen.frame m ρ, frame_Ff1DwRef,
  fun m ρ _ => Cert.Proj.Gen.frame m ρ, fun m ρ _ => Cert.ProjIdeal.Gen.frame m ρ, frame_ProjRef,
  fun m ρ _ => Cert.ProjDx.Gen.frame m ρ, fun m ρ _ => Cert.ProjDxIdeal.Gen.frame m ρ, frame_ProjDxRef,
  fun m ρ _ => Cert.OutDw.Gen.frame m ρ, fun m ρ _ => Cert.OutDwIdeal.Gen.frame m ρ, frame_OutDwRef,
  fun m ρ _ => Cert.GluDw.Gen.frame m ρ, fun m ρ _ => Cert.GluDwIdeal.Gen.frame m ρ, frame_GluDwRef,
  fun m ρ _ => Cert.InDw.Gen.frame m ρ, fun m ρ _ => Cert.InDwIdeal.Gen.frame m ρ, frame_InDwRef,
  fun m ρ _ => Cert.InDx.Gen.frame m ρ, fun m ρ _ => Cert.InDxIdeal.Gen.frame m ρ, frame_InDxRef,
  fun m ρ _ => Cert.Norm1Bwd.Gen.frame m ρ, fun m ρ _ => Cert.Norm1BwdIdeal.Gen.frame m ρ, frame_Norm1BwdRef,
  fun m ρ _ => Cert.Norm2Bwd.Gen.frame m ρ, fun m ρ _ => Cert.Norm2BwdIdeal.Gen.frame m ρ, frame_Norm2BwdRef,
  fun m ρ _ => Cert.GeluBwd.Gen.frame m ρ, fun m ρ _ => Cert.GeluBwdIdeal.Gen.frame m ρ, frame_GeluBwdRef,
  fun m ρ _ => Cert.AdamFf2.Gen.frame m ρ, fun m ρ _ => Cert.AdamFf2Ideal.Gen.frame m ρ, frame_AdamFf2Ref,
  preserves, algebraic,
  trivial, Cert.ActV.algebraic, trivial, Cert.Ff2V.algebraic, trivial, Cert.Ff2DwV.algebraic, trivial, Cert.Ff1DxV.algebraic, trivial, Cert.Ff1DwV.algebraic,
  trivial, Cert.ProjV.algebraic, trivial, Cert.ProjDxV.algebraic, trivial, Cert.OutDwV.algebraic, trivial, Cert.GluDwV.algebraic, trivial, Cert.InDwV.algebraic, trivial, Cert.InDxV.algebraic,
  trivial, Cert.Norm1BwdV.algebraic, trivial, Cert.Norm2BwdV.algebraic, trivial, Cert.GeluBwdV.algebraic, trivial, Cert.AdamFf2V.algebraic⟩

end Cert.Proof

end
